-- ==== Defs.lean ====
def Pre_WinMlp (m : (ℓ : Loc Cert.WinMlp.nD Cert.WinMlp.τ Cert.WinMlp.sig) → Buf (Elt Bits) ℓ) : Prop :=
  True

def Pre_WinMlpIdeal (m : (ℓ : Loc Cert.WinMlpIdeal.nD Cert.WinMlpIdeal.τ Cert.WinMlpIdeal.sig) → Buf (Elt Ideal) ℓ) : Prop :=
  True

def Pre_WinMlpRefIdeal (m : (ℓ : Loc Cert.WinMlpRefIdeal.nD Cert.WinMlpRefIdeal.τ Cert.WinMlpRefIdeal.sig) → Buf (Elt Ideal) ℓ) : Prop :=
  True

def Pre_GlbMlp (m : (ℓ : Loc Cert.GlbMlp.nD Cert.GlbMlp.τ Cert.GlbMlp.sig) → Buf (Elt Bits) ℓ) : Prop :=
  True

def Pre_GlbMlpIdeal (m : (ℓ : Loc Cert.GlbMlpIdeal.nD Cert.GlbMlpIdeal.τ Cert.GlbMlpIdeal.sig) → Buf (Elt Ideal) ℓ) : Prop :=
  True

def Pre_GlbMlpRefIdeal (m : (ℓ : Loc Cert.GlbMlpRefIdeal.nD Cert.GlbMlpRefIdeal.τ Cert.GlbMlpRefIdeal.sig) → Buf (Elt Ideal) ℓ) : Prop :=
  True

def Pre_WinQkv (m : (ℓ : Loc Cert.WinQkv.nD Cert.WinQkv.τ Cert.WinQkv.sig) → Buf (Elt Bits) ℓ) : Prop :=
  True

def Pre_WinQkvIdeal (m : (ℓ : Loc Cert.WinQkvIdeal.nD Cert.WinQkvIdeal.τ Cert.WinQkvIdeal.sig) → Buf (Elt Ideal) ℓ) : Prop :=
  True

def Pre_WinQkvRefIdeal (m : (ℓ : Loc Cert.WinQkvRefIdeal.nD Cert.WinQkvRefIdeal.τ Cert.WinQkvRefIdeal.sig) → Buf (Elt Ideal) ℓ) : Prop :=
  True

def Pre_GlbQkv (m : (ℓ : Loc Cert.GlbQkv.nD Cert.GlbQkv.τ Cert.GlbQkv.sig) → Buf (Elt Bits) ℓ) : Prop :=
  True

def Pre_GlbQkvIdeal (m : (ℓ : Loc Cert.GlbQkvIdeal.nD Cert.GlbQkvIdeal.τ Cert.GlbQkvIdeal.sig) → Buf (Elt Ideal) ℓ) : Prop :=
  True

def Pre_GlbQkvRefIdeal (m : (ℓ : Loc Cert.GlbQkvRefIdeal.nD Cert.GlbQkvRefIdeal.τ Cert.GlbQkvRefIdeal.sig) → Buf (Elt Ideal) ℓ) : Prop :=
  True

def quiescent_WinMlp [hWinMlp : Cert.WinMlp.Facts] : Prop :=
  ∀ (m : (ℓ : Loc Cert.WinMlp.nD Cert.WinMlp.τ Cert.WinMlp.sig) → Buf (Elt Bits) ℓ) (g : Dev Cert.WinMlp.nD → PrngReg), Pre_WinMlp m →
    θ_run (Cert.WinMlp.defs (F := Bits)) (onTc (τ := Cert.WinMlp.τ) (Cert.WinMlp.main (F := Bits))) ⟨m, fun _ => 0, g⟩ (fun r => (∀ c : Dev Cert.WinMlp.nD,
      r.2.mem ((c.tc : Thread Cert.WinMlp.nD Cert.WinMlp.τ).loc Cert.WinMlp.main_arg0) = m ((c.tc : Thread Cert.WinMlp.nD Cert.WinMlp.τ).loc Cert.WinMlp.main_arg0)
      ∧ r.2.mem ((c.tc : Thread Cert.WinMlp.nD Cert.WinMlp.τ).loc Cert.WinMlp.main_arg1) = m ((c.tc : Thread Cert.WinMlp.nD Cert.WinMlp.τ).loc Cert.WinMlp.main_arg1)
      ∧ r.2.mem ((c.tc : Thread Cert.WinMlp.nD Cert.WinMlp.τ).loc Cert.WinMlp.main_arg2) = m ((c.tc : Thread Cert.WinMlp.nD Cert.WinMlp.τ).loc Cert.WinMlp.main_arg2)
      ∧ r.2.mem ((c.tc : Thread Cert.WinMlp.nD Cert.WinMlp.τ).loc Cert.WinMlp.main_arg3) = m ((c.tc : Thread Cert.WinMlp.nD Cert.WinMlp.τ).loc Cert.WinMlp.main_arg3)
      ∧ r.2.mem ((c.tc : Thread Cert.WinMlp.nD Cert.WinMlp.τ).loc Cert.WinMlp.main_arg4) = m ((c.tc : Thread Cert.WinMlp.nD Cert.WinMlp.τ).loc Cert.WinMlp.main_arg4)
      ∧ r.2.mem ((c.tc : Thread Cert.WinMlp.nD Cert.WinMlp.τ).loc Cert.WinMlp.main_arg5) = m ((c.tc : Thread Cert.WinMlp.nD Cert.WinMlp.τ).loc Cert.WinMlp.main_arg5)
      ∧ r.2.mem ((c.tc : Thread Cert.WinMlp.nD Cert.WinMlp.τ).loc Cert.WinMlp.main_arg6) = m ((c.tc : Thread Cert.WinMlp.nD Cert.WinMlp.τ).loc Cert.WinMlp.main_arg6)
      ∧ r.2.mem ((c.tc : Thread Cert.WinMlp.nD Cert.WinMlp.τ).loc Cert.WinMlp.main_arg7) = m ((c.tc : Thread Cert.WinMlp.nD Cert.WinMlp.τ).loc Cert.WinMlp.main_arg7)
      ∧ r.2.mem ((c.tc : Thread Cert.WinMlp.nD Cert.WinMlp.τ).loc Cert.WinMlp.main_arg8) = m ((c.tc : Thread Cert.WinMlp.nD Cert.WinMlp.τ).loc Cert.WinMlp.main_arg8)
      ∧ r.2.mem ((c.tc : Thread Cert.WinMlp.nD Cert.WinMlp.τ).loc Cert.WinMlp.main_arg9) = m ((c.tc : Thread Cert.WinMlp.nD Cert.WinMlp.τ).loc Cert.WinMlp.main_arg9)
      ∧ r.2.mem ((c.tc : Thread Cert.WinMlp.nD Cert.WinMlp.τ).loc Cert.WinMlp.main_arg10) = m ((c.tc : Thread Cert.WinMlp.nD Cert.WinMlp.τ).loc Cert.WinMlp.main_arg10)
      ∧ r.2.mem ((c.tc : Thread Cert.WinMlp.nD Cert.WinMlp.τ).loc Cert.WinMlp.main_arg11) = m ((c.tc : Thread Cert.WinMlp.nD Cert.WinMlp.τ).loc Cert.WinMlp.main_arg11)
      ∧ r.2.mem ((c.tc : Thread Cert.WinMlp.nD Cert.WinMlp.τ).loc Cert.WinMlp.main_arg12) = m ((c.tc : Thread Cert.WinMlp.nD Cert.WinMlp.τ).loc Cert.WinMlp.main_arg12))
      ∧ r.2.sem = fun _ => 0)

def quiescent_WinMlpIdeal [hWinMlpIdeal : Cert.WinMlpIdeal.Facts] : Prop :=
  ∀ (m : (ℓ : Loc Cert.WinMlpIdeal.nD Cert.WinMlpIdeal.τ Cert.WinMlpIdeal.sig) → Buf (Elt Ideal) ℓ) (g : Dev Cert.WinMlpIdeal.nD → PrngReg), Pre_WinMlpIdeal m →
    θ_run (Cert.WinMlpIdeal.defs (F := Ideal)) (onTc (τ := Cert.WinMlpIdeal.τ) (Cert.WinMlpIdeal.main (F := Ideal))) ⟨m, fun _ => 0, g⟩ (fun r => (∀ c : Dev Cert.WinMlpIdeal.nD,
      r.2.mem ((c.tc : Thread Cert.WinMlpIdeal.nD Cert.WinMlpIdeal.τ).loc Cert.WinMlpIdeal.main_arg0) = m ((c.tc : Thread Cert.WinMlpIdeal.nD Cert.WinMlpIdeal.τ).loc Cert.WinMlpIdeal.main_arg0)
      ∧ r.2.mem ((c.tc : Thread Cert.WinMlpIdeal.nD Cert.WinMlpIdeal.τ).loc Cert.WinMlpIdeal.main_arg1) = m ((c.tc : Thread Cert.WinMlpIdeal.nD Cert.WinMlpIdeal.τ).loc Cert.WinMlpIdeal.main_arg1)
      ∧ r.2.mem ((c.tc : Thread Cert.WinMlpIdeal.nD Cert.WinMlpIdeal.τ).loc Cert.WinMlpIdeal.main_arg2) = m ((c.tc : Thread Cert.WinMlpIdeal.nD Cert.WinMlpIdeal.τ).loc Cert.WinMlpIdeal.main_arg2)
      ∧ r.2.mem ((c.tc : Thread Cert.WinMlpIdeal.nD Cert.WinMlpIdeal.τ).loc Cert.WinMlpIdeal.main_arg3) = m ((c.tc : Thread Cert.WinMlpIdeal.nD Cert.WinMlpIdeal.τ).loc Cert.WinMlpIdeal.main_arg3)
      ∧ r.2.mem ((c.tc : Thread Cert.WinMlpIdeal.nD Cert.WinMlpIdeal.τ).loc Cert.WinMlpIdeal.main_arg4) = m ((c.tc : Thread Cert.WinMlpIdeal.nD Cert.WinMlpIdeal.τ).loc Cert.WinMlpIdeal.main_arg4)
      ∧ r.2.mem ((c.tc : Thread Cert.WinMlpIdeal.nD Cert.WinMlpIdeal.τ).loc Cert.WinMlpIdeal.main_arg5) = m ((c.tc : Thread Cert.WinMlpIdeal.nD Cert.WinMlpIdeal.τ).loc Cert.WinMlpIdeal.main_arg5)
      ∧ r.2.mem ((c.tc : Thread Cert.WinMlpIdeal.nD Cert.WinMlpIdeal.τ).loc Cert.WinMlpIdeal.main_arg6) = m ((c.tc : Thread Cert.WinMlpIdeal.nD Cert.WinMlpIdeal.τ).loc Cert.WinMlpIdeal.main_arg6)
      ∧ r.2.mem ((c.tc : Thread Cert.WinMlpIdeal.nD Cert.WinMlpIdeal.τ).loc Cert.WinMlpIdeal.main_arg7) = m ((c.tc : Thread Cert.WinMlpIdeal.nD Cert.WinMlpIdeal.τ).loc Cert.WinMlpIdeal.main_arg7)
      ∧ r.2.mem ((c.tc : Thread Cert.WinMlpIdeal.nD Cert.WinMlpIdeal.τ).loc Cert.WinMlpIdeal.main_arg8) = m ((c.tc : Thread Cert.WinMlpIdeal.nD Cert.WinMlpIdeal.τ).loc Cert.WinMlpIdeal.main_arg8)
      ∧ r.2.mem ((c.tc : Thread Cert.WinMlpIdeal.nD Cert.WinMlpIdeal.τ).loc Cert.WinMlpIdeal.main_arg9) = m ((c.tc : Thread Cert.WinMlpIdeal.nD Cert.WinMlpIdeal.τ).loc Cert.WinMlpIdeal.main_arg9)
      ∧ r.2.mem ((c.tc : Thread Cert.WinMlpIdeal.nD Cert.WinMlpIdeal.τ).loc Cert.WinMlpIdeal.main_arg10) = m ((c.tc : Thread Cert.WinMlpIdeal.nD Cert.WinMlpIdeal.τ).loc Cert.WinMlpIdeal.main_arg10)
      ∧ r.2.mem ((c.tc : Thread Cert.WinMlpIdeal.nD Cert.WinMlpIdeal.τ).loc Cert.WinMlpIdeal.main_arg11) = m ((c.tc : Thread Cert.WinMlpIdeal.nD Cert.WinMlpIdeal.τ).loc Cert.WinMlpIdeal.main_arg11)
      ∧ r.2.mem ((c.tc : Thread Cert.WinMlpIdeal.nD Cert.WinMlpIdeal.τ).loc Cert.WinMlpIdeal.main_arg12) = m ((c.tc : Thread Cert.WinMlpIdeal.nD Cert.WinMlpIdeal.τ).loc Cert.WinMlpIdeal.main_arg12))
      ∧ r.2.sem = fun _ => 0)

def quiescent_WinMlpRefIdeal [hWinMlpRefIdeal : Cert.WinMlpRefIdeal.Facts] : Prop :=
  ∀ (m : (ℓ : Loc Cert.WinMlpRefIdeal.nD Cert.WinMlpRefIdeal.τ Cert.WinMlpRefIdeal.sig) → Buf (Elt Ideal) ℓ) (g : Dev Cert.WinMlpRefIdeal.nD → PrngReg), Pre_WinMlpRefIdeal m →
    θ_run (Cert.WinMlpRefIdeal.defs (F := Ideal)) (onTc (τ := Cert.WinMlpRefIdeal.τ) (Cert.WinMlpRefIdeal.main (F := Ideal))) ⟨m, fun _ => 0, g⟩ (fun r => (∀ c : Dev Cert.WinMlpRefIdeal.nD,
      r.2.mem ((c.tc : Thread Cert.WinMlpRefIdeal.nD Cert.WinMlpRefIdeal.τ).loc Cert.WinMlpRefIdeal.main_arg0) = m ((c.tc : Thread Cert.WinMlpRefIdeal.nD Cert.WinMlpRefIdeal.τ).loc Cert.WinMlpRefIdeal.main_arg0)
      ∧ r.2.mem ((c.tc : Thread Cert.WinMlpRefIdeal.nD Cert.WinMlpRefIdeal.τ).loc Cert.WinMlpRefIdeal.main_arg1) = m ((c.tc : Thread Cert.WinMlpRefIdeal.nD Cert.WinMlpRefIdeal.τ).loc Cert.WinMlpRefIdeal.main_arg1)
      ∧ r.2.mem ((c.tc : Thread Cert.WinMlpRefIdeal.nD Cert.WinMlpRefIdeal.τ).loc Cert.WinMlpRefIdeal.main_arg2) = m ((c.tc : Thread Cert.WinMlpRefIdeal.nD Cert.WinMlpRefIdeal.τ).loc Cert.WinMlpRefIdeal.main_arg2)
      ∧ r.2.mem ((c.tc : Thread Cert.WinMlpRefIdeal.nD Cert.WinMlpRefIdeal.τ).loc Cert.WinMlpRefIdeal.main_arg3) = m ((c.tc : Thread Cert.WinMlpRefIdeal.nD Cert.WinMlpRefIdeal.τ).loc Cert.WinMlpRefIdeal.main_arg3)
      ∧ r.2.mem ((c.tc : Thread Cert.WinMlpRefIdeal.nD Cert.WinMlpRefIdeal.τ).loc Cert.WinMlpRefIdeal.main_arg4) = m ((c.tc : Thread Cert.WinMlpRefIdeal.nD Cert.WinMlpRefIdeal.τ).loc Cert.WinMlpRefIdeal.main_arg4)
      ∧ r.2.mem ((c.tc : Thread Cert.WinMlpRefIdeal.nD Cert.WinMlpRefIdeal.τ).loc Cert.WinMlpRefIdeal.main_arg5) = m ((c.tc : Thread Cert.WinMlpRefIdeal.nD Cert.WinMlpRefIdeal.τ).loc Cert.WinMlpRefIdeal.main_arg5)
      ∧ r.2.mem ((c.tc : Thread Cert.WinMlpRefIdeal.nD Cert.WinMlpRefIdeal.τ).loc Cert.WinMlpRefIdeal.main_arg6) = m ((c.tc : Thread Cert.WinMlpRefIdeal.nD Cert.WinMlpRefIdeal.τ).loc Cert.WinMlpRefIdeal.main_arg6)
      ∧ r.2.mem ((c.tc : Thread Cert.WinMlpRefIdeal.nD Cert.WinMlpRefIdeal.τ).loc Cert.WinMlpRefIdeal.main_arg7) = m ((c.tc : Thread Cert.WinMlpRefIdeal.nD Cert.WinMlpRefIdeal.τ).loc Cert.WinMlpRefIdeal.main_arg7)
      ∧ r.2.mem ((c.tc : Thread Cert.WinMlpRefIdeal.nD Cert.WinMlpRefIdeal.τ).loc Cert.WinMlpRefIdeal.main_arg8) = m ((c.tc : Thread Cert.WinMlpRefIdeal.nD Cert.WinMlpRefIdeal.τ).loc Cert.WinMlpRefIdeal.main_arg8)
      ∧ r.2.mem ((c.tc : Thread Cert.WinMlpRefIdeal.nD Cert.WinMlpRefIdeal.τ).loc Cert.WinMlpRefIdeal.main_arg9) = m ((c.tc : Thread Cert.WinMlpRefIdeal.nD Cert.WinMlpRefIdeal.τ).loc Cert.WinMlpRefIdeal.main_arg9)
      ∧ r.2.mem ((c.tc : Thread Cert.WinMlpRefIdeal.nD Cert.WinMlpRefIdeal.τ).loc Cert.WinMlpRefIdeal.main_arg10) = m ((c.tc : Thread Cert.WinMlpRefIdeal.nD Cert.WinMlpRefIdeal.τ).loc Cert.WinMlpRefIdeal.main_arg10)
      ∧ r.2.mem ((c.tc : Thread Cert.WinMlpRefIdeal.nD Cert.WinMlpRefIdeal.τ).loc Cert.WinMlpRefIdeal.main_arg11) = m ((c.tc : Thread Cert.WinMlpRefIdeal.nD Cert.WinMlpRefIdeal.τ).loc Cert.WinMlpRefIdeal.main_arg11)
      ∧ r.2.mem ((c.tc : Thread Cert.WinMlpRefIdeal.nD Cert.WinMlpRefIdeal.τ).loc Cert.WinMlpRefIdeal.main_arg12) = m ((c.tc : Thread Cert.WinMlpRefIdeal.nD Cert.WinMlpRefIdeal.τ).loc Cert.WinMlpRefIdeal.main_arg12))
      ∧ r.2.sem = fun _ => 0)

def quiescent_GlbMlp [hGlbMlp : Cert.GlbMlp.Facts] : Prop :=
  ∀ (m : (ℓ : Loc Cert.GlbMlp.nD Cert.GlbMlp.τ Cert.GlbMlp.sig) → Buf (Elt Bits) ℓ) (g : Dev Cert.GlbMlp.nD → PrngReg), Pre_GlbMlp m →
    θ_run (Cert.GlbMlp.defs (F := Bits)) (onTc (τ := Cert.GlbMlp.τ) (Cert.GlbMlp.main (F := Bits))) ⟨m, fun _ => 0, g⟩ (fun r => (∀ c : Dev Cert.GlbMlp.nD,
      r.2.mem ((c.tc : Thread Cert.GlbMlp.nD Cert.GlbMlp.τ).loc Cert.GlbMlp.main_arg0) = m ((c.tc : Thread Cert.GlbMlp.nD Cert.GlbMlp.τ).loc Cert.GlbMlp.main_arg0)
      ∧ r.2.mem ((c.tc : Thread Cert.GlbMlp.nD Cert.GlbMlp.τ).loc Cert.GlbMlp.main_arg1) = m ((c.tc : Thread Cert.GlbMlp.nD Cert.GlbMlp.τ).loc Cert.GlbMlp.main_arg1)
      ∧ r.2.mem ((c.tc : Thread Cert.GlbMlp.nD Cert.GlbMlp.τ).loc Cert.GlbMlp.main_arg2) = m ((c.tc : Thread Cert.GlbMlp.nD Cert.GlbMlp.τ).loc Cert.GlbMlp.main_arg2)
      ∧ r.2.mem ((c.tc : Thread Cert.GlbMlp.nD Cert.GlbMlp.τ).loc Cert.GlbMlp.main_arg3) = m ((c.tc : Thread Cert.GlbMlp.nD Cert.GlbMlp.τ).loc Cert.GlbMlp.main_arg3)
      ∧ r.2.mem ((c.tc : Thread Cert.GlbMlp.nD Cert.GlbMlp.τ).loc Cert.GlbMlp.main_arg4) = m ((c.tc : Thread Cert.GlbMlp.nD Cert.GlbMlp.τ).loc Cert.GlbMlp.main_arg4)
      ∧ r.2.mem ((c.tc : Thread Cert.GlbMlp.nD Cert.GlbMlp.τ).loc Cert.GlbMlp.main_arg5) = m ((c.tc : Thread Cert.GlbMlp.nD Cert.GlbMlp.τ).loc Cert.GlbMlp.main_arg5)
      ∧ r.2.mem ((c.tc : Thread Cert.GlbMlp.nD Cert.GlbMlp.τ).loc Cert.GlbMlp.main_arg6) = m ((c.tc : Thread Cert.GlbMlp.nD Cert.GlbMlp.τ).loc Cert.GlbMlp.main_arg6)
      ∧ r.2.mem ((c.tc : Thread Cert.GlbMlp.nD Cert.GlbMlp.τ).loc Cert.GlbMlp.main_arg7) = m ((c.tc : Thread Cert.GlbMlp.nD Cert.GlbMlp.τ).loc Cert.GlbMlp.main_arg7)
      ∧ r.2.mem ((c.tc : Thread Cert.GlbMlp.nD Cert.GlbMlp.τ).loc Cert.GlbMlp.main_arg8) = m ((c.tc : Thread Cert.GlbMlp.nD Cert.GlbMlp.τ).loc Cert.GlbMlp.main_arg8)
      ∧ r.2.mem ((c.tc : Thread Cert.GlbMlp.nD Cert.GlbMlp.τ).loc Cert.GlbMlp.main_arg9) = m ((c.tc : Thread Cert.GlbMlp.nD Cert.GlbMlp.τ).loc Cert.GlbMlp.main_arg9)
      ∧ r.2.mem ((c.tc : Thread Cert.GlbMlp.nD Cert.GlbMlp.τ).loc Cert.GlbMlp.main_arg10) = m ((c.tc : Thread Cert.GlbMlp.nD Cert.GlbMlp.τ).loc Cert.GlbMlp.main_arg10)
      ∧ r.2.mem ((c.tc : Thread Cert.GlbMlp.nD Cert.GlbMlp.τ).loc Cert.GlbMlp.main_arg11) = m ((c.tc : Thread Cert.GlbMlp.nD Cert.GlbMlp.τ).loc Cert.GlbMlp.main_arg11)
      ∧ r.2.mem ((c.tc : Thread Cert.GlbMlp.nD Cert.GlbMlp.τ).loc Cert.GlbMlp.main_arg12) = m ((c.tc : Thread Cert.GlbMlp.nD Cert.GlbMlp.τ).loc Cert.GlbMlp.main_arg12))
      ∧ r.2.sem = fun _ => 0)

def quiescent_GlbMlpIdeal [hGlbMlpIdeal : Cert.GlbMlpIdeal.Facts] : Prop :=
  ∀ (m : (ℓ : Loc Cert.GlbMlpIdeal.nD Cert.GlbMlpIdeal.τ Cert.GlbMlpIdeal.sig) → Buf (Elt Ideal) ℓ) (g : Dev Cert.GlbMlpIdeal.nD → PrngReg), Pre_GlbMlpIdeal m →
    θ_run (Cert.GlbMlpIdeal.defs (F := Ideal)) (onTc (τ := Cert.GlbMlpIdeal.τ) (Cert.GlbMlpIdeal.main (F := Ideal))) ⟨m, fun _ => 0, g⟩ (fun r => (∀ c : Dev Cert.GlbMlpIdeal.nD,
      r.2.mem ((c.tc : Thread Cert.GlbMlpIdeal.nD Cert.GlbMlpIdeal.τ).loc Cert.GlbMlpIdeal.main_arg0) = m ((c.tc : Thread Cert.GlbMlpIdeal.nD Cert.GlbMlpIdeal.τ).loc Cert.GlbMlpIdeal.main_arg0)
      ∧ r.2.mem ((c.tc : Thread Cert.GlbMlpIdeal.nD Cert.GlbMlpIdeal.τ).loc Cert.GlbMlpIdeal.main_arg1) = m ((c.tc : Thread Cert.GlbMlpIdeal.nD Cert.GlbMlpIdeal.τ).loc Cert.GlbMlpIdeal.main_arg1)
      ∧ r.2.mem ((c.tc : Thread Cert.GlbMlpIdeal.nD Cert.GlbMlpIdeal.τ).loc Cert.GlbMlpIdeal.main_arg2) = m ((c.tc : Thread Cert.GlbMlpIdeal.nD Cert.GlbMlpIdeal.τ).loc Cert.GlbMlpIdeal.main_arg2)
      ∧ r.2.mem ((c.tc : Thread Cert.GlbMlpIdeal.nD Cert.GlbMlpIdeal.τ).loc Cert.GlbMlpIdeal.main_arg3) = m ((c.tc : Thread Cert.GlbMlpIdeal.nD Cert.GlbMlpIdeal.τ).loc Cert.GlbMlpIdeal.main_arg3)
      ∧ r.2.mem ((c.tc : Thread Cert.GlbMlpIdeal.nD Cert.GlbMlpIdeal.τ).loc Cert.GlbMlpIdeal.main_arg4) = m ((c.tc : Thread Cert.GlbMlpIdeal.nD Cert.GlbMlpIdeal.τ).loc Cert.GlbMlpIdeal.main_arg4)
      ∧ r.2.mem ((c.tc : Thread Cert.GlbMlpIdeal.nD Cert.GlbMlpIdeal.τ).loc Cert.GlbMlpIdeal.main_arg5) = m ((c.tc : Thread Cert.GlbMlpIdeal.nD Cert.GlbMlpIdeal.τ).loc Cert.GlbMlpIdeal.main_arg5)
      ∧ r.2.mem ((c.tc : Thread Cert.GlbMlpIdeal.nD Cert.GlbMlpIdeal.τ).loc Cert.GlbMlpIdeal.main_arg6) = m ((c.tc : Thread Cert.GlbMlpIdeal.nD Cert.GlbMlpIdeal.τ).loc Cert.GlbMlpIdeal.main_arg6)
      ∧ r.2.mem ((c.tc : Thread Cert.GlbMlpIdeal.nD Cert.GlbMlpIdeal.τ).loc Cert.GlbMlpIdeal.main_arg7) = m ((c.tc : Thread Cert.GlbMlpIdeal.nD Cert.GlbMlpIdeal.τ).loc Cert.GlbMlpIdeal.main_arg7)
      ∧ r.2.mem ((c.tc : Thread Cert.GlbMlpIdeal.nD Cert.GlbMlpIdeal.τ).loc Cert.GlbMlpIdeal.main_arg8) = m ((c.tc : Thread Cert.GlbMlpIdeal.nD Cert.GlbMlpIdeal.τ).loc Cert.GlbMlpIdeal.main_arg8)
      ∧ r.2.mem ((c.tc : Thread Cert.GlbMlpIdeal.nD Cert.GlbMlpIdeal.τ).loc Cert.GlbMlpIdeal.main_arg9) = m ((c.tc : Thread Cert.GlbMlpIdeal.nD Cert.GlbMlpIdeal.τ).loc Cert.GlbMlpIdeal.main_arg9)
      ∧ r.2.mem ((c.tc : Thread Cert.GlbMlpIdeal.nD Cert.GlbMlpIdeal.τ).loc Cert.GlbMlpIdeal.main_arg10) = m ((c.tc : Thread Cert.GlbMlpIdeal.nD Cert.GlbMlpIdeal.τ).loc Cert.GlbMlpIdeal.main_arg10)
      ∧ r.2.mem ((c.tc : Thread Cert.GlbMlpIdeal.nD Cert.GlbMlpIdeal.τ).loc Cert.GlbMlpIdeal.main_arg11) = m ((c.tc : Thread Cert.GlbMlpIdeal.nD Cert.GlbMlpIdeal.τ).loc Cert.GlbMlpIdeal.main_arg11)
      ∧ r.2.mem ((c.tc : Thread Cert.GlbMlpIdeal.nD Cert.GlbMlpIdeal.τ).loc Cert.GlbMlpIdeal.main_arg12) = m ((c.tc : Thread Cert.GlbMlpIdeal.nD Cert.GlbMlpIdeal.τ).loc Cert.GlbMlpIdeal.main_arg12))
      ∧ r.2.sem = fun _ => 0)

def quiescent_GlbMlpRefIdeal [hGlbMlpRefIdeal : Cert.GlbMlpRefIdeal.Facts] : Prop :=
  ∀ (m : (ℓ : Loc Cert.GlbMlpRefIdeal.nD Cert.GlbMlpRefIdeal.τ Cert.GlbMlpRefIdeal.sig) → Buf (Elt Ideal) ℓ) (g : Dev Cert.GlbMlpRefIdeal.nD → PrngReg), Pre_GlbMlpRefIdeal m →
    θ_run (Cert.GlbMlpRefIdeal.defs (F := Ideal)) (onTc (τ := Cert.GlbMlpRefIdeal.τ) (Cert.GlbMlpRefIdeal.main (F := Ideal))) ⟨m, fun _ => 0, g⟩ (fun r => (∀ c : Dev Cert.GlbMlpRefIdeal.nD,
      r.2.mem ((c.tc : Thread Cert.GlbMlpRefIdeal.nD Cert.GlbMlpRefIdeal.τ).loc Cert.GlbMlpRefIdeal.main_arg0) = m ((c.tc : Thread Cert.GlbMlpRefIdeal.nD Cert.GlbMlpRefIdeal.τ).loc Cert.GlbMlpRefIdeal.main_arg0)
      ∧ r.2.mem ((c.tc : Thread Cert.GlbMlpRefIdeal.nD Cert.GlbMlpRefIdeal.τ).loc Cert.GlbMlpRefIdeal.main_arg1) = m ((c.tc : Thread Cert.GlbMlpRefIdeal.nD Cert.GlbMlpRefIdeal.τ).loc Cert.GlbMlpRefIdeal.main_arg1)
      ∧ r.2.mem ((c.tc : Thread Cert.GlbMlpRefIdeal.nD Cert.GlbMlpRefIdeal.τ).loc Cert.GlbMlpRefIdeal.main_arg2) = m ((c.tc : Thread Cert.GlbMlpRefIdeal.nD Cert.GlbMlpRefIdeal.τ).loc Cert.GlbMlpRefIdeal.main_arg2)
      ∧ r.2.mem ((c.tc : Thread Cert.GlbMlpRefIdeal.nD Cert.GlbMlpRefIdeal.τ).loc Cert.GlbMlpRefIdeal.main_arg3) = m ((c.tc : Thread Cert.GlbMlpRefIdeal.nD Cert.GlbMlpRefIdeal.τ).loc Cert.GlbMlpRefIdeal.main_arg3)
      ∧ r.2.mem ((c.tc : Thread Cert.GlbMlpRefIdeal.nD Cert.GlbMlpRefIdeal.τ).loc Cert.GlbMlpRefIdeal.main_arg4) = m ((c.tc : Thread Cert.GlbMlpRefIdeal.nD Cert.GlbMlpRefIdeal.τ).loc Cert.GlbMlpRefIdeal.main_arg4)
      ∧ r.2.mem ((c.tc : Thread Cert.GlbMlpRefIdeal.nD Cert.GlbMlpRefIdeal.τ).loc Cert.GlbMlpRefIdeal.main_arg5) = m ((c.tc : Thread Cert.GlbMlpRefIdeal.nD Cert.GlbMlpRefIdeal.τ).loc Cert.GlbMlpRefIdeal.main_arg5)
      ∧ r.2.mem ((c.tc : Thread Cert.GlbMlpRefIdeal.nD Cert.GlbMlpRefIdeal.τ).loc Cert.GlbMlpRefIdeal.main_arg6) = m ((c.tc : Thread Cert.GlbMlpRefIdeal.nD Cert.GlbMlpRefIdeal.τ).loc Cert.GlbMlpRefIdeal.main_arg6)
      ∧ r.2.mem ((c.tc : Thread Cert.GlbMlpRefIdeal.nD Cert.GlbMlpRefIdeal.τ).loc Cert.GlbMlpRefIdeal.main_arg7) = m ((c.tc : Thread Cert.GlbMlpRefIdeal.nD Cert.GlbMlpRefIdeal.τ).loc Cert.GlbMlpRefIdeal.main_arg7)
      ∧ r.2.mem ((c.tc : Thread Cert.GlbMlpRefIdeal.nD Cert.GlbMlpRefIdeal.τ).loc Cert.GlbMlpRefIdeal.main_arg8) = m ((c.tc : Thread Cert.GlbMlpRefIdeal.nD Cert.GlbMlpRefIdeal.τ).loc Cert.GlbMlpRefIdeal.main_arg8)
      ∧ r.2.mem ((c.tc : Thread Cert.GlbMlpRefIdeal.nD Cert.GlbMlpRefIdeal.τ).loc Cert.GlbMlpRefIdeal.main_arg9) = m ((c.tc : Thread Cert.GlbMlpRefIdeal.nD Cert.GlbMlpRefIdeal.τ).loc Cert.GlbMlpRefIdeal.main_arg9)
      ∧ r.2.mem ((c.tc : Thread Cert.GlbMlpRefIdeal.nD Cert.GlbMlpRefIdeal.τ).loc Cert.GlbMlpRefIdeal.main_arg10) = m ((c.tc : Thread Cert.GlbMlpRefIdeal.nD Cert.GlbMlpRefIdeal.τ).loc Cert.GlbMlpRefIdeal.main_arg10)
      ∧ r.2.mem ((c.tc : Thread Cert.GlbMlpRefIdeal.nD Cert.GlbMlpRefIdeal.τ).loc Cert.GlbMlpRefIdeal.main_arg11) = m ((c.tc : Thread Cert.GlbMlpRefIdeal.nD Cert.GlbMlpRefIdeal.τ).loc Cert.GlbMlpRefIdeal.main_arg11)
      ∧ r.2.mem ((c.tc : Thread Cert.GlbMlpRefIdeal.nD Cert.GlbMlpRefIdeal.τ).loc Cert.GlbMlpRefIdeal.main_arg12) = m ((c.tc : Thread Cert.GlbMlpRefIdeal.nD Cert.GlbMlpRefIdeal.τ).loc Cert.GlbMlpRefIdeal.main_arg12))
      ∧ r.2.sem = fun _ => 0)

def quiescent_WinQkv [hWinQkv : Cert.WinQkv.Facts] : Prop :=
  ∀ (m : (ℓ : Loc Cert.WinQkv.nD Cert.WinQkv.τ Cert.WinQkv.sig) → Buf (Elt Bits) ℓ) (g : Dev Cert.WinQkv.nD → PrngReg), Pre_WinQkv m →
    θ_run (Cert.WinQkv.defs (F := Bits)) (onTc (τ := Cert.WinQkv.τ) (Cert.WinQkv.main (F := Bits))) ⟨m, fun _ => 0, g⟩ (fun r => (∀ c : Dev Cert.WinQkv.nD,
      r.2.mem ((c.tc : Thread Cert.WinQkv.nD Cert.WinQkv.τ).loc Cert.WinQkv.main_arg0) = m ((c.tc : Thread Cert.WinQkv.nD Cert.WinQkv.τ).loc Cert.WinQkv.main_arg0)
      ∧ r.2.mem ((c.tc : Thread Cert.WinQkv.nD Cert.WinQkv.τ).loc Cert.WinQkv.main_arg1) = m ((c.tc : Thread Cert.WinQkv.nD Cert.WinQkv.τ).loc Cert.WinQkv.main_arg1)
      ∧ r.2.mem ((c.tc : Thread Cert.WinQkv.nD Cert.WinQkv.τ).loc Cert.WinQkv.main_arg2) = m ((c.tc : Thread Cert.WinQkv.nD Cert.WinQkv.τ).loc Cert.WinQkv.main_arg2)
      ∧ r.2.mem ((c.tc : Thread Cert.WinQkv.nD Cert.WinQkv.τ).loc Cert.WinQkv.main_arg3) = m ((c.tc : Thread Cert.WinQkv.nD Cert.WinQkv.τ).loc Cert.WinQkv.main_arg3)
      ∧ r.2.mem ((c.tc : Thread Cert.WinQkv.nD Cert.WinQkv.τ).loc Cert.WinQkv.main_arg4) = m ((c.tc : Thread Cert.WinQkv.nD Cert.WinQkv.τ).loc Cert.WinQkv.main_arg4)
      ∧ r.2.mem ((c.tc : Thread Cert.WinQkv.nD Cert.WinQkv.τ).loc Cert.WinQkv.main_arg5) = m ((c.tc : Thread Cert.WinQkv.nD Cert.WinQkv.τ).loc Cert.WinQkv.main_arg5))
      ∧ r.2.sem = fun _ => 0)

def quiescent_WinQkvIdeal [hWinQkvIdeal : Cert.WinQkvIdeal.Facts] : Prop :=
  ∀ (m : (ℓ : Loc Cert.WinQkvIdeal.nD Cert.WinQkvIdeal.τ Cert.WinQkvIdeal.sig) → Buf (Elt Ideal) ℓ) (g : Dev Cert.WinQkvIdeal.nD → PrngReg), Pre_WinQkvIdeal m →
    θ_run (Cert.WinQkvIdeal.defs (F := Ideal)) (onTc (τ := Cert.WinQkvIdeal.τ) (Cert.WinQkvIdeal.main (F := Ideal))) ⟨m, fun _ => 0, g⟩ (fun r => (∀ c : Dev Cert.WinQkvIdeal.nD,
      r.2.mem ((c.tc : Thread Cert.WinQkvIdeal.nD Cert.WinQkvIdeal.τ).loc Cert.WinQkvIdeal.main_arg0) = m ((c.tc : Thread Cert.WinQkvIdeal.nD Cert.WinQkvIdeal.τ).loc Cert.WinQkvIdeal.main_arg0)
      ∧ r.2.mem ((c.tc : Thread Cert.WinQkvIdeal.nD Cert.WinQkvIdeal.τ).loc Cert.WinQkvIdeal.main_arg1) = m ((c.tc : Thread Cert.WinQkvIdeal.nD Cert.WinQkvIdeal.τ).loc Cert.WinQkvIdeal.main_arg1)
      ∧ r.2.mem ((c.tc : Thread Cert.WinQkvIdeal.nD Cert.WinQkvIdeal.τ).loc Cert.WinQkvIdeal.main_arg2) = m ((c.tc : Thread Cert.WinQkvIdeal.nD Cert.WinQkvIdeal.τ).loc Cert.WinQkvIdeal.main_arg2)
      ∧ r.2.mem ((c.tc : Thread Cert.WinQkvIdeal.nD Cert.WinQkvIdeal.τ).loc Cert.WinQkvIdeal.main_arg3) = m ((c.tc : Thread Cert.WinQkvIdeal.nD Cert.WinQkvIdeal.τ).loc Cert.WinQkvIdeal.main_arg3)
      ∧ r.2.mem ((c.tc : Thread Cert.WinQkvIdeal.nD Cert.WinQkvIdeal.τ).loc Cert.WinQkvIdeal.main_arg4) = m ((c.tc : Thread Cert.WinQkvIdeal.nD Cert.WinQkvIdeal.τ).loc Cert.WinQkvIdeal.main_arg4)
      ∧ r.2.mem ((c.tc : Thread Cert.WinQkvIdeal.nD Cert.WinQkvIdeal.τ).loc Cert.WinQkvIdeal.main_arg5) = m ((c.tc : Thread Cert.WinQkvIdeal.nD Cert.WinQkvIdeal.τ).loc Cert.WinQkvIdeal.main_arg5))
      ∧ r.2.sem = fun _ => 0)

def quiescent_WinQkvRefIdeal [hWinQkvRefIdeal : Cert.WinQkvRefIdeal.Facts] : Prop :=
  ∀ (m : (ℓ : Loc Cert.WinQkvRefIdeal.nD Cert.WinQkvRefIdeal.τ Cert.WinQkvRefIdeal.sig) → Buf (Elt Ideal) ℓ) (g : Dev Cert.WinQkvRefIdeal.nD → PrngReg), Pre_WinQkvRefIdeal m →
    θ_run (Cert.WinQkvRefIdeal.defs (F := Ideal)) (onTc (τ := Cert.WinQkvRefIdeal.τ) (Cert.WinQkvRefIdeal.main (F := Ideal))) ⟨m, fun _ => 0, g⟩ (fun r => (∀ c : Dev Cert.WinQkvRefIdeal.nD,
      r.2.mem ((c.tc : Thread Cert.WinQkvRefIdeal.nD Cert.WinQkvRefIdeal.τ).loc Cert.WinQkvRefIdeal.main_arg0) = m ((c.tc : Thread Cert.WinQkvRefIdeal.nD Cert.WinQkvRefIdeal.τ).loc Cert.WinQkvRefIdeal.main_arg0)
      ∧ r.2.mem ((c.tc : Thread Cert.WinQkvRefIdeal.nD Cert.WinQkvRefIdeal.τ).loc Cert.WinQkvRefIdeal.main_arg1) = m ((c.tc : Thread Cert.WinQkvRefIdeal.nD Cert.WinQkvRefIdeal.τ).loc Cert.WinQkvRefIdeal.main_arg1)
      ∧ r.2.mem ((c.tc : Thread Cert.WinQkvRefIdeal.nD Cert.WinQkvRefIdeal.τ).loc Cert.WinQkvRefIdeal.main_arg2) = m ((c.tc : Thread Cert.WinQkvRefIdeal.nD Cert.WinQkvRefIdeal.τ).loc Cert.WinQkvRefIdeal.main_arg2)
      ∧ r.2.mem ((c.tc : Thread Cert.WinQkvRefIdeal.nD Cert.WinQkvRefIdeal.τ).loc Cert.WinQkvRefIdeal.main_arg3) = m ((c.tc : Thread Cert.WinQkvRefIdeal.nD Cert.WinQkvRefIdeal.τ).loc Cert.WinQkvRefIdeal.main_arg3)
      ∧ r.2.mem ((c.tc : Thread Cert.WinQkvRefIdeal.nD Cert.WinQkvRefIdeal.τ).loc Cert.WinQkvRefIdeal.main_arg4) = m ((c.tc : Thread Cert.WinQkvRefIdeal.nD Cert.WinQkvRefIdeal.τ).loc Cert.WinQkvRefIdeal.main_arg4)
      ∧ r.2.mem ((c.tc : Thread Cert.WinQkvRefIdeal.nD Cert.WinQkvRefIdeal.τ).loc Cert.WinQkvRefIdeal.main_arg5) = m ((c.tc : Thread Cert.WinQkvRefIdeal.nD Cert.WinQkvRefIdeal.τ).loc Cert.WinQkvRefIdeal.main_arg5))
      ∧ r.2.sem = fun _ => 0)

def quiescent_GlbQkv [hGlbQkv : Cert.GlbQkv.Facts] : Prop :=
  ∀ (m : (ℓ : Loc Cert.GlbQkv.nD Cert.GlbQkv.τ Cert.GlbQkv.sig) → Buf (Elt Bits) ℓ) (g : Dev Cert.GlbQkv.nD → PrngReg), Pre_GlbQkv m →
    θ_run (Cert.GlbQkv.defs (F := Bits)) (onTc (τ := Cert.GlbQkv.τ) (Cert.GlbQkv.main (F := Bits))) ⟨m, fun _ => 0, g⟩ (fun r => (∀ c : Dev Cert.GlbQkv.nD,
      r.2.mem ((c.tc : Thread Cert.GlbQkv.nD Cert.GlbQkv.τ).loc Cert.GlbQkv.main_arg0) = m ((c.tc : Thread Cert.GlbQkv.nD Cert.GlbQkv.τ).loc Cert.GlbQkv.main_arg0)
      ∧ r.2.mem ((c.tc : Thread Cert.GlbQkv.nD Cert.GlbQkv.τ).loc Cert.GlbQkv.main_arg1) = m ((c.tc : Thread Cert.GlbQkv.nD Cert.GlbQkv.τ).loc Cert.GlbQkv.main_arg1)
      ∧ r.2.mem ((c.tc : Thread Cert.GlbQkv.nD Cert.GlbQkv.τ).loc Cert.GlbQkv.main_arg2) = m ((c.tc : Thread Cert.GlbQkv.nD Cert.GlbQkv.τ).loc Cert.GlbQkv.main_arg2)
      ∧ r.2.mem ((c.tc : Thread Cert.GlbQkv.nD Cert.GlbQkv.τ).loc Cert.GlbQkv.main_arg3) = m ((c.tc : Thread Cert.GlbQkv.nD Cert.GlbQkv.τ).loc Cert.GlbQkv.main_arg3)
      ∧ r.2.mem ((c.tc : Thread Cert.GlbQkv.nD Cert.GlbQkv.τ).loc Cert.GlbQkv.main_arg4) = m ((c.tc : Thread Cert.GlbQkv.nD Cert.GlbQkv.τ).loc Cert.GlbQkv.main_arg4)
      ∧ r.2.mem ((c.tc : Thread Cert.GlbQkv.nD Cert.GlbQkv.τ).loc Cert.GlbQkv.main_arg5) = m ((c.tc : Thread Cert.GlbQkv.nD Cert.GlbQkv.τ).loc Cert.GlbQkv.main_arg5))
      ∧ r.2.sem = fun _ => 0)

def quiescent_GlbQkvIdeal [hGlbQkvIdeal : Cert.GlbQkvIdeal.Facts] : Prop :=
  ∀ (m : (ℓ : Loc Cert.GlbQkvIdeal.nD Cert.GlbQkvIdeal.τ Cert.GlbQkvIdeal.sig) → Buf (Elt Ideal) ℓ) (g : Dev Cert.GlbQkvIdeal.nD → PrngReg), Pre_GlbQkvIdeal m →
    θ_run (Cert.GlbQkvIdeal.defs (F := Ideal)) (onTc (τ := Cert.GlbQkvIdeal.τ) (Cert.GlbQkvIdeal.main (F := Ideal))) ⟨m, fun _ => 0, g⟩ (fun r => (∀ c : Dev Cert.GlbQkvIdeal.nD,
      r.2.mem ((c.tc : Thread Cert.GlbQkvIdeal.nD Cert.GlbQkvIdeal.τ).loc Cert.GlbQkvIdeal.main_arg0) = m ((c.tc : Thread Cert.GlbQkvIdeal.nD Cert.GlbQkvIdeal.τ).loc Cert.GlbQkvIdeal.main_arg0)
      ∧ r.2.mem ((c.tc : Thread Cert.GlbQkvIdeal.nD Cert.GlbQkvIdeal.τ).loc Cert.GlbQkvIdeal.main_arg1) = m ((c.tc : Thread Cert.GlbQkvIdeal.nD Cert.GlbQkvIdeal.τ).loc Cert.GlbQkvIdeal.main_arg1)
      ∧ r.2.mem ((c.tc : Thread Cert.GlbQkvIdeal.nD Cert.GlbQkvIdeal.τ).loc Cert.GlbQkvIdeal.main_arg2) = m ((c.tc : Thread Cert.GlbQkvIdeal.nD Cert.GlbQkvIdeal.τ).loc Cert.GlbQkvIdeal.main_arg2)
      ∧ r.2.mem ((c.tc : Thread Cert.GlbQkvIdeal.nD Cert.GlbQkvIdeal.τ).loc Cert.GlbQkvIdeal.main_arg3) = m ((c.tc : Thread Cert.GlbQkvIdeal.nD Cert.GlbQkvIdeal.τ).loc Cert.GlbQkvIdeal.main_arg3)
      ∧ r.2.mem ((c.tc : Thread Cert.GlbQkvIdeal.nD Cert.GlbQkvIdeal.τ).loc Cert.GlbQkvIdeal.main_arg4) = m ((c.tc : Thread Cert.GlbQkvIdeal.nD Cert.GlbQkvIdeal.τ).loc Cert.GlbQkvIdeal.main_arg4)
      ∧ r.2.mem ((c.tc : Thread Cert.GlbQkvIdeal.nD Cert.GlbQkvIdeal.τ).loc Cert.GlbQkvIdeal.main_arg5) = m ((c.tc : Thread Cert.GlbQkvIdeal.nD Cert.GlbQkvIdeal.τ).loc Cert.GlbQkvIdeal.main_arg5))
      ∧ r.2.sem = fun _ => 0)

def quiescent_GlbQkvRefIdeal [hGlbQkvRefIdeal : Cert.GlbQkvRefIdeal.Facts] : Prop :=
  ∀ (m : (ℓ : Loc Cert.GlbQkvRefIdeal.nD Cert.GlbQkvRefIdeal.τ Cert.GlbQkvRefIdeal.sig) → Buf (Elt Ideal) ℓ) (g : Dev Cert.GlbQkvRefIdeal.nD → PrngReg), Pre_GlbQkvRefIdeal m →
    θ_run (Cert.GlbQkvRefIdeal.defs (F := Ideal)) (onTc (τ := Cert.GlbQkvRefIdeal.τ) (Cert.GlbQkvRefIdeal.main (F := Ideal))) ⟨m, fun _ => 0, g⟩ (fun r => (∀ c : Dev Cert.GlbQkvRefIdeal.nD,
      r.2.mem ((c.tc : Thread Cert.GlbQkvRefIdeal.nD Cert.GlbQkvRefIdeal.τ).loc Cert.GlbQkvRefIdeal.main_arg0) = m ((c.tc : Thread Cert.GlbQkvRefIdeal.nD Cert.GlbQkvRefIdeal.τ).loc Cert.GlbQkvRefIdeal.main_arg0)
      ∧ r.2.mem ((c.tc : Thread Cert.GlbQkvRefIdeal.nD Cert.GlbQkvRefIdeal.τ).loc Cert.GlbQkvRefIdeal.main_arg1) = m ((c.tc : Thread Cert.GlbQkvRefIdeal.nD Cert.GlbQkvRefIdeal.τ).loc Cert.GlbQkvRefIdeal.main_arg1)
      ∧ r.2.mem ((c.tc : Thread Cert.GlbQkvRefIdeal.nD Cert.GlbQkvRefIdeal.τ).loc Cert.GlbQkvRefIdeal.main_arg2) = m ((c.tc : Thread Cert.GlbQkvRefIdeal.nD Cert.GlbQkvRefIdeal.τ).loc Cert.GlbQkvRefIdeal.main_arg2)
      ∧ r.2.mem ((c.tc : Thread Cert.GlbQkvRefIdeal.nD Cert.GlbQkvRefIdeal.τ).loc Cert.GlbQkvRefIdeal.main_arg3) = m ((c.tc : Thread Cert.GlbQkvRefIdeal.nD Cert.GlbQkvRefIdeal.τ).loc Cert.GlbQkvRefIdeal.main_arg3)
      ∧ r.2.mem ((c.tc : Thread Cert.GlbQkvRefIdeal.nD Cert.GlbQkvRefIdeal.τ).loc Cert.GlbQkvRefIdeal.main_arg4) = m ((c.tc : Thread Cert.GlbQkvRefIdeal.nD Cert.GlbQkvRefIdeal.τ).loc Cert.GlbQkvRefIdeal.main_arg4)
      ∧ r.2.mem ((c.tc : Thread Cert.GlbQkvRefIdeal.nD Cert.GlbQkvRefIdeal.τ).loc Cert.GlbQkvRefIdeal.main_arg5) = m ((c.tc : Thread Cert.GlbQkvRefIdeal.nD Cert.GlbQkvRefIdeal.τ).loc Cert.GlbQkvRefIdeal.main_arg5))
      ∧ r.2.sem = fun _ => 0)

def preserves_WinMlp_WinMlpIdeal : Prop :=
  IdealRules.named_const.Statement Cert.WinMlpIdeal.κ "inv_sqrt_2" .f32 0x3F3504F3#32 (((Real.sqrt 2)⁻¹ : ℝ) : EReal)

def preserves_GlbMlp_GlbMlpIdeal : Prop :=
  IdealRules.named_const.Statement Cert.GlbMlpIdeal.κ "inv_sqrt_2" .f32 0x3F3504F3#32 (((Real.sqrt 2)⁻¹ : ℝ) : EReal)

def preserves_WinQkv_WinQkvIdeal : Prop :=
  True

def preserves_GlbQkv_GlbQkvIdeal : Prop :=
  True

def algebraic_WinMlpIdeal_WinMlpRefIdeal [hWinMlpIdeal : Cert.WinMlpIdeal.Facts] [hWinMlpRefIdeal : Cert.WinMlpRefIdeal.Facts] : Prop :=
  ∀ (m : (ℓ : Loc Cert.WinMlpIdeal.nD Cert.WinMlpIdeal.τ Cert.WinMlpIdeal.sig) → Buf (Elt Ideal) ℓ) (g : Dev Cert.WinMlpIdeal.nD → PrngReg)
    (m' : (ℓ : Loc Cert.WinMlpRefIdeal.nD Cert.WinMlpRefIdeal.τ Cert.WinMlpRefIdeal.sig) → Buf (Elt Ideal) ℓ) (g' : Dev Cert.WinMlpRefIdeal.nD → PrngReg), Pre_WinMlpIdeal m →
    (∀ c : Dev Cert.WinMlpIdeal.nD,
      m' ((c.tc : Thread Cert.WinMlpRefIdeal.nD Cert.WinMlpRefIdeal.τ).loc Cert.WinMlpRefIdeal.main_arg0) = m ((c.tc : Thread Cert.WinMlpIdeal.nD Cert.WinMlpIdeal.τ).loc Cert.WinMlpIdeal.main_arg0)
      ∧ m' ((c.tc : Thread Cert.WinMlpRefIdeal.nD Cert.WinMlpRefIdeal.τ).loc Cert.WinMlpRefIdeal.main_arg1) = m ((c.tc : Thread Cert.WinMlpIdeal.nD Cert.WinMlpIdeal.τ).loc Cert.WinMlpIdeal.main_arg1)
      ∧ m' ((c.tc : Thread Cert.WinMlpRefIdeal.nD Cert.WinMlpRefIdeal.τ).loc Cert.WinMlpRefIdeal.main_arg2) = m ((c.tc : Thread Cert.WinMlpIdeal.nD Cert.WinMlpIdeal.τ).loc Cert.WinMlpIdeal.main_arg2)
      ∧ m' ((c.tc : Thread Cert.WinMlpRefIdeal.nD Cert.WinMlpRefIdeal.τ).loc Cert.WinMlpRefIdeal.main_arg3) = m ((c.tc : Thread Cert.WinMlpIdeal.nD Cert.WinMlpIdeal.τ).loc Cert.WinMlpIdeal.main_arg3)
      ∧ m' ((c.tc : Thread Cert.WinMlpRefIdeal.nD Cert.WinMlpRefIdeal.τ).loc Cert.WinMlpRefIdeal.main_arg4) = m ((c.tc : Thread Cert.WinMlpIdeal.nD Cert.WinMlpIdeal.τ).loc Cert.WinMlpIdeal.main_arg4)
      ∧ m' ((c.tc : Thread Cert.WinMlpRefIdeal.nD Cert.WinMlpRefIdeal.τ).loc Cert.WinMlpRefIdeal.main_arg5) = m ((c.tc : Thread Cert.WinMlpIdeal.nD Cert.WinMlpIdeal.τ).loc Cert.WinMlpIdeal.main_arg5)
      ∧ m' ((c.tc : Thread Cert.WinMlpRefIdeal.nD Cert.WinMlpRefIdeal.τ).loc Cert.WinMlpRefIdeal.main_arg6) = m ((c.tc : Thread Cert.WinMlpIdeal.nD Cert.WinMlpIdeal.τ).loc Cert.WinMlpIdeal.main_arg6)
      ∧ m' ((c.tc : Thread Cert.WinMlpRefIdeal.nD Cert.WinMlpRefIdeal.τ).loc Cert.WinMlpRefIdeal.main_arg7) = m ((c.tc : Thread Cert.WinMlpIdeal.nD Cert.WinMlpIdeal.τ).loc Cert.WinMlpIdeal.main_arg7)
      ∧ m' ((c.tc : Thread Cert.WinMlpRefIdeal.nD Cert.WinMlpRefIdeal.τ).loc Cert.WinMlpRefIdeal.main_arg8) = m ((c.tc : Thread Cert.WinMlpIdeal.nD Cert.WinMlpIdeal.τ).loc Cert.WinMlpIdeal.main_arg8)
      ∧ m' ((c.tc : Thread Cert.WinMlpRefIdeal.nD Cert.WinMlpRefIdeal.τ).loc Cert.WinMlpRefIdeal.main_arg9) = m ((c.tc : Thread Cert.WinMlpIdeal.nD Cert.WinMlpIdeal.τ).loc Cert.WinMlpIdeal.main_arg9)
      ∧ m' ((c.tc : Thread Cert.WinMlpRefIdeal.nD Cert.WinMlpRefIdeal.τ).loc Cert.WinMlpRefIdeal.main_arg10) = m ((c.tc : Thread Cert.WinMlpIdeal.nD Cert.WinMlpIdeal.τ).loc Cert.WinMlpIdeal.main_arg10)
      ∧ m' ((c.tc : Thread Cert.WinMlpRefIdeal.nD Cert.WinMlpRefIdeal.τ).loc Cert.WinMlpRefIdeal.main_arg11) = m ((c.tc : Thread Cert.WinMlpIdeal.nD Cert.WinMlpIdeal.τ).loc Cert.WinMlpIdeal.main_arg11)
      ∧ m' ((c.tc : Thread Cert.WinMlpRefIdeal.nD Cert.WinMlpRefIdeal.τ).loc Cert.WinMlpRefIdeal.main_arg12) = m ((c.tc : Thread Cert.WinMlpIdeal.nD Cert.WinMlpIdeal.τ).loc Cert.WinMlpIdeal.main_arg12)) →
    ∃ (v0 : (c : Dev Cert.WinMlpIdeal.nD) → Buf (Elt Ideal) ((c.tc : Thread Cert.WinMlpIdeal.nD Cert.WinMlpIdeal.τ).loc Cert.WinMlpIdeal.main_v8_0)) (v1 : (c : Dev Cert.WinMlpIdeal.nD) → Buf (Elt Ideal) ((c.tc : Thread Cert.WinMlpIdeal.nD Cert.WinMlpIdeal.τ).loc Cert.WinMlpIdeal.main_v8_1)) (v2 : (c : Dev Cert.WinMlpIdeal.nD) → Buf (Elt Ideal) ((c.tc : Thread Cert.WinMlpIdeal.nD Cert.WinMlpIdeal.τ).loc Cert.WinMlpIdeal.main_v8_2)) (v3 : (c : Dev Cert.WinMlpIdeal.nD) → Buf (Elt Ideal) ((c.tc : Thread Cert.WinMlpIdeal.nD Cert.WinMlpIdeal.τ).loc Cert.WinMlpIdeal.main_v8_3)) (v4 : (c : Dev Cert.WinMlpIdeal.nD) → Buf (Elt Ideal) ((c.tc : Thread Cert.WinMlpIdeal.nD Cert.WinMlpIdeal.τ).loc Cert.WinMlpIdeal.main_v8_4)) (v5 : (c : Dev Cert.WinMlpIdeal.nD) → Buf (Elt Ideal) ((c.tc : Thread Cert.WinMlpIdeal.nD Cert.WinMlpIdeal.τ).loc Cert.WinMlpIdeal.main_v8_5)) (v6 : (c : Dev Cert.WinMlpIdeal.nD) → Buf (Elt Ideal) ((c.tc : Thread Cert.WinMlpIdeal.nD Cert.WinMlpIdeal.τ).loc Cert.WinMlpIdeal.main_v8_6)),
      θ_run (Cert.WinMlpIdeal.defs (F := Ideal)) (onTc (τ := Cert.WinMlpIdeal.τ) (Cert.WinMlpIdeal.main (F := Ideal))) ⟨m, fun _ => 0, g⟩ (fun r => ∀ c : Dev Cert.WinMlpIdeal.nD,
          r.2.mem ((c.tc : Thread Cert.WinMlpIdeal.nD Cert.WinMlpIdeal.τ).loc Cert.WinMlpIdeal.main_v8_0) = v0 c
          ∧ r.2.mem ((c.tc : Thread Cert.WinMlpIdeal.nD Cert.WinMlpIdeal.τ).loc Cert.WinMlpIdeal.main_v8_1) = v1 c
          ∧ r.2.mem ((c.tc : Thread Cert.WinMlpIdeal.nD Cert.WinMlpIdeal.τ).loc Cert.WinMlpIdeal.main_v8_2) = v2 c
          ∧ r.2.mem ((c.tc : Thread Cert.WinMlpIdeal.nD Cert.WinMlpIdeal.τ).loc Cert.WinMlpIdeal.main_v8_3) = v3 c
          ∧ r.2.mem ((c.tc : Thread Cert.WinMlpIdeal.nD Cert.WinMlpIdeal.τ).loc Cert.WinMlpIdeal.main_v8_4) = v4 c
          ∧ r.2.mem ((c.tc : Thread Cert.WinMlpIdeal.nD Cert.WinMlpIdeal.τ).loc Cert.WinMlpIdeal.main_v8_5) = v5 c
          ∧ r.2.mem ((c.tc : Thread Cert.WinMlpIdeal.nD Cert.WinMlpIdeal.τ).loc Cert.WinMlpIdeal.main_v8_6) = v6 c
          ∧ r.2.mem ((c.tc : Thread Cert.WinMlpIdeal.nD Cert.WinMlpIdeal.τ).loc Cert.WinMlpIdeal.main_arg0) = m ((c.tc : Thread Cert.WinMlpIdeal.nD Cert.WinMlpIdeal.τ).loc Cert.WinMlpIdeal.main_arg0)
          ∧ r.2.mem ((c.tc : Thread Cert.WinMlpIdeal.nD Cert.WinMlpIdeal.τ).loc Cert.WinMlpIdeal.main_arg1) = m ((c.tc : Thread Cert.WinMlpIdeal.nD Cert.WinMlpIdeal.τ).loc Cert.WinMlpIdeal.main_arg1)
          ∧ r.2.mem ((c.tc : Thread Cert.WinMlpIdeal.nD Cert.WinMlpIdeal.τ).loc Cert.WinMlpIdeal.main_arg2) = m ((c.tc : Thread Cert.WinMlpIdeal.nD Cert.WinMlpIdeal.τ).loc Cert.WinMlpIdeal.main_arg2)
          ∧ r.2.mem ((c.tc : Thread Cert.WinMlpIdeal.nD Cert.WinMlpIdeal.τ).loc Cert.WinMlpIdeal.main_arg3) = m ((c.tc : Thread Cert.WinMlpIdeal.nD Cert.WinMlpIdeal.τ).loc Cert.WinMlpIdeal.main_arg3)
          ∧ r.2.mem ((c.tc : Thread Cert.WinMlpIdeal.nD Cert.WinMlpIdeal.τ).loc Cert.WinMlpIdeal.main_arg4) = m ((c.tc : Thread Cert.WinMlpIdeal.nD Cert.WinMlpIdeal.τ).loc Cert.WinMlpIdeal.main_arg4)
          ∧ r.2.mem ((c.tc : Thread Cert.WinMlpIdeal.nD Cert.WinMlpIdeal.τ).loc Cert.WinMlpIdeal.main_arg5) = m ((c.tc : Thread Cert.WinMlpIdeal.nD Cert.WinMlpIdeal.τ).loc Cert.WinMlpIdeal.main_arg5)
          ∧ r.2.mem ((c.tc : Thread Cert.WinMlpIdeal.nD Cert.WinMlpIdeal.τ).loc Cert.WinMlpIdeal.main_arg6) = m ((c.tc : Thread Cert.WinMlpIdeal.nD Cert.WinMlpIdeal.τ).loc Cert.WinMlpIdeal.main_arg6)
          ∧ r.2.mem ((c.tc : Thread Cert.WinMlpIdeal.nD Cert.WinMlpIdeal.τ).loc Cert.WinMlpIdeal.main_arg7) = m ((c.tc : Thread Cert.WinMlpIdeal.nD Cert.WinMlpIdeal.τ).loc Cert.WinMlpIdeal.main_arg7)
          ∧ r.2.mem ((c.tc : Thread Cert.WinMlpIdeal.nD Cert.WinMlpIdeal.τ).loc Cert.WinMlpIdeal.main_arg8) = m ((c.tc : Thread Cert.WinMlpIdeal.nD Cert.WinMlpIdeal.τ).loc Cert.WinMlpIdeal.main_arg8)
          ∧ r.2.mem ((c.tc : Thread Cert.WinMlpIdeal.nD Cert.WinMlpIdeal.τ).loc Cert.WinMlpIdeal.main_arg9) = m ((c.tc : Thread Cert.WinMlpIdeal.nD Cert.WinMlpIdeal.τ).loc Cert.WinMlpIdeal.main_arg9)
          ∧ r.2.mem ((c.tc : Thread Cert.WinMlpIdeal.nD Cert.WinMlpIdeal.τ).loc Cert.WinMlpIdeal.main_arg10) = m ((c.tc : Thread Cert.WinMlpIdeal.nD Cert.WinMlpIdeal.τ).loc Cert.WinMlpIdeal.main_arg10)
          ∧ r.2.mem ((c.tc : Thread Cert.WinMlpIdeal.nD Cert.WinMlpIdeal.τ).loc Cert.WinMlpIdeal.main_arg11) = m ((c.tc : Thread Cert.WinMlpIdeal.nD Cert.WinMlpIdeal.τ).loc Cert.WinMlpIdeal.main_arg11)
          ∧ r.2.mem ((c.tc : Thread Cert.WinMlpIdeal.nD Cert.WinMlpIdeal.τ).loc Cert.WinMlpIdeal.main_arg12) = m ((c.tc : Thread Cert.WinMlpIdeal.nD Cert.WinMlpIdeal.τ).loc Cert.WinMlpIdeal.main_arg12))
      ∧ θ_run (Cert.WinMlpRefIdeal.defs (F := Ideal)) (onTc (τ := Cert.WinMlpRefIdeal.τ) (Cert.WinMlpRefIdeal.main (F := Ideal))) ⟨m', fun _ => 0, g'⟩ (fun r => ∀ c : Dev Cert.WinMlpRefIdeal.nD,
          r.2.mem ((c.tc : Thread Cert.WinMlpRefIdeal.nD Cert.WinMlpRefIdeal.τ).loc Cert.WinMlpRefIdeal.main_v8_0) = v0 c
          ∧ r.2.mem ((c.tc : Thread Cert.WinMlpRefIdeal.nD Cert.WinMlpRefIdeal.τ).loc Cert.WinMlpRefIdeal.main_v8_1) = v1 c
          ∧ r.2.mem ((c.tc : Thread Cert.WinMlpRefIdeal.nD Cert.WinMlpRefIdeal.τ).loc Cert.WinMlpRefIdeal.main_v8_2) = v2 c
          ∧ r.2.mem ((c.tc : Thread Cert.WinMlpRefIdeal.nD Cert.WinMlpRefIdeal.τ).loc Cert.WinMlpRefIdeal.main_v8_3) = v3 c
          ∧ r.2.mem ((c.tc : Thread Cert.WinMlpRefIdeal.nD Cert.WinMlpRefIdeal.τ).loc Cert.WinMlpRefIdeal.main_v8_4) = v4 c
          ∧ r.2.mem ((c.tc : Thread Cert.WinMlpRefIdeal.nD Cert.WinMlpRefIdeal.τ).loc Cert.WinMlpRefIdeal.main_v8_5) = v5 c
          ∧ r.2.mem ((c.tc : Thread Cert.WinMlpRefIdeal.nD Cert.WinMlpRefIdeal.τ).loc Cert.WinMlpRefIdeal.main_v8_6) = v6 c
          ∧ r.2.mem ((c.tc : Thread Cert.WinMlpRefIdeal.nD Cert.WinMlpRefIdeal.τ).loc Cert.WinMlpRefIdeal.main_arg0) = m' ((c.tc : Thread Cert.WinMlpRefIdeal.nD Cert.WinMlpRefIdeal.τ).loc Cert.WinMlpRefIdeal.main_arg0)
          ∧ r.2.mem ((c.tc : Thread Cert.WinMlpRefIdeal.nD Cert.WinMlpRefIdeal.τ).loc Cert.WinMlpRefIdeal.main_arg1) = m' ((c.tc : Thread Cert.WinMlpRefIdeal.nD Cert.WinMlpRefIdeal.τ).loc Cert.WinMlpRefIdeal.main_arg1)
          ∧ r.2.mem ((c.tc : Thread Cert.WinMlpRefIdeal.nD Cert.WinMlpRefIdeal.τ).loc Cert.WinMlpRefIdeal.main_arg2) = m' ((c.tc : Thread Cert.WinMlpRefIdeal.nD Cert.WinMlpRefIdeal.τ).loc Cert.WinMlpRefIdeal.main_arg2)
          ∧ r.2.mem ((c.tc : Thread Cert.WinMlpRefIdeal.nD Cert.WinMlpRefIdeal.τ).loc Cert.WinMlpRefIdeal.main_arg3) = m' ((c.tc : Thread Cert.WinMlpRefIdeal.nD Cert.WinMlpRefIdeal.τ).loc Cert.WinMlpRefIdeal.main_arg3)
          ∧ r.2.mem ((c.tc : Thread Cert.WinMlpRefIdeal.nD Cert.WinMlpRefIdeal.τ).loc Cert.WinMlpRefIdeal.main_arg4) = m' ((c.tc : Thread Cert.WinMlpRefIdeal.nD Cert.WinMlpRefIdeal.τ).loc Cert.WinMlpRefIdeal.main_arg4)
          ∧ r.2.mem ((c.tc : Thread Cert.WinMlpRefIdeal.nD Cert.WinMlpRefIdeal.τ).loc Cert.WinMlpRefIdeal.main_arg5) = m' ((c.tc : Thread Cert.WinMlpRefIdeal.nD Cert.WinMlpRefIdeal.τ).loc Cert.WinMlpRefIdeal.main_arg5)
          ∧ r.2.mem ((c.tc : Thread Cert.WinMlpRefIdeal.nD Cert.WinMlpRefIdeal.τ).loc Cert.WinMlpRefIdeal.main_arg6) = m' ((c.tc : Thread Cert.WinMlpRefIdeal.nD Cert.WinMlpRefIdeal.τ).loc Cert.WinMlpRefIdeal.main_arg6)
          ∧ r.2.mem ((c.tc : Thread Cert.WinMlpRefIdeal.nD Cert.WinMlpRefIdeal.τ).loc Cert.WinMlpRefIdeal.main_arg7) = m' ((c.tc : Thread Cert.WinMlpRefIdeal.nD Cert.WinMlpRefIdeal.τ).loc Cert.WinMlpRefIdeal.main_arg7)
          ∧ r.2.mem ((c.tc : Thread Cert.WinMlpRefIdeal.nD Cert.WinMlpRefIdeal.τ).loc Cert.WinMlpRefIdeal.main_arg8) = m' ((c.tc : Thread Cert.WinMlpRefIdeal.nD Cert.WinMlpRefIdeal.τ).loc Cert.WinMlpRefIdeal.main_arg8)
          ∧ r.2.mem ((c.tc : Thread Cert.WinMlpRefIdeal.nD Cert.WinMlpRefIdeal.τ).loc Cert.WinMlpRefIdeal.main_arg9) = m' ((c.tc : Thread Cert.WinMlpRefIdeal.nD Cert.WinMlpRefIdeal.τ).loc Cert.WinMlpRefIdeal.main_arg9)
          ∧ r.2.mem ((c.tc : Thread Cert.WinMlpRefIdeal.nD Cert.WinMlpRefIdeal.τ).loc Cert.WinMlpRefIdeal.main_arg10) = m' ((c.tc : Thread Cert.WinMlpRefIdeal.nD Cert.WinMlpRefIdeal.τ).loc Cert.WinMlpRefIdeal.main_arg10)
          ∧ r.2.mem ((c.tc : Thread Cert.WinMlpRefIdeal.nD Cert.WinMlpRefIdeal.τ).loc Cert.WinMlpRefIdeal.main_arg11) = m' ((c.tc : Thread Cert.WinMlpRefIdeal.nD Cert.WinMlpRefIdeal.τ).loc Cert.WinMlpRefIdeal.main_arg11)
          ∧ r.2.mem ((c.tc : Thread Cert.WinMlpRefIdeal.nD Cert.WinMlpRefIdeal.τ).loc Cert.WinMlpRefIdeal.main_arg12) = m' ((c.tc : Thread Cert.WinMlpRefIdeal.nD Cert.WinMlpRefIdeal.τ).loc Cert.WinMlpRefIdeal.main_arg12))

def algebraic_GlbMlpIdeal_GlbMlpRefIdeal [hGlbMlpIdeal : Cert.GlbMlpIdeal.Facts] [hGlbMlpRefIdeal : Cert.GlbMlpRefIdeal.Facts] : Prop :=
  ∀ (m : (ℓ : Loc Cert.GlbMlpIdeal.nD Cert.GlbMlpIdeal.τ Cert.GlbMlpIdeal.sig) → Buf (Elt Ideal) ℓ) (g : Dev Cert.GlbMlpIdeal.nD → PrngReg)
    (m' : (ℓ : Loc Cert.GlbMlpRefIdeal.nD Cert.GlbMlpRefIdeal.τ Cert.GlbMlpRefIdeal.sig) → Buf (Elt Ideal) ℓ) (g' : Dev Cert.GlbMlpRefIdeal.nD → PrngReg), Pre_GlbMlpIdeal m →
    (∀ c : Dev Cert.GlbMlpIdeal.nD,
      m' ((c.tc : Thread Cert.GlbMlpRefIdeal.nD Cert.GlbMlpRefIdeal.τ).loc Cert.GlbMlpRefIdeal.main_arg0) = m ((c.tc : Thread Cert.GlbMlpIdeal.nD Cert.GlbMlpIdeal.τ).loc Cert.GlbMlpIdeal.main_arg0)
      ∧ m' ((c.tc : Thread Cert.GlbMlpRefIdeal.nD Cert.GlbMlpRefIdeal.τ).loc Cert.GlbMlpRefIdeal.main_arg1) = m ((c.tc : Thread Cert.GlbMlpIdeal.nD Cert.GlbMlpIdeal.τ).loc Cert.GlbMlpIdeal.main_arg1)
      ∧ m' ((c.tc : Thread Cert.GlbMlpRefIdeal.nD Cert.GlbMlpRefIdeal.τ).loc Cert.GlbMlpRefIdeal.main_arg2) = m ((c.tc : Thread Cert.GlbMlpIdeal.nD Cert.GlbMlpIdeal.τ).loc Cert.GlbMlpIdeal.main_arg2)
      ∧ m' ((c.tc : Thread Cert.GlbMlpRefIdeal.nD Cert.GlbMlpRefIdeal.τ).loc Cert.GlbMlpRefIdeal.main_arg3) = m ((c.tc : Thread Cert.GlbMlpIdeal.nD Cert.GlbMlpIdeal.τ).loc Cert.GlbMlpIdeal.main_arg3)
      ∧ m' ((c.tc : Thread Cert.GlbMlpRefIdeal.nD Cert.GlbMlpRefIdeal.τ).loc Cert.GlbMlpRefIdeal.main_arg4) = m ((c.tc : Thread Cert.GlbMlpIdeal.nD Cert.GlbMlpIdeal.τ).loc Cert.GlbMlpIdeal.main_arg4)
      ∧ m' ((c.tc : Thread Cert.GlbMlpRefIdeal.nD Cert.GlbMlpRefIdeal.τ).loc Cert.GlbMlpRefIdeal.main_arg5) = m ((c.tc : Thread Cert.GlbMlpIdeal.nD Cert.GlbMlpIdeal.τ).loc Cert.GlbMlpIdeal.main_arg5)
      ∧ m' ((c.tc : Thread Cert.GlbMlpRefIdeal.nD Cert.GlbMlpRefIdeal.τ).loc Cert.GlbMlpRefIdeal.main_arg6) = m ((c.tc : Thread Cert.GlbMlpIdeal.nD Cert.GlbMlpIdeal.τ).loc Cert.GlbMlpIdeal.main_arg6)
      ∧ m' ((c.tc : Thread Cert.GlbMlpRefIdeal.nD Cert.GlbMlpRefIdeal.τ).loc Cert.GlbMlpRefIdeal.main_arg7) = m ((c.tc : Thread Cert.GlbMlpIdeal.nD Cert.GlbMlpIdeal.τ).loc Cert.GlbMlpIdeal.main_arg7)
      ∧ m' ((c.tc : Thread Cert.GlbMlpRefIdeal.nD Cert.GlbMlpRefIdeal.τ).loc Cert.GlbMlpRefIdeal.main_arg8) = m ((c.tc : Thread Cert.GlbMlpIdeal.nD Cert.GlbMlpIdeal.τ).loc Cert.GlbMlpIdeal.main_arg8)
      ∧ m' ((c.tc : Thread Cert.GlbMlpRefIdeal.nD Cert.GlbMlpRefIdeal.τ).loc Cert.GlbMlpRefIdeal.main_arg9) = m ((c.tc : Thread Cert.GlbMlpIdeal.nD Cert.GlbMlpIdeal.τ).loc Cert.GlbMlpIdeal.main_arg9)
      ∧ m' ((c.tc : Thread Cert.GlbMlpRefIdeal.nD Cert.GlbMlpRefIdeal.τ).loc Cert.GlbMlpRefIdeal.main_arg10) = m ((c.tc : Thread Cert.GlbMlpIdeal.nD Cert.GlbMlpIdeal.τ).loc Cert.GlbMlpIdeal.main_arg10)
      ∧ m' ((c.tc : Thread Cert.GlbMlpRefIdeal.nD Cert.GlbMlpRefIdeal.τ).loc Cert.GlbMlpRefIdeal.main_arg11) = m ((c.tc : Thread Cert.GlbMlpIdeal.nD Cert.GlbMlpIdeal.τ).loc Cert.GlbMlpIdeal.main_arg11)
      ∧ m' ((c.tc : Thread Cert.GlbMlpRefIdeal.nD Cert.GlbMlpRefIdeal.τ).loc Cert.GlbMlpRefIdeal.main_arg12) = m ((c.tc : Thread Cert.GlbMlpIdeal.nD Cert.GlbMlpIdeal.τ).loc Cert.GlbMlpIdeal.main_arg12)) →
    ∃ (v0 : (c : Dev Cert.GlbMlpIdeal.nD) → Buf (Elt Ideal) ((c.tc : Thread Cert.GlbMlpIdeal.nD Cert.GlbMlpIdeal.τ).loc Cert.GlbMlpIdeal.main_v8_0)) (v1 : (c : Dev Cert.GlbMlpIdeal.nD) → Buf (Elt Ideal) ((c.tc : Thread Cert.GlbMlpIdeal.nD Cert.GlbMlpIdeal.τ).loc Cert.GlbMlpIdeal.main_v8_1)) (v2 : (c : Dev Cert.GlbMlpIdeal.nD) → Buf (Elt Ideal) ((c.tc : Thread Cert.GlbMlpIdeal.nD Cert.GlbMlpIdeal.τ).loc Cert.GlbMlpIdeal.main_v8_2)) (v3 : (c : Dev Cert.GlbMlpIdeal.nD) → Buf (Elt Ideal) ((c.tc : Thread Cert.GlbMlpIdeal.nD Cert.GlbMlpIdeal.τ).loc Cert.GlbMlpIdeal.main_v8_3)) (v4 : (c : Dev Cert.GlbMlpIdeal.nD) → Buf (Elt Ideal) ((c.tc : Thread Cert.GlbMlpIdeal.nD Cert.GlbMlpIdeal.τ).loc Cert.GlbMlpIdeal.main_v8_4)) (v5 : (c : Dev Cert.GlbMlpIdeal.nD) → Buf (Elt Ideal) ((c.tc : Thread Cert.GlbMlpIdeal.nD Cert.GlbMlpIdeal.τ).loc Cert.GlbMlpIdeal.main_v8_5)) (v6 : (c : Dev Cert.GlbMlpIdeal.nD) → Buf (Elt Ideal) ((c.tc : Thread Cert.GlbMlpIdeal.nD Cert.GlbMlpIdeal.τ).loc Cert.GlbMlpIdeal.main_v8_6)),
      θ_run (Cert.GlbMlpIdeal.defs (F := Ideal)) (onTc (τ := Cert.GlbMlpIdeal.τ) (Cert.GlbMlpIdeal.main (F := Ideal))) ⟨m, fun _ => 0, g⟩ (fun r => ∀ c : Dev Cert.GlbMlpIdeal.nD,
          r.2.mem ((c.tc : Thread Cert.GlbMlpIdeal.nD Cert.GlbMlpIdeal.τ).loc Cert.GlbMlpIdeal.main_v8_0) = v0 c
          ∧ r.2.mem ((c.tc : Thread Cert.GlbMlpIdeal.nD Cert.GlbMlpIdeal.τ).loc Cert.GlbMlpIdeal.main_v8_1) = v1 c
          ∧ r.2.mem ((c.tc : Thread Cert.GlbMlpIdeal.nD Cert.GlbMlpIdeal.τ).loc Cert.GlbMlpIdeal.main_v8_2) = v2 c
          ∧ r.2.mem ((c.tc : Thread Cert.GlbMlpIdeal.nD Cert.GlbMlpIdeal.τ).loc Cert.GlbMlpIdeal.main_v8_3) = v3 c
          ∧ r.2.mem ((c.tc : Thread Cert.GlbMlpIdeal.nD Cert.GlbMlpIdeal.τ).loc Cert.GlbMlpIdeal.main_v8_4) = v4 c
          ∧ r.2.mem ((c.tc : Thread Cert.GlbMlpIdeal.nD Cert.GlbMlpIdeal.τ).loc Cert.GlbMlpIdeal.main_v8_5) = v5 c
          ∧ r.2.mem ((c.tc : Thread Cert.GlbMlpIdeal.nD Cert.GlbMlpIdeal.τ).loc Cert.GlbMlpIdeal.main_v8_6) = v6 c
          ∧ r.2.mem ((c.tc : Thread Cert.GlbMlpIdeal.nD Cert.GlbMlpIdeal.τ).loc Cert.GlbMlpIdeal.main_arg0) = m ((c.tc : Thread Cert.GlbMlpIdeal.nD Cert.GlbMlpIdeal.τ).loc Cert.GlbMlpIdeal.main_arg0)
          ∧ r.2.mem ((c.tc : Thread Cert.GlbMlpIdeal.nD Cert.GlbMlpIdeal.τ).loc Cert.GlbMlpIdeal.main_arg1) = m ((c.tc : Thread Cert.GlbMlpIdeal.nD Cert.GlbMlpIdeal.τ).loc Cert.GlbMlpIdeal.main_arg1)
          ∧ r.2.mem ((c.tc : Thread Cert.GlbMlpIdeal.nD Cert.GlbMlpIdeal.τ).loc Cert.GlbMlpIdeal.main_arg2) = m ((c.tc : Thread Cert.GlbMlpIdeal.nD Cert.GlbMlpIdeal.τ).loc Cert.GlbMlpIdeal.main_arg2)
          ∧ r.2.mem ((c.tc : Thread Cert.GlbMlpIdeal.nD Cert.GlbMlpIdeal.τ).loc Cert.GlbMlpIdeal.main_arg3) = m ((c.tc : Thread Cert.GlbMlpIdeal.nD Cert.GlbMlpIdeal.τ).loc Cert.GlbMlpIdeal.main_arg3)
          ∧ r.2.mem ((c.tc : Thread Cert.GlbMlpIdeal.nD Cert.GlbMlpIdeal.τ).loc Cert.GlbMlpIdeal.main_arg4) = m ((c.tc : Thread Cert.GlbMlpIdeal.nD Cert.GlbMlpIdeal.τ).loc Cert.GlbMlpIdeal.main_arg4)
          ∧ r.2.mem ((c.tc : Thread Cert.GlbMlpIdeal.nD Cert.GlbMlpIdeal.τ).loc Cert.GlbMlpIdeal.main_arg5) = m ((c.tc : Thread Cert.GlbMlpIdeal.nD Cert.GlbMlpIdeal.τ).loc Cert.GlbMlpIdeal.main_arg5)
          ∧ r.2.mem ((c.tc : Thread Cert.GlbMlpIdeal.nD Cert.GlbMlpIdeal.τ).loc Cert.GlbMlpIdeal.main_arg6) = m ((c.tc : Thread Cert.GlbMlpIdeal.nD Cert.GlbMlpIdeal.τ).loc Cert.GlbMlpIdeal.main_arg6)
          ∧ r.2.mem ((c.tc : Thread Cert.GlbMlpIdeal.nD Cert.GlbMlpIdeal.τ).loc Cert.GlbMlpIdeal.main_arg7) = m ((c.tc : Thread Cert.GlbMlpIdeal.nD Cert.GlbMlpIdeal.τ).loc Cert.GlbMlpIdeal.main_arg7)
          ∧ r.2.mem ((c.tc : Thread Cert.GlbMlpIdeal.nD Cert.GlbMlpIdeal.τ).loc Cert.GlbMlpIdeal.main_arg8) = m ((c.tc : Thread Cert.GlbMlpIdeal.nD Cert.GlbMlpIdeal.τ).loc Cert.GlbMlpIdeal.main_arg8)
          ∧ r.2.mem ((c.tc : Thread Cert.GlbMlpIdeal.nD Cert.GlbMlpIdeal.τ).loc Cert.GlbMlpIdeal.main_arg9) = m ((c.tc : Thread Cert.GlbMlpIdeal.nD Cert.GlbMlpIdeal.τ).loc Cert.GlbMlpIdeal.main_arg9)
          ∧ r.2.mem ((c.tc : Thread Cert.GlbMlpIdeal.nD Cert.GlbMlpIdeal.τ).loc Cert.GlbMlpIdeal.main_arg10) = m ((c.tc : Thread Cert.GlbMlpIdeal.nD Cert.GlbMlpIdeal.τ).loc Cert.GlbMlpIdeal.main_arg10)
          ∧ r.2.mem ((c.tc : Thread Cert.GlbMlpIdeal.nD Cert.GlbMlpIdeal.τ).loc Cert.GlbMlpIdeal.main_arg11) = m ((c.tc : Thread Cert.GlbMlpIdeal.nD Cert.GlbMlpIdeal.τ).loc Cert.GlbMlpIdeal.main_arg11)
          ∧ r.2.mem ((c.tc : Thread Cert.GlbMlpIdeal.nD Cert.GlbMlpIdeal.τ).loc Cert.GlbMlpIdeal.main_arg12) = m ((c.tc : Thread Cert.GlbMlpIdeal.nD Cert.GlbMlpIdeal.τ).loc Cert.GlbMlpIdeal.main_arg12))
      ∧ θ_run (Cert.GlbMlpRefIdeal.defs (F := Ideal)) (onTc (τ := Cert.GlbMlpRefIdeal.τ) (Cert.GlbMlpRefIdeal.main (F := Ideal))) ⟨m', fun _ => 0, g'⟩ (fun r => ∀ c : Dev Cert.GlbMlpRefIdeal.nD,
          r.2.mem ((c.tc : Thread Cert.GlbMlpRefIdeal.nD Cert.GlbMlpRefIdeal.τ).loc Cert.GlbMlpRefIdeal.main_v10_0) = v0 c
          ∧ r.2.mem ((c.tc : Thread Cert.GlbMlpRefIdeal.nD Cert.GlbMlpRefIdeal.τ).loc Cert.GlbMlpRefIdeal.main_v10_1) = v1 c
          ∧ r.2.mem ((c.tc : Thread Cert.GlbMlpRefIdeal.nD Cert.GlbMlpRefIdeal.τ).loc Cert.GlbMlpRefIdeal.main_v10_2) = v2 c
          ∧ r.2.mem ((c.tc : Thread Cert.GlbMlpRefIdeal.nD Cert.GlbMlpRefIdeal.τ).loc Cert.GlbMlpRefIdeal.main_v10_3) = v3 c
          ∧ r.2.mem ((c.tc : Thread Cert.GlbMlpRefIdeal.nD Cert.GlbMlpRefIdeal.τ).loc Cert.GlbMlpRefIdeal.main_v10_4) = v4 c
          ∧ r.2.mem ((c.tc : Thread Cert.GlbMlpRefIdeal.nD Cert.GlbMlpRefIdeal.τ).loc Cert.GlbMlpRefIdeal.main_v10_5) = v5 c
          ∧ r.2.mem ((c.tc : Thread Cert.GlbMlpRefIdeal.nD Cert.GlbMlpRefIdeal.τ).loc Cert.GlbMlpRefIdeal.main_v10_6) = v6 c
          ∧ r.2.mem ((c.tc : Thread Cert.GlbMlpRefIdeal.nD Cert.GlbMlpRefIdeal.τ).loc Cert.GlbMlpRefIdeal.main_arg0) = m' ((c.tc : Thread Cert.GlbMlpRefIdeal.nD Cert.GlbMlpRefIdeal.τ).loc Cert.GlbMlpRefIdeal.main_arg0)
          ∧ r.2.mem ((c.tc : Thread Cert.GlbMlpRefIdeal.nD Cert.GlbMlpRefIdeal.τ).loc Cert.GlbMlpRefIdeal.main_arg1) = m' ((c.tc : Thread Cert.GlbMlpRefIdeal.nD Cert.GlbMlpRefIdeal.τ).loc Cert.GlbMlpRefIdeal.main_arg1)
          ∧ r.2.mem ((c.tc : Thread Cert.GlbMlpRefIdeal.nD Cert.GlbMlpRefIdeal.τ).loc Cert.GlbMlpRefIdeal.main_arg2) = m' ((c.tc : Thread Cert.GlbMlpRefIdeal.nD Cert.GlbMlpRefIdeal.τ).loc Cert.GlbMlpRefIdeal.main_arg2)
          ∧ r.2.mem ((c.tc : Thread Cert.GlbMlpRefIdeal.nD Cert.GlbMlpRefIdeal.τ).loc Cert.GlbMlpRefIdeal.main_arg3) = m' ((c.tc : Thread Cert.GlbMlpRefIdeal.nD Cert.GlbMlpRefIdeal.τ).loc Cert.GlbMlpRefIdeal.main_arg3)
          ∧ r.2.mem ((c.tc : Thread Cert.GlbMlpRefIdeal.nD Cert.GlbMlpRefIdeal.τ).loc Cert.GlbMlpRefIdeal.main_arg4) = m' ((c.tc : Thread Cert.GlbMlpRefIdeal.nD Cert.GlbMlpRefIdeal.τ).loc Cert.GlbMlpRefIdeal.main_arg4)
          ∧ r.2.mem ((c.tc : Thread Cert.GlbMlpRefIdeal.nD Cert.GlbMlpRefIdeal.τ).loc Cert.GlbMlpRefIdeal.main_arg5) = m' ((c.tc : Thread Cert.GlbMlpRefIdeal.nD Cert.GlbMlpRefIdeal.τ).loc Cert.GlbMlpRefIdeal.main_arg5)
          ∧ r.2.mem ((c.tc : Thread Cert.GlbMlpRefIdeal.nD Cert.GlbMlpRefIdeal.τ).loc Cert.GlbMlpRefIdeal.main_arg6) = m' ((c.tc : Thread Cert.GlbMlpRefIdeal.nD Cert.GlbMlpRefIdeal.τ).loc Cert.GlbMlpRefIdeal.main_arg6)
          ∧ r.2.mem ((c.tc : Thread Cert.GlbMlpRefIdeal.nD Cert.GlbMlpRefIdeal.τ).loc Cert.GlbMlpRefIdeal.main_arg7) = m' ((c.tc : Thread Cert.GlbMlpRefIdeal.nD Cert.GlbMlpRefIdeal.τ).loc Cert.GlbMlpRefIdeal.main_arg7)
          ∧ r.2.mem ((c.tc : Thread Cert.GlbMlpRefIdeal.nD Cert.GlbMlpRefIdeal.τ).loc Cert.GlbMlpRefIdeal.main_arg8) = m' ((c.tc : Thread Cert.GlbMlpRefIdeal.nD Cert.GlbMlpRefIdeal.τ).loc Cert.GlbMlpRefIdeal.main_arg8)
          ∧ r.2.mem ((c.tc : Thread Cert.GlbMlpRefIdeal.nD Cert.GlbMlpRefIdeal.τ).loc Cert.GlbMlpRefIdeal.main_arg9) = m' ((c.tc : Thread Cert.GlbMlpRefIdeal.nD Cert.GlbMlpRefIdeal.τ).loc Cert.GlbMlpRefIdeal.main_arg9)
          ∧ r.2.mem ((c.tc : Thread Cert.GlbMlpRefIdeal.nD Cert.GlbMlpRefIdeal.τ).loc Cert.GlbMlpRefIdeal.main_arg10) = m' ((c.tc : Thread Cert.GlbMlpRefIdeal.nD Cert.GlbMlpRefIdeal.τ).loc Cert.GlbMlpRefIdeal.main_arg10)
          ∧ r.2.mem ((c.tc : Thread Cert.GlbMlpRefIdeal.nD Cert.GlbMlpRefIdeal.τ).loc Cert.GlbMlpRefIdeal.main_arg11) = m' ((c.tc : Thread Cert.GlbMlpRefIdeal.nD Cert.GlbMlpRefIdeal.τ).loc Cert.GlbMlpRefIdeal.main_arg11)
          ∧ r.2.mem ((c.tc : Thread Cert.GlbMlpRefIdeal.nD Cert.GlbMlpRefIdeal.τ).loc Cert.GlbMlpRefIdeal.main_arg12) = m' ((c.tc : Thread Cert.GlbMlpRefIdeal.nD Cert.GlbMlpRefIdeal.τ).loc Cert.GlbMlpRefIdeal.main_arg12))

def Claim : Prop :=
  ∃ (hWinMlp : Cert.WinMlp.Facts) (hWinMlpIdeal : Cert.WinMlpIdeal.Facts) (hWinMlpRefIdeal : Cert.WinMlpRefIdeal.Facts) (hGlbMlp : Cert.GlbMlp.Facts) (hGlbMlpIdeal : Cert.GlbMlpIdeal.Facts) (hGlbMlpRefIdeal : Cert.GlbMlpRefIdeal.Facts) (hWinQkv : Cert.WinQkv.Facts) (hWinQkvIdeal : Cert.WinQkvIdeal.Facts) (hWinQkvRefIdeal : Cert.WinQkvRefIdeal.Facts) (hGlbQkv : Cert.GlbQkv.Facts) (hGlbQkvIdeal : Cert.GlbQkvIdeal.Facts) (hGlbQkvRefIdeal : Cert.GlbQkvRefIdeal.Facts),
    quiescent_WinMlp (hWinMlp := hWinMlp)
    ∧ quiescent_WinMlpIdeal (hWinMlpIdeal := hWinMlpIdeal)
    ∧ quiescent_WinMlpRefIdeal (hWinMlpRefIdeal := hWinMlpRefIdeal)
    ∧ quiescent_GlbMlp (hGlbMlp := hGlbMlp)
    ∧ quiescent_GlbMlpIdeal (hGlbMlpIdeal := hGlbMlpIdeal)
    ∧ quiescent_GlbMlpRefIdeal (hGlbMlpRefIdeal := hGlbMlpRefIdeal)
    ∧ quiescent_WinQkv (hWinQkv := hWinQkv)
    ∧ quiescent_WinQkvIdeal (hWinQkvIdeal := hWinQkvIdeal)
    ∧ quiescent_WinQkvRefIdeal (hWinQkvRefIdeal := hWinQkvRefIdeal)
    ∧ quiescent_GlbQkv (hGlbQkv := hGlbQkv)
    ∧ quiescent_GlbQkvIdeal (hGlbQkvIdeal := hGlbQkvIdeal)
    ∧ quiescent_GlbQkvRefIdeal (hGlbQkvRefIdeal := hGlbQkvRefIdeal)
    ∧ preserves_WinMlp_WinMlpIdeal
    ∧ preserves_GlbMlp_GlbMlpIdeal
    ∧ preserves_WinQkv_WinQkvIdeal
    ∧ preserves_GlbQkv_GlbQkvIdeal
    ∧ algebraic_WinMlpIdeal_WinMlpRefIdeal (hWinMlpIdeal := hWinMlpIdeal) (hWinMlpRefIdeal := hWinMlpRefIdeal)
    ∧ algebraic_GlbMlpIdeal_GlbMlpRefIdeal (hGlbMlpIdeal := hGlbMlpIdeal) (hGlbMlpRefIdeal := hGlbMlpRefIdeal)
-- ==== WinMlp.lean ====
abbrev S16384x1280 : Shape := ⟨2, ![16384, 1280]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S1x1280 : Shape := ⟨2, ![1, 1280]⟩
abbrev S1x5120 : Shape := ⟨2, ![1, 5120]⟩
abbrev S4x4096 : Shape := ⟨2, ![4, 4096]⟩
abbrev S16384x5120 : Shape := ⟨2, ![16384, 5120]⟩
abbrev S256x1280 : Shape := ⟨2, ![256, 1280]⟩
abbrev S256x5120 : Shape := ⟨2, ![256, 5120]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩
abbrev S1280x512 : Shape := ⟨2, ![1280, 512]⟩
abbrev S256x512 : Shape := ⟨2, ![256, 512]⟩
abbrev S1x512 : Shape := ⟨2, ![1, 512]⟩
abbrev S1280x256 : Shape := ⟨2, ![1280, 256]⟩
abbrev S256x256 : Shape := ⟨2, ![256, 256]⟩
abbrev S256x128 : Shape := ⟨2, ![256, 128]⟩
abbrev S5120x512 : Shape := ⟨2, ![5120, 512]⟩
abbrev S5120x256 : Shape := ⟨2, ![5120, 256]⟩

abbrev nBuf : Space → Nat
  | .hbm => 28
  | .vmem => 28
  | .smem => 0
  | _ => 0

abbrev bufTy : (tb : Table) → Fin (tcTables nBuf tb) → BufTy
  | .hbm, ⟨0, _⟩ => ⟨S16384x1280, .f32⟩
  | .hbm, ⟨1, _⟩ => ⟨S16384x1280, .bf16⟩
  | .hbm, ⟨2, _⟩ => ⟨S1280x1280, .i8⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x5120, .i8⟩
  | .hbm, ⟨8, _⟩ => ⟨S5120, .f32⟩
  | .hbm, ⟨9, _⟩ => ⟨S5120, .f32⟩
  | .hbm, ⟨10, _⟩ => ⟨S5120x1280, .i8⟩
  | .hbm, ⟨11, _⟩ => ⟨S1280, .f32⟩
  | .hbm, ⟨12, _⟩ => ⟨S1280, .f32⟩
  | .hbm, ⟨13, _⟩ => ⟨S1x1280, .f32⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S1x5120, .f32⟩
  | .hbm, ⟨18, _⟩ => ⟨S1x5120, .f32⟩
  | .hbm, ⟨19, _⟩ => ⟨S1x1280, .f32⟩
  | .hbm, ⟨20, _⟩ => ⟨S1x1280, .f32⟩
  | .hbm, ⟨21, _⟩ => ⟨S16384x1280, .f32⟩
  | .hbm, ⟨22, _⟩ => ⟨S16384x1280, .i8⟩
  | .hbm, ⟨23, _⟩ => ⟨S4x4096, .f32⟩
  | .hbm, ⟨24, _⟩ => ⟨S16384x1280, .i8⟩
  | .hbm, ⟨25, _⟩ => ⟨S4x4096, .f32⟩
  | .hbm, ⟨26, _⟩ => ⟨S16384x5120, .i8⟩
  | .hbm, ⟨27, _⟩ => ⟨S4x4096, .f32⟩
  | .local _ .vmem, ⟨0, _⟩ => ⟨S256x1280, .f32⟩
  | .local _ .vmem, ⟨1, _⟩ => ⟨S256x1280, .f32⟩
  | .local _ .vmem, ⟨2, _⟩ => ⟨S256x1280, .bf16⟩
  | .local _ .vmem, ⟨3, _⟩ => ⟨S256x1280, .bf16⟩
  | .local _ .vmem, ⟨4, _⟩ => ⟨S1280x1280, .i8⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1280x5120, .i8⟩
  | .local _ .vmem, ⟨10, _⟩ => ⟨S1x5120, .f32⟩
  | .local _ .vmem, ⟨11, _⟩ => ⟨S1x5120, .f32⟩
  | .local _ .vmem, ⟨12, _⟩ => ⟨S5120x1280, .i8⟩
  | .local _ .vmem, ⟨13, _⟩ => ⟨S1x1280, .f32⟩
  | .local _ .vmem, ⟨14, _⟩ => ⟨S1x1280, .f32⟩
  | .local _ .vmem, ⟨15, _⟩ => ⟨S256x1280, .f32⟩
  | .local _ .vmem, ⟨16, _⟩ => ⟨S256x1280, .f32⟩
  | .local _ .vmem, ⟨17, _⟩ => ⟨S256x1280, .i8⟩
  | .local _ .vmem, ⟨18, _⟩ => ⟨S256x1280, .i8⟩
  | .local _ .vmem, ⟨19, _⟩ => ⟨S4x4096, .f32⟩
  | .local _ .vmem, ⟨20, _⟩ => ⟨S256x1280, .i8⟩
  | .local _ .vmem, ⟨21, _⟩ => ⟨S256x1280, .i8⟩
  | .local _ .vmem, ⟨22, _⟩ => ⟨S4x4096, .f32⟩
  | .local _ .vmem, ⟨23, _⟩ => ⟨S256x5120, .i8⟩
  | .local _ .vmem, ⟨24, _⟩ => ⟨S256x5120, .i8⟩
  | .local _ .vmem, ⟨25, _⟩ => ⟨S4x4096, .f32⟩
  | .local _ .vmem, ⟨26, _⟩ => ⟨S256x1280, .f32⟩
  | .local _ .vmem, ⟨27, _⟩ => ⟨S256x5120, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem18_0 : DmaSem sig := 23
abbrev cc0_sem18_1 : DmaSem sig := 24
abbrev cc0_sem19_0 : DmaSem sig := 25

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c16_i32_10 : BitVec 32 := 16#32
  let c0_i32_11 : BitVec 32 := 0#32
  let v38 : BitVec 1 := Scalar.cmpi .eq c16_i32_10 c0_i32_11
  let c1_i32_12 : BitVec 32 := 1#32
  let v39 : BitVec 32 := Scalar.select v38 c1_i32_12 c16_i32_10
  let v40 : BitVec 32 := Scalar.remsi arg0 v39
  let c0_i32_14 : BitVec 32 := 0#32
  let v42 : BitVec 1 := Scalar.cmpi .slt v40 c0_i32_14
  let c0_i32_15 : BitVec 32 := 0#32
  let v43 : BitVec 1 := Scalar.cmpi .slt v39 c0_i32_15
  let v44 : BitVec 1 := Scalar.xori v42 v43
  let c0_i32_13 : BitVec 32 := 0#32
  let v41 : BitVec 1 := Scalar.cmpi .ne v40 c0_i32_13
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  v48
def k0_off1 (i : grid0.Coords) : Fin 2 → Nat :=
  let arg0 : BitVec 32 := BitVec.ofNat 32 (i 0).val
  let c0_i32 : BitVec 32 := 0#32
  let v22 : BitVec 1 := Scalar.cmpi .sgt arg0 c0_i32
  let v23 : BitVec 32 := Scalar.extui v22
  let c0_i32_6 : BitVec 32 := 0#32
  let v24 : BitVec 1 := Scalar.cmpi .slt arg0 c0_i32_6
  let v25 : BitVec 32 := Scalar.extui v24
  let v26 : BitVec 32 := Scalar.subi v23 v25
  let c16_i32 : BitVec 32 := 16#32
  let c0_i32_7 : BitVec 32 := 0#32
  let v27 : BitVec 1 := Scalar.cmpi .sgt c16_i32 c0_i32_7
  let v28 : BitVec 32 := Scalar.extui v27
  let c0_i32_8 : BitVec 32 := 0#32
  let v29 : BitVec 1 := Scalar.cmpi .slt c16_i32 c0_i32_8
  let v30 : BitVec 32 := Scalar.extui v29
  let v31 : BitVec 32 := Scalar.subi v28 v30
  let v32 : BitVec 1 := Scalar.cmpi .ne v26 v31
  let v33 : BitVec 32 := Scalar.remsi arg0 c16_i32
  let c0_i32_9 : BitVec 32 := 0#32
  let v34 : BitVec 1 := Scalar.cmpi .ne v33 c0_i32_9
  let v35 : BitVec 1 := Scalar.andi v32 v34
  let v21 : BitVec 32 := Scalar.divsi arg0 c16_i32
  let c1_i32 : BitVec 32 := 1#32
  let v36 : BitVec 32 := Scalar.subi v21 c1_i32
  let v37 : BitVec 32 := Scalar.select v35 v36 v21
  let v68 : Index := Scalar.indexCast v37
  let c16_i32_10 : BitVec 32 := 16#32
  let c0_i32_11 : BitVec 32 := 0#32
  let v38 : BitVec 1 := Scalar.cmpi .eq c16_i32_10 c0_i32_11
  let c1_i32_12 : BitVec 32 := 1#32
  let v39 : BitVec 32 := Scalar.select v38 c1_i32_12 c16_i32_10
  let v40 : BitVec 32 := Scalar.remsi arg0 v39
  let c0_i32_14 : BitVec 32 := 0#32
  let v42 : BitVec 1 := Scalar.cmpi .slt v40 c0_i32_14
  let c0_i32_15 : BitVec 32 := 0#32
  let v43 : BitVec 1 := Scalar.cmpi .slt v39 c0_i32_15
  let v44 : BitVec 1 := Scalar.xori v42 v43
  let c0_i32_13 : BitVec 32 := 0#32
  let v41 : BitVec 1 := Scalar.cmpi .ne v40 c0_i32_13
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  let v49 : BitVec 32 := v48
  let v69 : Index := Scalar.indexCast v49
  ![v68.toNat, v69.toNat]
def k0_mult2 (i : grid0.Coords) : BitVec 32 :=
  let arg0 : BitVec 32 := BitVec.ofNat 32 (i 0).val
  let c16_i32_77 : BitVec 32 := 16#32
  let c0_i32_78 : BitVec 32 := 0#32
  let v191 : BitVec 1 := Scalar.cmpi .eq c16_i32_77 c0_i32_78
  let c1_i32_79 : BitVec 32 := 1#32
  let v192 : BitVec 32 := Scalar.select v191 c1_i32_79 c16_i32_77
  let v193 : BitVec 32 := Scalar.remsi arg0 v192
  let c0_i32_81 : BitVec 32 := 0#32
  let v195 : BitVec 1 := Scalar.cmpi .slt v193 c0_i32_81
  let c0_i32_82 : BitVec 32 := 0#32
  let v196 : BitVec 1 := Scalar.cmpi .slt v192 c0_i32_82
  let v197 : BitVec 1 := Scalar.xori v195 v196
  let c0_i32_80 : BitVec 32 := 0#32
  let v194 : BitVec 1 := Scalar.cmpi .ne v193 c0_i32_80
  let v198 : BitVec 1 := Scalar.andi v197 v194
  let v199 : BitVec 32 := Scalar.addi v193 v192
  let v200 : BitVec 32 := Scalar.select v198 v199 v193
  let c256_i32_83 : BitVec 32 := 256#32
  let v201 : BitVec 32 := Scalar.muli v200 c256_i32_83
  v201
def k0_mult3 (i : grid0.Coords) : BitVec 32 :=
  let arg0 : BitVec 32 := BitVec.ofNat 32 (i 0).val
  let c16_i32_213 : BitVec 32 := 16#32
  let c0_i32_214 : BitVec 32 := 0#32
  let v611 : BitVec 1 := Scalar.cmpi .eq c16_i32_213 c0_i32_214
  let c1_i32_215 : BitVec 32 := 1#32
  let v612 : BitVec 32 := Scalar.select v611 c1_i32_215 c16_i32_213
  let v613 : BitVec 32 := Scalar.remsi arg0 v612
  let c0_i32_217 : BitVec 32 := 0#32
  let v615 : BitVec 1 := Scalar.cmpi .slt v613 c0_i32_217
  let c0_i32_218 : BitVec 32 := 0#32
  let v616 : BitVec 1 := Scalar.cmpi .slt v612 c0_i32_218
  let v617 : BitVec 1 := Scalar.xori v615 v616
  let c0_i32_216 : BitVec 32 := 0#32
  let v614 : BitVec 1 := Scalar.cmpi .ne v613 c0_i32_216
  let v618 : BitVec 1 := Scalar.andi v617 v614
  let v619 : BitVec 32 := Scalar.addi v613 v612
  let v620 : BitVec 32 := Scalar.select v618 v619 v613
  let c256_i32_219 : BitVec 32 := 256#32
  let v621 : BitVec 32 := Scalar.muli v620 c256_i32_219
  v621
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5120x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1280 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1280 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x5120 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S4x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== WinMlpIdeal.lean ====
variable {F : FTy → Type} [FloatOps F] [Named F]
def κ : String → Option EReal := fun
  | "inv_sqrt_2" => some (((Real.sqrt 2)⁻¹ : ℝ) : EReal)
  | _ => none
-- ==== WinMlpRefIdeal.lean ====
abbrev S16384x1280 : Shape := ⟨2, ![16384, 1280]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S1x1280 : Shape := ⟨2, ![1, 1280]⟩
abbrev S1x5120 : Shape := ⟨2, ![1, 5120]⟩
abbrev S4x4096 : Shape := ⟨2, ![4, 4096]⟩
abbrev S16384x5120 : Shape := ⟨2, ![16384, 5120]⟩
abbrev S16384 : Shape := ⟨1, ![16384]⟩
abbrev S16384x1 : Shape := ⟨2, ![16384, 1]⟩

abbrev nBuf : Space → Nat
  | .hbm => 28
  | .vmem => 20
  | .smem => 0
  | _ => 0

abbrev bufTy : (tb : Table) → Fin (tcTables nBuf tb) → BufTy
  | .hbm, ⟨0, _⟩ => ⟨S16384x1280, .f32⟩
  | .hbm, ⟨1, _⟩ => ⟨S16384x1280, .bf16⟩
  | .hbm, ⟨2, _⟩ => ⟨S1280x1280, .i8⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x5120, .i8⟩
  | .hbm, ⟨8, _⟩ => ⟨S5120, .f32⟩
  | .hbm, ⟨9, _⟩ => ⟨S5120, .f32⟩
  | .hbm, ⟨10, _⟩ => ⟨S5120x1280, .i8⟩
  | .hbm, ⟨11, _⟩ => ⟨S1280, .f32⟩
  | .hbm, ⟨12, _⟩ => ⟨S1280, .f32⟩
  | .hbm, ⟨13, _⟩ => ⟨S1x1280, .f32⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S1x5120, .f32⟩
  | .hbm, ⟨18, _⟩ => ⟨S1x5120, .f32⟩
  | .hbm, ⟨19, _⟩ => ⟨S1x1280, .f32⟩
  | .hbm, ⟨20, _⟩ => ⟨S1x1280, .f32⟩
  | .hbm, ⟨21, _⟩ => ⟨S16384x1280, .f32⟩
  | .hbm, ⟨22, _⟩ => ⟨S16384x1280, .i8⟩
  | .hbm, ⟨23, _⟩ => ⟨S4x4096, .f32⟩
  | .hbm, ⟨24, _⟩ => ⟨S16384x1280, .i8⟩
  | .hbm, ⟨25, _⟩ => ⟨S4x4096, .f32⟩
  | .hbm, ⟨26, _⟩ => ⟨S16384x5120, .i8⟩
  | .hbm, ⟨27, _⟩ => ⟨S4x4096, .f32⟩
  | .local _ .vmem, ⟨0, _⟩ => ⟨S16384x1280, .f32⟩
  | .local _ .vmem, ⟨1, _⟩ => ⟨S16384x1280, .bf16⟩
  | .local _ .vmem, ⟨2, _⟩ => ⟨S1280x1280, .i8⟩
  | .local _ .vmem, ⟨3, _⟩ => ⟨S1x1280, .f32⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1280x5120, .i8⟩
  | .local _ .vmem, ⟨8, _⟩ => ⟨S1x5120, .f32⟩
  | .local _ .vmem, ⟨9, _⟩ => ⟨S1x5120, .f32⟩
  | .local _ .vmem, ⟨10, _⟩ => ⟨S5120x1280, .i8⟩
  | .local _ .vmem, ⟨11, _⟩ => ⟨S1x1280, .f32⟩
  | .local _ .vmem, ⟨12, _⟩ => ⟨S1x1280, .f32⟩
  | .local _ .vmem, ⟨13, _⟩ => ⟨S16384x1280, .f32⟩
  | .local _ .vmem, ⟨14, _⟩ => ⟨S16384x1280, .i8⟩
  | .local _ .vmem, ⟨15, _⟩ => ⟨S4x4096, .f32⟩
  | .local _ .vmem, ⟨16, _⟩ => ⟨S16384x1280, .i8⟩
  | .local _ .vmem, ⟨17, _⟩ => ⟨S4x4096, .f32⟩
  | .local _ .vmem, ⟨18, _⟩ => ⟨S16384x5120, .i8⟩
  | .local _ .vmem, ⟨19, _⟩ => ⟨S4x4096, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F] [Named F]

def κ : String → Option EReal := fun
  | "sqrt_2" => some ((Real.sqrt 2 : ℝ) : EReal)
  | _ => none

abbrev grid0 : Pipeline.Grid := .none

abbrev stage0_0 : Fin 1 → Memref sig .tc .vmem S16384x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16384x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16384x1280 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16384x1280 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16384x5120 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== GlbMlp.lean ====
abbrev S4x1280x4096 : Shape := ⟨3, ![4, 1280, 4096]⟩
abbrev S16384x1280 : Shape := ⟨2, ![16384, 1280]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S1x1280 : Shape := ⟨2, ![1, 1280]⟩
abbrev S1x5120 : Shape := ⟨2, ![1, 5120]⟩
abbrev S4x4096 : Shape := ⟨2, ![4, 4096]⟩
abbrev S16384x5120 : Shape := ⟨2, ![16384, 5120]⟩
abbrev S1x1280x256 : Shape := ⟨3, ![1, 1280, 256]⟩
abbrev S256x1280 : Shape := ⟨2, ![256, 1280]⟩
abbrev S256x5120 : Shape := ⟨2, ![256, 5120]⟩
abbrev S1280x256 : Shape := ⟨2, ![1280, 256]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩
abbrev S1280x512 : Shape := ⟨2, ![1280, 512]⟩
abbrev S256x512 : Shape := ⟨2, ![256, 512]⟩
abbrev S1x512 : Shape := ⟨2, ![1, 512]⟩
abbrev S256x256 : Shape := ⟨2, ![256, 256]⟩
abbrev S256x128 : Shape := ⟨2, ![256, 128]⟩
abbrev S5120x512 : Shape := ⟨2, ![5120, 512]⟩
abbrev S5120x256 : Shape := ⟨2, ![5120, 256]⟩

abbrev nBuf : Space → Nat
  | .hbm => 28
  | .vmem => 28
  | .smem => 0
  | _ => 0

abbrev bufTy : (tb : Table) → Fin (tcTables nBuf tb) → BufTy
  | .hbm, ⟨0, _⟩ => ⟨S4x1280x4096, .f32⟩
  | .hbm, ⟨1, _⟩ => ⟨S16384x1280, .f32⟩
  | .hbm, ⟨2, _⟩ => ⟨S1280x1280, .i8⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x5120, .i8⟩
  | .hbm, ⟨8, _⟩ => ⟨S5120, .f32⟩
  | .hbm, ⟨9, _⟩ => ⟨S5120, .f32⟩
  | .hbm, ⟨10, _⟩ => ⟨S5120x1280, .i8⟩
  | .hbm, ⟨11, _⟩ => ⟨S1280, .f32⟩
  | .hbm, ⟨12, _⟩ => ⟨S1280, .f32⟩
  | .hbm, ⟨13, _⟩ => ⟨S1x1280, .f32⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S1x5120, .f32⟩
  | .hbm, ⟨18, _⟩ => ⟨S1x5120, .f32⟩
  | .hbm, ⟨19, _⟩ => ⟨S1x1280, .f32⟩
  | .hbm, ⟨20, _⟩ => ⟨S1x1280, .f32⟩
  | .hbm, ⟨21, _⟩ => ⟨S16384x1280, .bf16⟩
  | .hbm, ⟨22, _⟩ => ⟨S16384x1280, .i8⟩
  | .hbm, ⟨23, _⟩ => ⟨S4x4096, .f32⟩
  | .hbm, ⟨24, _⟩ => ⟨S16384x1280, .i8⟩
  | .hbm, ⟨25, _⟩ => ⟨S4x4096, .f32⟩
  | .hbm, ⟨26, _⟩ => ⟨S16384x5120, .i8⟩
  | .hbm, ⟨27, _⟩ => ⟨S4x4096, .f32⟩
  | .local _ .vmem, ⟨0, _⟩ => ⟨S1x1280x256, .f32⟩
  | .local _ .vmem, ⟨1, _⟩ => ⟨S1x1280x256, .f32⟩
  | .local _ .vmem, ⟨2, _⟩ => ⟨S256x1280, .f32⟩
  | .local _ .vmem, ⟨3, _⟩ => ⟨S256x1280, .f32⟩
  | .local _ .vmem, ⟨4, _⟩ => ⟨S1280x1280, .i8⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1280x5120, .i8⟩
  | .local _ .vmem, ⟨10, _⟩ => ⟨S1x5120, .f32⟩
  | .local _ .vmem, ⟨11, _⟩ => ⟨S1x5120, .f32⟩
  | .local _ .vmem, ⟨12, _⟩ => ⟨S5120x1280, .i8⟩
  | .local _ .vmem, ⟨13, _⟩ => ⟨S1x1280, .f32⟩
  | .local _ .vmem, ⟨14, _⟩ => ⟨S1x1280, .f32⟩
  | .local _ .vmem, ⟨15, _⟩ => ⟨S256x1280, .bf16⟩
  | .local _ .vmem, ⟨16, _⟩ => ⟨S256x1280, .bf16⟩
  | .local _ .vmem, ⟨17, _⟩ => ⟨S256x1280, .i8⟩
  | .local _ .vmem, ⟨18, _⟩ => ⟨S256x1280, .i8⟩
  | .local _ .vmem, ⟨19, _⟩ => ⟨S4x4096, .f32⟩
  | .local _ .vmem, ⟨20, _⟩ => ⟨S256x1280, .i8⟩
  | .local _ .vmem, ⟨21, _⟩ => ⟨S256x1280, .i8⟩
  | .local _ .vmem, ⟨22, _⟩ => ⟨S4x4096, .f32⟩
  | .local _ .vmem, ⟨23, _⟩ => ⟨S256x5120, .i8⟩
  | .local _ .vmem, ⟨24, _⟩ => ⟨S256x5120, .i8⟩
  | .local _ .vmem, ⟨25, _⟩ => ⟨S4x4096, .f32⟩
  | .local _ .vmem, ⟨26, _⟩ => ⟨S256x1280, .f32⟩
  | .local _ .vmem, ⟨27, _⟩ => ⟨S256x5120, .f32⟩
  | _, _ => ⟨S4x1280x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem18_0 : DmaSem sig := 23
abbrev cc0_sem18_1 : DmaSem sig := 24
abbrev cc0_sem19_0 : DmaSem sig := 25

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c16_i32_11 : BitVec 32 := 16#32
  let c0_i32_12 : BitVec 32 := 0#32
  let v40 : BitVec 1 := Scalar.cmpi .eq c16_i32_11 c0_i32_12
  let c1_i32_13 : BitVec 32 := 1#32
  let v41 : BitVec 32 := Scalar.select v40 c1_i32_13 c16_i32_11
  let v42 : BitVec 32 := Scalar.remsi arg0 v41
  let c0_i32_15 : BitVec 32 := 0#32
  let v44 : BitVec 1 := Scalar.cmpi .slt v42 c0_i32_15
  let c0_i32_16 : BitVec 32 := 0#32
  let v45 : BitVec 1 := Scalar.cmpi .slt v41 c0_i32_16
  let v46 : BitVec 1 := Scalar.xori v44 v45
  let c0_i32_14 : BitVec 32 := 0#32
  let v43 : BitVec 1 := Scalar.cmpi .ne v42 c0_i32_14
  let v47 : BitVec 1 := Scalar.andi v46 v43
  let v48 : BitVec 32 := Scalar.addi v42 v41
  let v49 : BitVec 32 := Scalar.select v47 v48 v42
  let c256_i32 : BitVec 32 := 256#32
  let v50 : BitVec 32 := Scalar.muli v49 c256_i32
  v50
def k0_off1 (i : grid0.Coords) : Fin 2 → Nat :=
  let arg0 : BitVec 32 := BitVec.ofNat 32 (i 0).val
  let c0_i32 : BitVec 32 := 0#32
  let v24 : BitVec 1 := Scalar.cmpi .sgt arg0 c0_i32
  let v25 : BitVec 32 := Scalar.extui v24
  let c0_i32_7 : BitVec 32 := 0#32
  let v26 : BitVec 1 := Scalar.cmpi .slt arg0 c0_i32_7
  let v27 : BitVec 32 := Scalar.extui v26
  let v28 : BitVec 32 := Scalar.subi v25 v27
  let c16_i32 : BitVec 32 := 16#32
  let c0_i32_8 : BitVec 32 := 0#32
  let v29 : BitVec 1 := Scalar.cmpi .sgt c16_i32 c0_i32_8
  let v30 : BitVec 32 := Scalar.extui v29
  let c0_i32_9 : BitVec 32 := 0#32
  let v31 : BitVec 1 := Scalar.cmpi .slt c16_i32 c0_i32_9
  let v32 : BitVec 32 := Scalar.extui v31
  let v33 : BitVec 32 := Scalar.subi v30 v32
  let v34 : BitVec 1 := Scalar.cmpi .ne v28 v33
  let v35 : BitVec 32 := Scalar.remsi arg0 c16_i32
  let c0_i32_10 : BitVec 32 := 0#32
  let v36 : BitVec 1 := Scalar.cmpi .ne v35 c0_i32_10
  let v37 : BitVec 1 := Scalar.andi v34 v36
  let v23 : BitVec 32 := Scalar.divsi arg0 c16_i32
  let c1_i32 : BitVec 32 := 1#32
  let v38 : BitVec 32 := Scalar.subi v23 c1_i32
  let v39 : BitVec 32 := Scalar.select v37 v38 v23
  let v70 : Index := Scalar.indexCast v39
  let c16_i32_11 : BitVec 32 := 16#32
  let c0_i32_12 : BitVec 32 := 0#32
  let v40 : BitVec 1 := Scalar.cmpi .eq c16_i32_11 c0_i32_12
  let c1_i32_13 : BitVec 32 := 1#32
  let v41 : BitVec 32 := Scalar.select v40 c1_i32_13 c16_i32_11
  let v42 : BitVec 32 := Scalar.remsi arg0 v41
  let c0_i32_15 : BitVec 32 := 0#32
  let v44 : BitVec 1 := Scalar.cmpi .slt v42 c0_i32_15
  let c0_i32_16 : BitVec 32 := 0#32
  let v45 : BitVec 1 := Scalar.cmpi .slt v41 c0_i32_16
  let v46 : BitVec 1 := Scalar.xori v44 v45
  let c0_i32_14 : BitVec 32 := 0#32
  let v43 : BitVec 1 := Scalar.cmpi .ne v42 c0_i32_14
  let v47 : BitVec 1 := Scalar.andi v46 v43
  let v48 : BitVec 32 := Scalar.addi v42 v41
  let v49 : BitVec 32 := Scalar.select v47 v48 v42
  let c256_i32 : BitVec 32 := 256#32
  let v50 : BitVec 32 := Scalar.muli v49 c256_i32
  let v51 : BitVec 32 := v50
  let v71 : Index := Scalar.indexCast v51
  ![v70.toNat, v71.toNat]
def k0_mult2 (i : grid0.Coords) : BitVec 32 :=
  let arg0 : BitVec 32 := BitVec.ofNat 32 (i 0).val
  let c16_i32_78 : BitVec 32 := 16#32
  let c0_i32_79 : BitVec 32 := 0#32
  let v190 : BitVec 1 := Scalar.cmpi .eq c16_i32_78 c0_i32_79
  let c1_i32_80 : BitVec 32 := 1#32
  let v191 : BitVec 32 := Scalar.select v190 c1_i32_80 c16_i32_78
  let v192 : BitVec 32 := Scalar.remsi arg0 v191
  let c0_i32_82 : BitVec 32 := 0#32
  let v194 : BitVec 1 := Scalar.cmpi .slt v192 c0_i32_82
  let c0_i32_83 : BitVec 32 := 0#32
  let v195 : BitVec 1 := Scalar.cmpi .slt v191 c0_i32_83
  let v196 : BitVec 1 := Scalar.xori v194 v195
  let c0_i32_81 : BitVec 32 := 0#32
  let v193 : BitVec 1 := Scalar.cmpi .ne v192 c0_i32_81
  let v197 : BitVec 1 := Scalar.andi v196 v193
  let v198 : BitVec 32 := Scalar.addi v192 v191
  let v199 : BitVec 32 := Scalar.select v197 v198 v192
  let c256_i32_84 : BitVec 32 := 256#32
  let v200 : BitVec 32 := Scalar.muli v199 c256_i32_84
  v200
def k0_mult3 (i : grid0.Coords) : BitVec 32 :=
  let arg0 : BitVec 32 := BitVec.ofNat 32 (i 0).val
  let c16_i32_214 : BitVec 32 := 16#32
  let c0_i32_215 : BitVec 32 := 0#32
  let v610 : BitVec 1 := Scalar.cmpi .eq c16_i32_214 c0_i32_215
  let c1_i32_216 : BitVec 32 := 1#32
  let v611 : BitVec 32 := Scalar.select v610 c1_i32_216 c16_i32_214
  let v612 : BitVec 32 := Scalar.remsi arg0 v611
  let c0_i32_218 : BitVec 32 := 0#32
  let v614 : BitVec 1 := Scalar.cmpi .slt v612 c0_i32_218
  let c0_i32_219 : BitVec 32 := 0#32
  let v615 : BitVec 1 := Scalar.cmpi .slt v611 c0_i32_219
  let v616 : BitVec 1 := Scalar.xori v614 v615
  let c0_i32_217 : BitVec 32 := 0#32
  let v613 : BitVec 1 := Scalar.cmpi .ne v612 c0_i32_217
  let v617 : BitVec 1 := Scalar.andi v616 v613
  let v618 : BitVec 32 := Scalar.addi v612 v611
  let v619 : BitVec 32 := Scalar.select v617 v618 v612
  let c256_i32_220 : BitVec 32 := 256#32
  let v620 : BitVec 32 := Scalar.muli v619 c256_i32_220
  v620
def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5120x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1280 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1280 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x5120 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S4x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== GlbMlpIdeal.lean ====
variable {F : FTy → Type} [FloatOps F] [Named F]
def κ : String → Option EReal := fun
  | "inv_sqrt_2" => some (((Real.sqrt 2)⁻¹ : ℝ) : EReal)
  | _ => none
-- ==== GlbMlpRefIdeal.lean ====
abbrev S4x1280x4096 : Shape := ⟨3, ![4, 1280, 4096]⟩
abbrev S16384x1280 : Shape := ⟨2, ![16384, 1280]⟩
abbrev S1280x1280 : Shape := ⟨2, ![1280, 1280]⟩
abbrev S1280 : Shape := ⟨1, ![1280]⟩
abbrev S1280x5120 : Shape := ⟨2, ![1280, 5120]⟩
abbrev S5120 : Shape := ⟨1, ![5120]⟩
abbrev S5120x1280 : Shape := ⟨2, ![5120, 1280]⟩
abbrev S4x4096x1280 : Shape := ⟨3, ![4, 4096, 1280]⟩
abbrev S1x1280 : Shape := ⟨2, ![1, 1280]⟩
abbrev S1x5120 : Shape := ⟨2, ![1, 5120]⟩
abbrev S4x4096 : Shape := ⟨2, ![4, 4096]⟩
abbrev S16384x5120 : Shape := ⟨2, ![16384, 5120]⟩
abbrev S16384 : Shape := ⟨1, ![16384]⟩
abbrev S16384x1 : Shape := ⟨2, ![16384, 1]⟩

abbrev nBuf : Space → Nat
  | .hbm => 30
  | .vmem => 20
  | .smem => 0
  | _ => 0

abbrev bufTy : (tb : Table) → Fin (tcTables nBuf tb) → BufTy
  | .hbm, ⟨0, _⟩ => ⟨S4x1280x4096, .f32⟩
  | .hbm, ⟨1, _⟩ => ⟨S16384x1280, .f32⟩
  | .hbm, ⟨2, _⟩ => ⟨S1280x1280, .i8⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x5120, .i8⟩
  | .hbm, ⟨8, _⟩ => ⟨S5120, .f32⟩
  | .hbm, ⟨9, _⟩ => ⟨S5120, .f32⟩
  | .hbm, ⟨10, _⟩ => ⟨S5120x1280, .i8⟩
  | .hbm, ⟨11, _⟩ => ⟨S1280, .f32⟩
  | .hbm, ⟨12, _⟩ => ⟨S1280, .f32⟩
  | .hbm, ⟨13, _⟩ => ⟨S4x4096x1280, .f32⟩
  | .hbm, ⟨14, _⟩ => ⟨S16384x1280, .f32⟩
  | .hbm, ⟨15, _⟩ => ⟨S1x1280, .f32⟩
  | .hbm, ⟨16, _⟩ => ⟨S1x1280, .f32⟩
  | .hbm, ⟨17, _⟩ => ⟨S1x1280, .f32⟩
  | .hbm, ⟨18, _⟩ => ⟨S1x1280, .f32⟩
  | .hbm, ⟨19, _⟩ => ⟨S1x5120, .f32⟩
  | .hbm, ⟨20, _⟩ => ⟨S1x5120, .f32⟩
  | .hbm, ⟨21, _⟩ => ⟨S1x1280, .f32⟩
  | .hbm, ⟨22, _⟩ => ⟨S1x1280, .f32⟩
  | .hbm, ⟨23, _⟩ => ⟨S16384x1280, .bf16⟩
  | .hbm, ⟨24, _⟩ => ⟨S16384x1280, .i8⟩
  | .hbm, ⟨25, _⟩ => ⟨S4x4096, .f32⟩
  | .hbm, ⟨26, _⟩ => ⟨S16384x1280, .i8⟩
  | .hbm, ⟨27, _⟩ => ⟨S4x4096, .f32⟩
  | .hbm, ⟨28, _⟩ => ⟨S16384x5120, .i8⟩
  | .hbm, ⟨29, _⟩ => ⟨S4x4096, .f32⟩
  | .local _ .vmem, ⟨0, _⟩ => ⟨S16384x1280, .f32⟩
  | .local _ .vmem, ⟨1, _⟩ => ⟨S16384x1280, .f32⟩
  | .local _ .vmem, ⟨2, _⟩ => ⟨S1280x1280, .i8⟩
  | .local _ .vmem, ⟨3, _⟩ => ⟨S1x1280, .f32⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1280x5120, .i8⟩
  | .local _ .vmem, ⟨8, _⟩ => ⟨S1x5120, .f32⟩
  | .local _ .vmem, ⟨9, _⟩ => ⟨S1x5120, .f32⟩
  | .local _ .vmem, ⟨10, _⟩ => ⟨S5120x1280, .i8⟩
  | .local _ .vmem, ⟨11, _⟩ => ⟨S1x1280, .f32⟩
  | .local _ .vmem, ⟨12, _⟩ => ⟨S1x1280, .f32⟩
  | .local _ .vmem, ⟨13, _⟩ => ⟨S16384x1280, .bf16⟩
  | .local _ .vmem, ⟨14, _⟩ => ⟨S16384x1280, .i8⟩
  | .local _ .vmem, ⟨15, _⟩ => ⟨S4x4096, .f32⟩
  | .local _ .vmem, ⟨16, _⟩ => ⟨S16384x1280, .i8⟩
  | .local _ .vmem, ⟨17, _⟩ => ⟨S4x4096, .f32⟩
  | .local _ .vmem, ⟨18, _⟩ => ⟨S16384x5120, .i8⟩
  | .local _ .vmem, ⟨19, _⟩ => ⟨S4x4096, .f32⟩
  | _, _ => ⟨S4x1280x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F] [Named F]

def κ : String → Option EReal := fun
  | "sqrt_2" => some ((Real.sqrt 2 : ℝ) : EReal)
  | _ => none

abbrev grid0 : Pipeline.Grid := .none

abbrev stage0_0 : Fin 1 → Memref sig .tc .vmem S16384x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16384x1280 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16384x1280 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16384x1280 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16384x5120 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== WinQkv.lean ====
abbrev S16384x1280 : Shape := ⟨2, ![16384, 1280]⟩
abbrev S1280 : Shape := ⟨1, ![1280]⟩
abbrev S1280x3840 : Shape := ⟨2, ![1280, 3840]⟩
abbrev S3840 : Shape := ⟨1, ![3840]⟩
abbrev S1x1280 : Shape := ⟨2, ![1, 1280]⟩
abbrev S1x3840 : Shape := ⟨2, ![1, 3840]⟩
abbrev S4x4096 : Shape := ⟨2, ![4, 4096]⟩
abbrev S4x30x4096x128 : Shape := ⟨4, ![4, 30, 4096, 128]⟩
abbrev S512x1280 : Shape := ⟨2, ![512, 1280]⟩
abbrev S1x30x512x128 : Shape := ⟨4, ![1, 30, 512, 128]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x512 : Shape := ⟨2, ![1, 512]⟩
abbrev S1280x512 : Shape := ⟨2, ![1280, 512]⟩
abbrev S512x512 : Shape := ⟨2, ![512, 512]⟩
abbrev S512x128 : Shape := ⟨2, ![512, 128]⟩
abbrev S1x1x512x128 : Shape := ⟨4, ![1, 1, 512, 128]⟩
abbrev S1280x256 : Shape := ⟨2, ![1280, 256]⟩
abbrev S512x256 : Shape := ⟨2, ![512, 256]⟩
abbrev S1x256 : Shape := ⟨2, ![1, 256]⟩

abbrev nBuf : Space → Nat
  | .hbm => 14
  | .vmem => 14
  | .smem => 0
  | _ => 0

abbrev bufTy : (tb : Table) → Fin (tcTables nBuf tb) → BufTy
  | .hbm, ⟨0, _⟩ => ⟨S16384x1280, .bf16⟩
  | .hbm, ⟨1, _⟩ => ⟨S1280, .f32⟩
  | .hbm, ⟨2, _⟩ => ⟨S1280, .f32⟩
  | .hbm, ⟨3, _⟩ => ⟨S1280x3840, .i8⟩
  | .hbm, ⟨4, _⟩ => ⟨S3840, .f32⟩
  | .hbm, ⟨5, _⟩ => ⟨S3840, .f32⟩
  | .hbm, ⟨6, _⟩ => ⟨S1x1280, .f32⟩
  | .hbm, ⟨7, _⟩ => ⟨S1x1280, .f32⟩
  | .hbm, ⟨8, _⟩ => ⟨S1x3840, .f32⟩
  | .hbm, ⟨9, _⟩ => ⟨S1x3840, .f32⟩
  | .hbm, ⟨10, _⟩ => ⟨S16384x1280, .i8⟩
  | .hbm, ⟨11, _⟩ => ⟨S4x4096, .f32⟩
  | .hbm, ⟨12, _⟩ => ⟨S4x30x4096x128, .bf16⟩
  | .hbm, ⟨13, _⟩ => ⟨S16384x1280, .bf16⟩
  | .local _ .vmem, ⟨0, _⟩ => ⟨S512x1280, .bf16⟩
  | .local _ .vmem, ⟨1, _⟩ => ⟨S512x1280, .bf16⟩
  | .local _ .vmem, ⟨2, _⟩ => ⟨S1x1280, .f32⟩
  | .local _ .vmem, ⟨3, _⟩ => ⟨S1x1280, .f32⟩
  | .local _ .vmem, ⟨4, _⟩ => ⟨S1280x3840, .i8⟩
  | .local _ .vmem, ⟨5, _⟩ => ⟨S1x3840, .f32⟩
  | .local _ .vmem, ⟨6, _⟩ => ⟨S1x3840, .f32⟩
  | .local _ .vmem, ⟨7, _⟩ => ⟨S512x1280, .i8⟩
  | .local _ .vmem, ⟨8, _⟩ => ⟨S512x1280, .i8⟩
  | .local _ .vmem, ⟨9, _⟩ => ⟨S4x4096, .f32⟩
  | .local _ .vmem, ⟨10, _⟩ => ⟨S1x30x512x128, .bf16⟩
  | .local _ .vmem, ⟨11, _⟩ => ⟨S1x30x512x128, .bf16⟩
  | .local _ .vmem, ⟨12, _⟩ => ⟨S512x1280, .bf16⟩
  | .local _ .vmem, ⟨13, _⟩ => ⟨S512x1280, .bf16⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32_19 : BitVec 32 := 8#32
  let c0_i32_20 : BitVec 32 := 0#32
  let v63 : BitVec 1 := Scalar.cmpi .eq c8_i32_19 c0_i32_20
  let c1_i32_21 : BitVec 32 := 1#32
  let v64 : BitVec 32 := Scalar.select v63 c1_i32_21 c8_i32_19
  let v65 : BitVec 32 := Scalar.remsi arg0 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let c512_i32 : BitVec 32 := 512#32
  let v73 : BitVec 32 := Scalar.muli v72 c512_i32
  v73
def k0_off1 (i : grid0.Coords) : Fin 2 → Nat :=
  let arg0 : BitVec 32 := BitVec.ofNat 32 (i 0).val
  let c0_i32 : BitVec 32 := 0#32
  let v47 : BitVec 1 := Scalar.cmpi .sgt arg0 c0_i32
  let v48 : BitVec 32 := Scalar.extui v47
  let c0_i32_15 : BitVec 32 := 0#32
  let v49 : BitVec 1 := Scalar.cmpi .slt arg0 c0_i32_15
  let v50 : BitVec 32 := Scalar.extui v49
  let v51 : BitVec 32 := Scalar.subi v48 v50
  let c8_i32 : BitVec 32 := 8#32
  let c0_i32_16 : BitVec 32 := 0#32
  let v52 : BitVec 1 := Scalar.cmpi .sgt c8_i32 c0_i32_16
  let v53 : BitVec 32 := Scalar.extui v52
  let c0_i32_17 : BitVec 32 := 0#32
  let v54 : BitVec 1 := Scalar.cmpi .slt c8_i32 c0_i32_17
  let v55 : BitVec 32 := Scalar.extui v54
  let v56 : BitVec 32 := Scalar.subi v53 v55
  let v57 : BitVec 1 := Scalar.cmpi .ne v51 v56
  let v58 : BitVec 32 := Scalar.remsi arg0 c8_i32
  let c0_i32_18 : BitVec 32 := 0#32
  let v59 : BitVec 1 := Scalar.cmpi .ne v58 c0_i32_18
  let v60 : BitVec 1 := Scalar.andi v57 v59
  let v46 : BitVec 32 := Scalar.divsi arg0 c8_i32
  let c1_i32 : BitVec 32 := 1#32
  let v61 : BitVec 32 := Scalar.subi v46 c1_i32
  let v62 : BitVec 32 := Scalar.select v60 v61 v46
  let v107 : Index := Scalar.indexCast v62
  let c8_i32_19 : BitVec 32 := 8#32
  let c0_i32_20 : BitVec 32 := 0#32
  let v63 : BitVec 1 := Scalar.cmpi .eq c8_i32_19 c0_i32_20
  let c1_i32_21 : BitVec 32 := 1#32
  let v64 : BitVec 32 := Scalar.select v63 c1_i32_21 c8_i32_19
  let v65 : BitVec 32 := Scalar.remsi arg0 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let c512_i32 : BitVec 32 := 512#32
  let v73 : BitVec 32 := Scalar.muli v72 c512_i32
  let v74 : BitVec 32 := v73
  let v108 : Index := Scalar.indexCast v74
  ![v107.toNat, v108.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x30x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WinQkvRefIdeal.lean ====
abbrev S16384x1280 : Shape := ⟨2, ![16384, 1280]⟩
abbrev S1280 : Shape := ⟨1, ![1280]⟩
abbrev S1280x3840 : Shape := ⟨2, ![1280, 3840]⟩
abbrev S3840 : Shape := ⟨1, ![3840]⟩
abbrev S1x1280 : Shape := ⟨2, ![1, 1280]⟩
abbrev S1x3840 : Shape := ⟨2, ![1, 3840]⟩
abbrev S4x4096 : Shape := ⟨2, ![4, 4096]⟩
abbrev S16384x3840 : Shape := ⟨2, ![16384, 3840]⟩
abbrev S16384 : Shape := ⟨1, ![16384]⟩
abbrev S16384x1 : Shape := ⟨2, ![16384, 1]⟩
abbrev S4x4096x30x128 : Shape := ⟨4, ![4, 4096, 30, 128]⟩
abbrev S4x30x4096x128 : Shape := ⟨4, ![4, 30, 4096, 128]⟩

abbrev nBuf : Space → Nat
  | .hbm => 16
  | .vmem => 9
  | .smem => 0
  | _ => 0

abbrev bufTy : (tb : Table) → Fin (tcTables nBuf tb) → BufTy
  | .hbm, ⟨0, _⟩ => ⟨S16384x1280, .bf16⟩
  | .hbm, ⟨1, _⟩ => ⟨S1280, .f32⟩
  | .hbm, ⟨2, _⟩ => ⟨S1280, .f32⟩
  | .hbm, ⟨3, _⟩ => ⟨S1280x3840, .i8⟩
  | .hbm, ⟨4, _⟩ => ⟨S3840, .f32⟩
  | .hbm, ⟨5, _⟩ => ⟨S3840, .f32⟩
  | .hbm, ⟨6, _⟩ => ⟨S1x1280, .f32⟩
  | .hbm, ⟨7, _⟩ => ⟨S1x1280, .f32⟩
  | .hbm, ⟨8, _⟩ => ⟨S1x3840, .f32⟩
  | .hbm, ⟨9, _⟩ => ⟨S1x3840, .f32⟩
  | .hbm, ⟨10, _⟩ => ⟨S16384x1280, .i8⟩
  | .hbm, ⟨11, _⟩ => ⟨S4x4096, .f32⟩
  | .hbm, ⟨12, _⟩ => ⟨S16384x3840, .bf16⟩
  | .hbm, ⟨13, _⟩ => ⟨S4x4096x30x128, .bf16⟩
  | .hbm, ⟨14, _⟩ => ⟨S4x30x4096x128, .bf16⟩
  | .hbm, ⟨15, _⟩ => ⟨S16384x1280, .bf16⟩
  | .local _ .vmem, ⟨0, _⟩ => ⟨S16384x1280, .bf16⟩
  | .local _ .vmem, ⟨1, _⟩ => ⟨S1x1280, .f32⟩
  | .local _ .vmem, ⟨2, _⟩ => ⟨S1x1280, .f32⟩
  | .local _ .vmem, ⟨3, _⟩ => ⟨S1280x3840, .i8⟩
  | .local _ .vmem, ⟨4, _⟩ => ⟨S1x3840, .f32⟩
  | .local _ .vmem, ⟨5, _⟩ => ⟨S1x3840, .f32⟩
  | .local _ .vmem, ⟨6, _⟩ => ⟨S16384x1280, .i8⟩
  | .local _ .vmem, ⟨7, _⟩ => ⟨S4x4096, .f32⟩
  | .local _ .vmem, ⟨8, _⟩ => ⟨S16384x3840, .bf16⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x3840 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GlbQkv.lean ====
abbrev S16384x1280 : Shape := ⟨2, ![16384, 1280]⟩
abbrev S1280 : Shape := ⟨1, ![1280]⟩
abbrev S1280x3840 : Shape := ⟨2, ![1280, 3840]⟩
abbrev S3840 : Shape := ⟨1, ![3840]⟩
abbrev S1x1280 : Shape := ⟨2, ![1, 1280]⟩
abbrev S1x3840 : Shape := ⟨2, ![1, 3840]⟩
abbrev S4x4096 : Shape := ⟨2, ![4, 4096]⟩
abbrev S4x20x4096x128 : Shape := ⟨4, ![4, 20, 4096, 128]⟩
abbrev S4x1280x4096 : Shape := ⟨3, ![4, 1280, 4096]⟩
abbrev S512x1280 : Shape := ⟨2, ![512, 1280]⟩
abbrev S1x20x512x128 : Shape := ⟨4, ![1, 20, 512, 128]⟩
abbrev S1x1280x512 : Shape := ⟨3, ![1, 1280, 512]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x512 : Shape := ⟨2, ![1, 512]⟩
abbrev S1280x512 : Shape := ⟨2, ![1280, 512]⟩
abbrev S512x512 : Shape := ⟨2, ![512, 512]⟩
abbrev S512x128 : Shape := ⟨2, ![512, 128]⟩
abbrev S1x1x512x128 : Shape := ⟨4, ![1, 1, 512, 128]⟩
abbrev S128x512 : Shape := ⟨2, ![128, 512]⟩
abbrev S1x128x512 : Shape := ⟨3, ![1, 128, 512]⟩
abbrev S1280x256 : Shape := ⟨2, ![1280, 256]⟩
abbrev S512x256 : Shape := ⟨2, ![512, 256]⟩
abbrev S1x256 : Shape := ⟨2, ![1, 256]⟩

abbrev nBuf : Space → Nat
  | .hbm => 15
  | .vmem => 16
  | .smem => 0
  | _ => 0

abbrev bufTy : (tb : Table) → Fin (tcTables nBuf tb) → BufTy
  | .hbm, ⟨0, _⟩ => ⟨S16384x1280, .f32⟩
  | .hbm, ⟨1, _⟩ => ⟨S1280, .f32⟩
  | .hbm, ⟨2, _⟩ => ⟨S1280, .f32⟩
  | .hbm, ⟨3, _⟩ => ⟨S1280x3840, .i8⟩
  | .hbm, ⟨4, _⟩ => ⟨S3840, .f32⟩
  | .hbm, ⟨5, _⟩ => ⟨S3840, .f32⟩
  | .hbm, ⟨6, _⟩ => ⟨S1x1280, .f32⟩
  | .hbm, ⟨7, _⟩ => ⟨S1x1280, .f32⟩
  | .hbm, ⟨8, _⟩ => ⟨S1x3840, .f32⟩
  | .hbm, ⟨9, _⟩ => ⟨S1x3840, .f32⟩
  | .hbm, ⟨10, _⟩ => ⟨S16384x1280, .i8⟩
  | .hbm, ⟨11, _⟩ => ⟨S4x4096, .f32⟩
  | .hbm, ⟨12, _⟩ => ⟨S4x20x4096x128, .bf16⟩
  | .hbm, ⟨13, _⟩ => ⟨S16384x1280, .bf16⟩
  | .hbm, ⟨14, _⟩ => ⟨S4x1280x4096, .bf16⟩
  | .local _ .vmem, ⟨0, _⟩ => ⟨S512x1280, .f32⟩
  | .local _ .vmem, ⟨1, _⟩ => ⟨S512x1280, .f32⟩
  | .local _ .vmem, ⟨2, _⟩ => ⟨S1x1280, .f32⟩
  | .local _ .vmem, ⟨3, _⟩ => ⟨S1x1280, .f32⟩
  | .local _ .vmem, ⟨4, _⟩ => ⟨S1280x3840, .i8⟩
  | .local _ .vmem, ⟨5, _⟩ => ⟨S1x3840, .f32⟩
  | .local _ .vmem, ⟨6, _⟩ => ⟨S1x3840, .f32⟩
  | .local _ .vmem, ⟨7, _⟩ => ⟨S512x1280, .i8⟩
  | .local _ .vmem, ⟨8, _⟩ => ⟨S512x1280, .i8⟩
  | .local _ .vmem, ⟨9, _⟩ => ⟨S4x4096, .f32⟩
  | .local _ .vmem, ⟨10, _⟩ => ⟨S1x20x512x128, .bf16⟩
  | .local _ .vmem, ⟨11, _⟩ => ⟨S1x20x512x128, .bf16⟩
  | .local _ .vmem, ⟨12, _⟩ => ⟨S512x1280, .bf16⟩
  | .local _ .vmem, ⟨13, _⟩ => ⟨S512x1280, .bf16⟩
  | .local _ .vmem, ⟨14, _⟩ => ⟨S1x1280x512, .bf16⟩
  | .local _ .vmem, ⟨15, _⟩ => ⟨S1x1280x512, .bf16⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32_19 : BitVec 32 := 8#32
  let c0_i32_20 : BitVec 32 := 0#32
  let v62 : BitVec 1 := Scalar.cmpi .eq c8_i32_19 c0_i32_20
  let c1_i32_21 : BitVec 32 := 1#32
  let v63 : BitVec 32 := Scalar.select v62 c1_i32_21 c8_i32_19
  let v64 : BitVec 32 := Scalar.remsi arg0 v63
  let c0_i32_23 : BitVec 32 := 0#32
  let v66 : BitVec 1 := Scalar.cmpi .slt v64 c0_i32_23
  let c0_i32_24 : BitVec 32 := 0#32
  let v67 : BitVec 1 := Scalar.cmpi .slt v63 c0_i32_24
  let v68 : BitVec 1 := Scalar.xori v66 v67
  let c0_i32_22 : BitVec 32 := 0#32
  let v65 : BitVec 1 := Scalar.cmpi .ne v64 c0_i32_22
  let v69 : BitVec 1 := Scalar.andi v68 v65
  let v70 : BitVec 32 := Scalar.addi v64 v63
  let v71 : BitVec 32 := Scalar.select v69 v70 v64
  let c512_i32 : BitVec 32 := 512#32
  let v72 : BitVec 32 := Scalar.muli v71 c512_i32
  v72
def k0_off1 (i : grid0.Coords) : Fin 2 → Nat :=
  let arg0 : BitVec 32 := BitVec.ofNat 32 (i 0).val
  let c0_i32 : BitVec 32 := 0#32
  let v46 : BitVec 1 := Scalar.cmpi .sgt arg0 c0_i32
  let v47 : BitVec 32 := Scalar.extui v46
  let c0_i32_15 : BitVec 32 := 0#32
  let v48 : BitVec 1 := Scalar.cmpi .slt arg0 c0_i32_15
  let v49 : BitVec 32 := Scalar.extui v48
  let v50 : BitVec 32 := Scalar.subi v47 v49
  let c8_i32 : BitVec 32 := 8#32
  let c0_i32_16 : BitVec 32 := 0#32
  let v51 : BitVec 1 := Scalar.cmpi .sgt c8_i32 c0_i32_16
  let v52 : BitVec 32 := Scalar.extui v51
  let c0_i32_17 : BitVec 32 := 0#32
  let v53 : BitVec 1 := Scalar.cmpi .slt c8_i32 c0_i32_17
  let v54 : BitVec 32 := Scalar.extui v53
  let v55 : BitVec 32 := Scalar.subi v52 v54
  let v56 : BitVec 1 := Scalar.cmpi .ne v50 v55
  let v57 : BitVec 32 := Scalar.remsi arg0 c8_i32
  let c0_i32_18 : BitVec 32 := 0#32
  let v58 : BitVec 1 := Scalar.cmpi .ne v57 c0_i32_18
  let v59 : BitVec 1 := Scalar.andi v56 v58
  let v45 : BitVec 32 := Scalar.divsi arg0 c8_i32
  let c1_i32 : BitVec 32 := 1#32
  let v60 : BitVec 32 := Scalar.subi v45 c1_i32
  let v61 : BitVec 32 := Scalar.select v59 v60 v45
  let v106 : Index := Scalar.indexCast v61
  let c8_i32_19 : BitVec 32 := 8#32
  let c0_i32_20 : BitVec 32 := 0#32
  let v62 : BitVec 1 := Scalar.cmpi .eq c8_i32_19 c0_i32_20
  let c1_i32_21 : BitVec 32 := 1#32
  let v63 : BitVec 32 := Scalar.select v62 c1_i32_21 c8_i32_19
  let v64 : BitVec 32 := Scalar.remsi arg0 v63
  let c0_i32_23 : BitVec 32 := 0#32
  let v66 : BitVec 1 := Scalar.cmpi .slt v64 c0_i32_23
  let c0_i32_24 : BitVec 32 := 0#32
  let v67 : BitVec 1 := Scalar.cmpi .slt v63 c0_i32_24
  let v68 : BitVec 1 := Scalar.xori v66 v67
  let c0_i32_22 : BitVec 32 := 0#32
  let v65 : BitVec 1 := Scalar.cmpi .ne v64 c0_i32_22
  let v69 : BitVec 1 := Scalar.andi v68 v65
  let v70 : BitVec 32 := Scalar.addi v64 v63
  let v71 : BitVec 32 := Scalar.select v69 v70 v64
  let c512_i32 : BitVec 32 := 512#32
  let v72 : BitVec 32 := Scalar.muli v71 c512_i32
  let v73 : BitVec 32 := v72
  let v107 : Index := Scalar.indexCast v73
  ![v106.toNat, v107.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x20x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1280x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlbQkvRefIdeal.lean ====
abbrev S16384x1280 : Shape := ⟨2, ![16384, 1280]⟩
abbrev S1280 : Shape := ⟨1, ![1280]⟩
abbrev S1280x3840 : Shape := ⟨2, ![1280, 3840]⟩
abbrev S3840 : Shape := ⟨1, ![3840]⟩
abbrev S1x1280 : Shape := ⟨2, ![1, 1280]⟩
abbrev S1x3840 : Shape := ⟨2, ![1, 3840]⟩
abbrev S4x4096 : Shape := ⟨2, ![4, 4096]⟩
abbrev S16384x3840 : Shape := ⟨2, ![16384, 3840]⟩
abbrev S16384 : Shape := ⟨1, ![16384]⟩
abbrev S16384x1 : Shape := ⟨2, ![16384, 1]⟩
abbrev S4x4096x1280 : Shape := ⟨3, ![4, 4096, 1280]⟩
abbrev S4x1280x4096 : Shape := ⟨3, ![4, 1280, 4096]⟩
abbrev S16384x2560 : Shape := ⟨2, ![16384, 2560]⟩
abbrev S4x4096x20x128 : Shape := ⟨4, ![4, 4096, 20, 128]⟩
abbrev S4x20x4096x128 : Shape := ⟨4, ![4, 20, 4096, 128]⟩

abbrev nBuf : Space → Nat
  | .hbm => 20
  | .vmem => 9
  | .smem => 0
  | _ => 0

abbrev bufTy : (tb : Table) → Fin (tcTables nBuf tb) → BufTy
  | .hbm, ⟨0, _⟩ => ⟨S16384x1280, .f32⟩
  | .hbm, ⟨1, _⟩ => ⟨S1280, .f32⟩
  | .hbm, ⟨2, _⟩ => ⟨S1280, .f32⟩
  | .hbm, ⟨3, _⟩ => ⟨S1280x3840, .i8⟩
  | .hbm, ⟨4, _⟩ => ⟨S3840, .f32⟩
  | .hbm, ⟨5, _⟩ => ⟨S3840, .f32⟩
  | .hbm, ⟨6, _⟩ => ⟨S1x1280, .f32⟩
  | .hbm, ⟨7, _⟩ => ⟨S1x1280, .f32⟩
  | .hbm, ⟨8, _⟩ => ⟨S1x3840, .f32⟩
  | .hbm, ⟨9, _⟩ => ⟨S1x3840, .f32⟩
  | .hbm, ⟨10, _⟩ => ⟨S16384x1280, .i8⟩
  | .hbm, ⟨11, _⟩ => ⟨S4x4096, .f32⟩
  | .hbm, ⟨12, _⟩ => ⟨S16384x3840, .bf16⟩
  | .hbm, ⟨13, _⟩ => ⟨S16384x1280, .bf16⟩
  | .hbm, ⟨14, _⟩ => ⟨S4x4096x1280, .bf16⟩
  | .hbm, ⟨15, _⟩ => ⟨S4x1280x4096, .bf16⟩
  | .hbm, ⟨16, _⟩ => ⟨S16384x2560, .bf16⟩
  | .hbm, ⟨17, _⟩ => ⟨S4x4096x20x128, .bf16⟩
  | .hbm, ⟨18, _⟩ => ⟨S4x20x4096x128, .bf16⟩
  | .hbm, ⟨19, _⟩ => ⟨S16384x1280, .bf16⟩
  | .local _ .vmem, ⟨0, _⟩ => ⟨S16384x1280, .f32⟩
  | .local _ .vmem, ⟨1, _⟩ => ⟨S1x1280, .f32⟩
  | .local _ .vmem, ⟨2, _⟩ => ⟨S1x1280, .f32⟩
  | .local _ .vmem, ⟨3, _⟩ => ⟨S1280x3840, .i8⟩
  | .local _ .vmem, ⟨4, _⟩ => ⟨S1x3840, .f32⟩
  | .local _ .vmem, ⟨5, _⟩ => ⟨S1x3840, .f32⟩
  | .local _ .vmem, ⟨6, _⟩ => ⟨S16384x1280, .i8⟩
  | .local _ .vmem, ⟨7, _⟩ => ⟨S4x4096, .f32⟩
  | .local _ .vmem, ⟨8, _⟩ => ⟨S16384x3840, .bf16⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x3840 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.WinMlpShell.lean ====
/- The buffers of the kernel of `Cert.WinMlp` by name, and its frame from any run of the pipeline: what the two proofs about
   this kernel share. -/
module

public import proofs.«01_k».proof.Proof.Gen.WinMlp.Frame
public import proofs.«01_k».proof.Proof.Gen.WinMlp.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlp.Hand

open Cert.WinMlp Cert.WinMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! The staging buffer of each window at a point, and the scratch buffers. -/

abbrev ms0_0 (t : Fin cfg0.N) : Memref sig .tc .vmem S256x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x5120 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1280 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1280 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1280 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x5120 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x4096 .f32 := win0_19.stage (cfg0.slots t 19)
abbrev hs0_19 (t : Fin cfg0.N) : (ms0_19 t).IsWhole := hstage0_19 ((cfg0.slots t 19).cast nbuf0_19)
abbrev scM0_0 : Memref sig .tc .vmem S256x1280 .f32 := Memref.whole cc0_scratch0
abbrev scM0_1 : Memref sig .tc .vmem S256x5120 .f32 := Memref.whole cc0_scratch1

/-- What the pipeline keeps besides the windows: the scratch buffers at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.WinMlp.Hand

end
-- ==== Proof.WinMlpForget.lean ====
/- The frame of `Cert.WinMlp`: every run ends, with the arguments as they were. What the outputs hold is left open here. -/
module

public import proofs.«01_k».proof.Proof.WinMlpShell
public import proofs.«01_k».proof.Proof.Gen.WinMlp.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlp.Hand

open Cert.WinMlp Cert.WinMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S256x1280 .f32) (x1 : Vec F S256x1280 .bf16) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_win_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_win_mlp_eq_skeleton]; unfold cc0_win_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

variable (m : (ℓ : Loc nD τ sig) → Buf (Elt F) ℓ) (ρ : Dev nD → PrngReg)

/-- The windows whose contents are left open: the outputs. -/
def forgets0 : Fin 20 → Bool := fun w => w.val == 13 || w.val == 14 || w.val == 15 || w.val == 16 || w.val == 17 || w.val == 18 || w.val == 19

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runs c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.WinMlp.Hand

end
-- ==== Proof.WinMlpIdealShell.lean ====
/- The buffers of the kernel of `Cert.WinMlpIdeal` by name, and its frame from any run of the pipeline: what the two proofs about
   this kernel share. -/
module

public import proofs.«01_k».proof.Proof.Gen.WinMlpIdeal.Frame
public import proofs.«01_k».proof.Proof.Gen.WinMlpIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! The staging buffer of each window at a point, and the scratch buffers. -/

abbrev ms0_0 (t : Fin cfg0.N) : Memref sig .tc .vmem S256x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x5120 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1280 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1280 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1280 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x5120 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x4096 .f32 := win0_19.stage (cfg0.slots t 19)
abbrev hs0_19 (t : Fin cfg0.N) : (ms0_19 t).IsWhole := hstage0_19 ((cfg0.slots t 19).cast nbuf0_19)
abbrev scM0_0 : Memref sig .tc .vmem S256x1280 .f32 := Memref.whole cc0_scratch0
abbrev scM0_1 : Memref sig .tc .vmem S256x5120 .f32 := Memref.whole cc0_scratch1

/-- What the pipeline keeps besides the windows: the scratch buffers at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.WinMlpIdeal.Hand

end
-- ==== Proof.WinMlpIdealForget.lean ====
/- The frame of `Cert.WinMlpIdeal`: every run ends, with the arguments as they were. What the outputs hold is left open here. -/
module

public import proofs.«01_k».proof.Proof.WinMlpIdealShell
public import proofs.«01_k».proof.Proof.Gen.WinMlpIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S256x1280 .f32) (x1 : Vec F S256x1280 .bf16) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_win_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_win_mlp_eq_skeleton]; unfold cc0_win_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

variable (m : (ℓ : Loc nD τ sig) → Buf (Elt F) ℓ) (ρ : Dev nD → PrngReg)

/-- The windows whose contents are left open: the outputs. -/
def forgets0 : Fin 20 → Bool := fun w => w.val == 13 || w.val == 14 || w.val == 15 || w.val == 16 || w.val == 17 || w.val == 18 || w.val == 19

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runs c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.WinMlpIdeal.Hand

end
-- ==== Proof.GlbMlpShell.lean ====
/- The buffers of the kernel of `Cert.GlbMlp` by name, and its frame from any run of the pipeline: what the two proofs about
   this kernel share. -/
module

public import proofs.«01_k».proof.Proof.Gen.GlbMlp.Frame
public import proofs.«01_k».proof.Proof.Gen.GlbMlp.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlp.Hand

open Cert.GlbMlp Cert.GlbMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! The staging buffer of each window at a point, and the scratch buffers. -/

abbrev ms0_0 (t : Fin cfg0.N) : Memref sig .tc .vmem S1x1280x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x5120 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1280 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1280 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1280 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x5120 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x4096 .f32 := win0_19.stage (cfg0.slots t 19)
abbrev hs0_19 (t : Fin cfg0.N) : (ms0_19 t).IsWhole := hstage0_19 ((cfg0.slots t 19).cast nbuf0_19)
abbrev scM0_0 : Memref sig .tc .vmem S256x1280 .f32 := Memref.whole cc0_scratch0
abbrev scM0_1 : Memref sig .tc .vmem S256x5120 .f32 := Memref.whole cc0_scratch1

/-- What the pipeline keeps besides the windows: the scratch buffers at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.GlbMlp.Hand

end
-- ==== Proof.GlbMlpForget.lean ====
/- The frame of `Cert.GlbMlp`: every run ends, with the arguments as they were. What the outputs hold is left open here. -/
module

public import proofs.«01_k».proof.Proof.GlbMlpShell
public import proofs.«01_k».proof.Proof.Gen.GlbMlp.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlp.Hand

open Cert.GlbMlp Cert.GlbMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S1x1280x256 .f32) (x1 : Vec F S256x1280 .f32) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_glb_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_glb_mlp_eq_skeleton]; unfold cc0_glb_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

variable (m : (ℓ : Loc nD τ sig) → Buf (Elt F) ℓ) (ρ : Dev nD → PrngReg)

/-- The windows whose contents are left open: the outputs. -/
def forgets0 : Fin 20 → Bool := fun w => w.val == 13 || w.val == 14 || w.val == 15 || w.val == 16 || w.val == 17 || w.val == 18 || w.val == 19

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runs c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.GlbMlp.Hand

end
-- ==== Proof.GlbMlpIdealShell.lean ====
/- The buffers of the kernel of `Cert.GlbMlpIdeal` by name, and its frame from any run of the pipeline: what the two proofs about
   this kernel share. -/
module

public import proofs.«01_k».proof.Proof.Gen.GlbMlpIdeal.Frame
public import proofs.«01_k».proof.Proof.Gen.GlbMlpIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! The staging buffer of each window at a point, and the scratch buffers. -/

abbrev ms0_0 (t : Fin cfg0.N) : Memref sig .tc .vmem S1x1280x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x5120 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1280 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1280 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1280 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x5120 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S4x4096 .f32 := win0_19.stage (cfg0.slots t 19)
abbrev hs0_19 (t : Fin cfg0.N) : (ms0_19 t).IsWhole := hstage0_19 ((cfg0.slots t 19).cast nbuf0_19)
abbrev scM0_0 : Memref sig .tc .vmem S256x1280 .f32 := Memref.whole cc0_scratch0
abbrev scM0_1 : Memref sig .tc .vmem S256x5120 .f32 := Memref.whole cc0_scratch1

/-- What the pipeline keeps besides the windows: the scratch buffers at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.GlbMlpIdeal.Hand

end
-- ==== Proof.GlbMlpIdealForget.lean ====
/- The frame of `Cert.GlbMlpIdeal`: every run ends, with the arguments as they were. What the outputs hold is left open here. -/
module

public import proofs.«01_k».proof.Proof.GlbMlpIdealShell
public import proofs.«01_k».proof.Proof.Gen.GlbMlpIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S1x1280x256 .f32) (x1 : Vec F S256x1280 .f32) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_glb_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_glb_mlp_eq_skeleton]; unfold cc0_glb_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

variable (m : (ℓ : Loc nD τ sig) → Buf (Elt F) ℓ) (ρ : Dev nD → PrngReg)

/-- The windows whose contents are left open: the outputs. -/
def forgets0 : Fin 20 → Bool := fun w => w.val == 13 || w.val == 14 || w.val == 15 || w.val == 16 || w.val == 17 || w.val == 18 || w.val == 19

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runs c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.GlbMlpIdeal.Hand

end
-- ==== Proof.WinQkvShell.lean ====
/- The buffers of the kernel of `Cert.WinQkv` by name, and its frame from any run of the pipeline: what the two proofs about
   this kernel share. -/
module

public import proofs.«01_k».proof.Proof.Gen.WinQkv.Frame
public import proofs.«01_k».proof.Proof.Gen.WinQkv.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinQkv.Hand

open Cert.WinQkv Cert.WinQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! The staging buffer of each window at a point, and the scratch buffers. -/

abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x3840 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30x512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1280 .bf16 := win0_9.stage (cfg0.slots t 9)
abbrev hs0_9 (t : Fin cfg0.N) : (ms0_9 t).IsWhole := hstage0_9 ((cfg0.slots t 9).cast nbuf0_9)

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.WinQkv.Hand

end
-- ==== Proof.WinQkvForget.lean ====
/- The frame of `Cert.WinQkv`: every run ends, with the arguments as they were. What the outputs hold is left open here. -/
module

public import proofs.«01_k».proof.Proof.WinQkvShell
public import proofs.«01_k».proof.Proof.Gen.WinQkv.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinQkv.Hand

open Cert.WinQkv Cert.WinQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S512x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1280x3840 .i8) (harg4 : arg4.IsWhole) (arg5 : Memref sig .tc .vmem S1x3840 .f32) (harg5 : arg5.IsWhole) (arg6 : Memref sig .tc .vmem S1x3840 .f32) (harg6 : arg6.IsWhole) (arg7 : Memref sig .tc .vmem S512x1280 .i8) (harg7 : arg7.IsWhole) (arg8 : Memref sig .tc .vmem S4x4096 .f32) (harg8 : arg8.IsWhole) (arg9 : Memref sig .tc .vmem S1x30x512x128 .bf16) (harg9 : arg9.IsWhole) (arg10 : Memref sig .tc .vmem S512x1280 .bf16) (harg10 : arg10.IsWhole) (x0 : Vec F S512x1280 .bf16) (x1 : Vec F S1x1280 .f32) (x2 : Vec F S1x1280 .f32) (x3 : Vec F S1280x3840 .i8) (x4 : Vec F S1x3840 .f32) (x5 : Vec F S1x3840 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_win_qkv i arg1 harg1 arg2 harg2 arg3 harg3 arg4 harg4 arg5 harg5 arg6 harg6 arg7 harg7 arg8 harg8 arg9 harg9 arg10 harg10) K := by
  simp only [cc0_win_qkv_eq_skeleton]; unfold cc0_win_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-- The windows whose contents are left open: the outputs. -/
def forgets0 : Fin 10 → Bool := fun w => w.val == 6 || w.val == 7 || w.val == 8 || w.val == 9

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runs c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.WinQkv.Hand

end
-- ==== Proof.WinQkvIdealShell.lean ====
/- The buffers of the kernel of `Cert.WinQkvIdeal` by name, and its frame from any run of the pipeline: what the two proofs about
   this kernel share. -/
module

public import proofs.«01_k».proof.Proof.Gen.WinQkvIdeal.Frame
public import proofs.«01_k».proof.Proof.Gen.WinQkvIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinQkvIdeal.Hand

open Cert.WinQkvIdeal Cert.WinQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! The staging buffer of each window at a point, and the scratch buffers. -/

abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x3840 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30x512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1280 .bf16 := win0_9.stage (cfg0.slots t 9)
abbrev hs0_9 (t : Fin cfg0.N) : (ms0_9 t).IsWhole := hstage0_9 ((cfg0.slots t 9).cast nbuf0_9)

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.WinQkvIdeal.Hand

end
-- ==== Proof.WinQkvIdealForget.lean ====
/- The frame of `Cert.WinQkvIdeal`: every run ends, with the arguments as they were. What the outputs hold is left open here. -/
module

public import proofs.«01_k».proof.Proof.WinQkvIdealShell
public import proofs.«01_k».proof.Proof.Gen.WinQkvIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinQkvIdeal.Hand

open Cert.WinQkvIdeal Cert.WinQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S512x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1280x3840 .i8) (harg4 : arg4.IsWhole) (arg5 : Memref sig .tc .vmem S1x3840 .f32) (harg5 : arg5.IsWhole) (arg6 : Memref sig .tc .vmem S1x3840 .f32) (harg6 : arg6.IsWhole) (arg7 : Memref sig .tc .vmem S512x1280 .i8) (harg7 : arg7.IsWhole) (arg8 : Memref sig .tc .vmem S4x4096 .f32) (harg8 : arg8.IsWhole) (arg9 : Memref sig .tc .vmem S1x30x512x128 .bf16) (harg9 : arg9.IsWhole) (arg10 : Memref sig .tc .vmem S512x1280 .bf16) (harg10 : arg10.IsWhole) (x0 : Vec F S512x1280 .bf16) (x1 : Vec F S1x1280 .f32) (x2 : Vec F S1x1280 .f32) (x3 : Vec F S1280x3840 .i8) (x4 : Vec F S1x3840 .f32) (x5 : Vec F S1x3840 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_win_qkv i arg1 harg1 arg2 harg2 arg3 harg3 arg4 harg4 arg5 harg5 arg6 harg6 arg7 harg7 arg8 harg8 arg9 harg9 arg10 harg10) K := by
  simp only [cc0_win_qkv_eq_skeleton]; unfold cc0_win_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-- The windows whose contents are left open: the outputs. -/
def forgets0 : Fin 10 → Bool := fun w => w.val == 6 || w.val == 7 || w.val == 8 || w.val == 9

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runs c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.WinQkvIdeal.Hand

end
-- ==== Proof.GlbQkvShell.lean ====
/- The buffers of the kernel of `Cert.GlbQkv` by name, and its frame from any run of the pipeline: what the two proofs about
   this kernel share. -/
module

public import proofs.«01_k».proof.Proof.Gen.GlbQkv.Frame
public import proofs.«01_k».proof.Proof.Gen.GlbQkv.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbQkv.Hand

open Cert.GlbQkv Cert.GlbQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! The staging buffer of each window at a point, and the scratch buffers. -/

abbrev ms0_0 (t : Fin cfg0.N) : Memref sig .tc .vmem S512x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x3840 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20x512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1280 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x512 .bf16 := win0_10.stage (cfg0.slots t 10)
abbrev hs0_10 (t : Fin cfg0.N) : (ms0_10 t).IsWhole := hstage0_10 ((cfg0.slots t 10).cast nbuf0_10)

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.GlbQkv.Hand

end
-- ==== Proof.GlbQkvForget.lean ====
/- The frame of `Cert.GlbQkv`: every run ends, with the arguments as they were. What the outputs hold is left open here. -/
module

public import proofs.«01_k».proof.Proof.GlbQkvShell
public import proofs.«01_k».proof.Proof.Gen.GlbQkv.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbQkv.Hand

open Cert.GlbQkv Cert.GlbQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S512x1280 .f32) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1280x3840 .i8) (harg4 : arg4.IsWhole) (arg5 : Memref sig .tc .vmem S1x3840 .f32) (harg5 : arg5.IsWhole) (arg6 : Memref sig .tc .vmem S1x3840 .f32) (harg6 : arg6.IsWhole) (arg7 : Memref sig .tc .vmem S512x1280 .i8) (harg7 : arg7.IsWhole) (arg8 : Memref sig .tc .vmem S4x4096 .f32) (harg8 : arg8.IsWhole) (arg9 : Memref sig .tc .vmem S1x20x512x128 .bf16) (harg9 : arg9.IsWhole) (arg10 : Memref sig .tc .vmem S512x1280 .bf16) (harg10 : arg10.IsWhole) (arg11 : Memref sig .tc .vmem S1x1280x512 .bf16) (harg11 : arg11.IsWhole) (x0 : Vec F S512x1280 .f32) (x1 : Vec F S1x1280 .f32) (x2 : Vec F S1x1280 .f32) (x3 : Vec F S1280x3840 .i8) (x4 : Vec F S1x3840 .f32) (x5 : Vec F S1x3840 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_glb_qkv i arg1 harg1 arg2 harg2 arg3 harg3 arg4 harg4 arg5 harg5 arg6 harg6 arg7 harg7 arg8 harg8 arg9 harg9 arg10 harg10 arg11 harg11) K := by
  simp only [cc0_glb_qkv_eq_skeleton]; unfold cc0_glb_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

variable (m : (ℓ : Loc nD τ sig) → Buf (Elt F) ℓ) (ρ : Dev nD → PrngReg)

/-- The windows whose contents are left open: the outputs. -/
def forgets0 : Fin 11 → Bool := fun w => w.val == 6 || w.val == 7 || w.val == 8 || w.val == 9 || w.val == 10

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runs c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.GlbQkv.Hand

end
-- ==== Proof.GlbQkvIdealShell.lean ====
/- The buffers of the kernel of `Cert.GlbQkvIdeal` by name, and its frame from any run of the pipeline: what the two proofs about
   this kernel share. -/
module

public import proofs.«01_k».proof.Proof.Gen.GlbQkvIdeal.Frame
public import proofs.«01_k».proof.Proof.Gen.GlbQkvIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbQkvIdeal.Hand

open Cert.GlbQkvIdeal Cert.GlbQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- A run that ends with the arrays of the pipeline as the proof data say, and the other buffers as found, leaves every argument
    as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! The staging buffer of each window at a point, and the scratch buffers. -/

abbrev ms0_0 (t : Fin cfg0.N) : Memref sig .tc .vmem S512x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x3840 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1280 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20x512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1280 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x512 .bf16 := win0_10.stage (cfg0.slots t 10)
abbrev hs0_10 (t : Fin cfg0.N) : (ms0_10 t).IsWhole := hstage0_10 ((cfg0.slots t 10).cast nbuf0_10)

/-- The body the pipeline runs at point `t`. -/
theorem defs₀_row (t : Fin cfg0.N) :
    defs₀ (F := F) .tc cfg0.body (cfg0.bodyArgs t (cfg0.slots t)) = bodyAt0 t := by
  unfold defs₀; rw [Defs.onTc_tc]

end Cert.GlbQkvIdeal.Hand

end
-- ==== Proof.GlbQkvIdealForget.lean ====
/- The frame of `Cert.GlbQkvIdeal`: every run ends, with the arguments as they were. What the outputs hold is left open here. -/
module

public import proofs.«01_k».proof.Proof.GlbQkvIdealShell
public import proofs.«01_k».proof.Proof.Gen.GlbQkvIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbQkvIdeal.Hand

open Cert.GlbQkvIdeal Cert.GlbQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body's run, the outputs left at some contents. -/
theorem runs (c : Dev nD) (i : grid0.Coords) (arg1 : Memref sig .tc .vmem S512x1280 .f32) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1280x3840 .i8) (harg4 : arg4.IsWhole) (arg5 : Memref sig .tc .vmem S1x3840 .f32) (harg5 : arg5.IsWhole) (arg6 : Memref sig .tc .vmem S1x3840 .f32) (harg6 : arg6.IsWhole) (arg7 : Memref sig .tc .vmem S512x1280 .i8) (harg7 : arg7.IsWhole) (arg8 : Memref sig .tc .vmem S4x4096 .f32) (harg8 : arg8.IsWhole) (arg9 : Memref sig .tc .vmem S1x20x512x128 .bf16) (harg9 : arg9.IsWhole) (arg10 : Memref sig .tc .vmem S512x1280 .bf16) (harg10 : arg10.IsWhole) (arg11 : Memref sig .tc .vmem S1x1280x512 .bf16) (harg11 : arg11.IsWhole) (x0 : Vec F S512x1280 .f32) (x1 : Vec F S1x1280 .f32) (x2 : Vec F S1x1280 .f32) (x3 : Vec F S1280x3840 .i8) (x4 : Vec F S1x3840 .f32) (x5 : Vec F S1x3840 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_glb_qkv i arg1 harg1 arg2 harg2 arg3 harg3 arg4 harg4 arg5 harg5 arg6 harg6 arg7 harg7 arg8 harg8 arg9 harg9 arg10 harg10 arg11 harg11) K := by
  simp only [cc0_glb_qkv_eq_skeleton]; unfold cc0_glb_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

variable (m : (ℓ : Loc nD τ sig) → Buf (Elt F) ℓ) (ρ : Dev nD → PrngReg)

/-- The windows whose contents are left open: the outputs. -/
def forgets0 : Fin 11 → Bool := fun w => w.val == 6 || w.val == 7 || w.val == 8 || w.val == 9 || w.val == 10

/-- The inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runs c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m)
    ((θ_run defs _ _).mono (fun _ h => h.1) (run_main_quiescent m ρ)))
    ((θ_run defs _ _).mono (fun _ h => h.2) (run_main_quiescent m ρ))

end Cert.GlbQkvIdeal.Hand

end
-- ==== Proof.Rows.lean ====
/- The arithmetic of one block of rows, written once for any number of rows and any float instance: the row-wise
   quantiser, layer normalisation, a quantised linear layer and the activation. The kernels' blocks of 256 and of
   512 rows and the references' whole arrays of 16384 rows are all instances. -/
module

public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Rows

open Idealize.ShloMosaic Idealize.ShloMosaic.ValueIdx

/-- A matrix shape and a vector shape. -/
abbrev M2 (a b : ℕ) : Shape := ⟨2, ![a, b]⟩
abbrev M1 (a : ℕ) : Shape := ⟨1, ![a]⟩

theorem red1 (t n : ℕ) : (M2 t n).Reduces [1] (M1 t) :=
  ⟨rfl, Nat.one_pos, fun b => by match b with | ⟨0, _⟩ => rfl⟩
theorem col (t : ℕ) : (M1 t).ShapeCasts (M2 t 1) := by
  show (M1 t).numel = (M2 t 1).numel
  simp [Shape.numel, Fin.prod_univ_two]
theorem bcol (t n : ℕ) : (M2 t 1).Broadcasts (M2 t n) :=
  ⟨le_refl _, fun a => by match a with | ⟨0, _⟩ => exact .inr fun _ => rfl | ⟨1, _⟩ => exact .inl rfl⟩
theorem brow (t n : ℕ) : (M2 1 n).Broadcasts (M2 t n) :=
  ⟨le_refl _, fun a => by match a with | ⟨0, _⟩ => exact .inl rfl | ⟨1, _⟩ => exact .inr fun _ => rfl⟩
theorem same (s : Shape) : s.ShapeCasts s := rfl

section Vectors

variable {F : FTy → Type} [FloatOps F] {t n K : ℕ}

/-- Each row's greatest absolute value, as one column. -/
def amaxCol (v : FVec F (M2 t n) .f32) : FVec F (M2 t 1) .f32 :=
  shapeCast (M2 t 1) (multiReduction .maximumf [1] (M1 t) (absf v) 0xFF800000#32 (red1 t n) (.inl rfl) rfl) (col t)

/-- The scale a row's greatest absolute value gives: one where it is zero, else a 127th of it. -/
def scaleOf (a : FVec F (M2 t 1) .f32) : FVec F (M2 t 1) .f32 :=
  select (cmpf .oeq a (broadcast (M2 t 1) (Scalar.ofBits .f32 0x00000000#32)))
    (broadcast (M2 t 1) (Scalar.ofBits .f32 0x3F800000#32))
    (divf a (broadcast (M2 t 1) (Scalar.ofBits .f32 0x42FE0000#32)))

/-- The rows' scales. -/
def scale (v : FVec F (M2 t n) .f32) : FVec F (M2 t 1) .f32 := scaleOf (amaxCol v)

/-- The codes before they become integers: divided by the scale, rounded to even, clipped to ±127. -/
def qreal (v : FVec F (M2 t n) .f32) (s : FVec F (M2 t 1) .f32) : FVec F (M2 t n) .f32 :=
  minimumf (broadcast (M2 t n) (Scalar.sitofp .f32 127#32))
    (maximumf (broadcast (M2 t n) (Scalar.sitofp .f32 4294967169#32))
      (roundeven (divf v (broadcastTo (M2 t n) s (bcol t n)))))

/-- The int8 codes. -/
def codes (v : FVec F (M2 t n) .f32) (s : FVec F (M2 t 1) .f32) : IVec (M2 t n) 8 := fptosi 8 (qreal v s)

/-- Each row's sum, as one column. -/
def sumCol (v : FVec F (M2 t n) .f32) : FVec F (M2 t 1) .f32 :=
  shapeCast (M2 t 1) (multiReduction .add [1] (M1 t) v 0x00000000#32 (red1 t n) (.inl rfl) rfl) (col t)

/-- Each row's deviation from its mean (of 1280 numbers). -/
def centred (v : FVec F (M2 t n) .f32) : FVec F (M2 t n) .f32 :=
  subf v (broadcastTo (M2 t n)
    (divf (sumCol v) (broadcast (M2 t 1) (Scalar.ofBits .f32 0x44A00000#32))) (bcol t n))

/-- Layer normalisation of every row. -/
def lnorm (v : FVec F (M2 t n) .f32) (g b : FVec F (M2 1 n) .f32) : FVec F (M2 t n) .f32 :=
  addf (mulf (divf (centred v) (broadcastTo (M2 t n)
      (sqrt (addf (divf (sumCol (mulf (centred v) (centred v))) (broadcast (M2 t 1) (Scalar.ofBits .f32 0x44A00000#32)))
        (broadcast (M2 t 1) (Scalar.ofBits .f32 0x358637BD#32)))) (bcol t n)))
      (broadcastTo (M2 t n) (shapeCast (M2 1 n) g (same _)) (brow t n)))
    (broadcastTo (M2 t n) (shapeCast (M2 1 n) b (same _)) (brow t n))

/-- A quantised linear layer: the product of the codes, scaled by row and by column, plus the bias. -/
def lin (lhs : FVec F (M2 t K) .bf16) (s : FVec F (M2 t 1) .f32) (w : Vec F (M2 K n) .i8) (ws b : FVec F (M2 1 n) .f32) :
    FVec F (M2 t n) .f32 :=
  addf (mulf (mulf (matmul (DotDims.plain t K n) none lhs (sitofp .bf16 w) (constant (M2 t n) .f32 0x00000000#32))
        (broadcastTo (M2 t n) s (bcol t n)))
      (broadcastTo (M2 t n) (shapeCast (M2 1 n) ws (same _)) (brow t n)))
    (broadcastTo (M2 t n) (shapeCast (M2 1 n) b (same _)) (brow t n))

/-- The activation, the argument of the error function being the number times `k`. -/
def gelu (k : F .f32) (f : FVec F (M2 t n) .f32) : FVec F (M2 t n) .f32 :=
  mulf (mulf (broadcast (M2 t n) (Scalar.ofBits .f32 0x3F000000#32)) f)
    (addf (broadcast (M2 t n) (Scalar.ofBits .f32 0x3F800000#32)) (erf (mulf f (broadcast (M2 t n) k))))

/-- The activation, the argument of the error function being the number divided by `k`. -/
def geluDiv (k : F .f32) (f : FVec F (M2 t n) .f32) : FVec F (M2 t n) .f32 :=
  mulf (mulf (broadcast (M2 t n) (Scalar.ofBits .f32 0x3F000000#32)) f)
    (addf (broadcast (M2 t n) (Scalar.ofBits .f32 0x3F800000#32)) (erf (divf f (broadcast (M2 t n) k))))

end Vectors

/-! ## At the ideal values: one row at a time -/

/-- A row's greatest absolute value, its scale, its codes as reals and as integers. -/
def amaxR {n : ℕ} (v : Fin n → EReal) : EReal :=
  (Finset.univ : Finset (Fin n)).fold max (FloatOps.ofBits (F := Ideal) .f32 0xFF800000#32) fun k => max (v k) (-(v k))
def scaleOfR (a : EReal) : EReal :=
  Scalar.select (Ideal.cmp .oeq a (Ideal.ofBits .f32 0x00000000#32)) (Ideal.ofBits .f32 0x3F800000#32)
    (Ideal.div a (Ideal.ofBits .f32 0x42FE0000#32))
def scaleR {n : ℕ} (v : Fin n → EReal) : EReal := scaleOfR (amaxR v)
def qrealR1 (x s : EReal) : EReal :=
  min (FloatOps.sitofp (F := Ideal) .f32 127#32) (max (FloatOps.sitofp (F := Ideal) .f32 4294967169#32)
    (FloatOps.roundeven (F := Ideal) (φ := .f32) (Ideal.div x s)))
def qrealR {n : ℕ} (v : Fin n → EReal) : Fin n → EReal := fun j => qrealR1 (v j) (scaleR v)
def codeR {n : ℕ} (v : Fin n → EReal) : Fin n → BitVec 8 := fun j => Ideal.fptosi 8 (qrealR v j)

/-- A row's deviation from its mean, and its layer normalisation. -/
def centredR {n : ℕ} (v : Fin n → EReal) : Fin n → EReal := fun j =>
  v j - Ideal.div (∑ k, v k) (Ideal.ofBits .f32 0x44A00000#32)
def lnormR {n : ℕ} (v : Fin n → EReal) (g b : FVec Ideal (M2 1 n) .f32) : Fin n → EReal := fun j =>
  Ideal.div (centredR v j) (Ideal.sqrt (Ideal.div (∑ k, centredR v k * centredR v k) (Ideal.ofBits .f32 0x44A00000#32)
    + Ideal.ofBits .f32 0x358637BD#32)) * g (ix2 0 j) + b (ix2 0 j)

/-- One entry of a quantised linear layer. -/
def linR {n K : ℕ} (q : Fin K → EReal) (s : EReal) (w : Vec Ideal (M2 K n) .i8) (ws b : FVec Ideal (M2 1 n) .f32) :
    Fin n → EReal := fun j =>
  (Ideal.ofBits .f32 0x00000000#32 + ∑ k, q k * FloatOps.sitofp (F := Ideal) .bf16 (w (ix2 k j))) * s * ws (ix2 0 j) + b (ix2 0 j)

def geluR (k x : EReal) : EReal :=
  Ideal.ofBits .f32 0x3F000000#32 * x * (Ideal.ofBits .f32 0x3F800000#32 + Ideal.erf (x * k))
def geluDivR (k x : EReal) : EReal :=
  Ideal.ofBits .f32 0x3F000000#32 * x * (Ideal.ofBits .f32 0x3F800000#32 + Ideal.erf (Ideal.div x k))

section Apply

variable {t n K : ℕ}

/-- Row `r` of a matrix. -/
abbrev row {α : Type} (v : (M2 t n).Idx → α) (r : Fin t) : Fin n → α := fun k => v (ix2 r k)

theorem lift1 (r : Fin t) (k : Fin n) : (red1 t n).lift (ix1 r) k = ix2 r k := by
  funext a; match a with | ⟨0, _⟩ => rfl | ⟨1, _⟩ => rfl

theorem bcol_apply (s : FVec Ideal (M2 t 1) .f32) (r : Fin t) (j : Fin n) :
    broadcastTo (M2 t n) s (bcol t n) (ix2 r j) = s (ix2 r 0) := by
  refine broadcastTo_apply s _ (ix2 r j) (ix2 r (0 : Fin 1)) fun ax => ?_
  match ax with
  | ⟨0, _⟩ =>
    show r.val = if t = 1 then 0 else r.val
    split
    · have := r.isLt; omega
    · rfl
  | ⟨1, _⟩ => rfl

theorem brow_apply (s : FVec Ideal (M2 1 n) .f32) (r : Fin t) (j : Fin n) :
    broadcastTo (M2 t n) (shapeCast (M2 1 n) s (same _)) (brow t n) (ix2 r j) = s (ix2 0 j) := by
  rw [broadcastTo_1b_ab_apply]
  exact shapeCast_apply s _ _ _ rfl

theorem amaxCol_apply (v : FVec Ideal (M2 t n) .f32) (r : Fin t) (u : Fin 1) :
    amaxCol v (ix2 r u) = amaxR (row v r) := by
  refine (shapeCast_a_a1_apply _ (col t) r u).trans ((Ideal.multiReduction_maximumf_single _ _ (red1 t n) _ rfl _).trans ?_)
  exact congrArg (Finset.fold max _ · _) (funext fun k => congrArg (fun i => max (v i) (-(v i))) (lift1 r k))

theorem sumCol_apply (v : FVec Ideal (M2 t n) .f32) (r : Fin t) (u : Fin 1) :
    sumCol v (ix2 r u) = ∑ k, v (ix2 r k) := by
  refine (shapeCast_a_a1_apply _ (col t) r u).trans ((Ideal.multiReduction_add_single _ _ (red1 t n) _ rfl _).trans ?_)
  exact Finset.sum_congr rfl fun k _ => congrArg v (lift1 r k)

theorem scaleOf_apply (a : FVec Ideal (M2 t 1) .f32) (r : Fin t) (u : Fin 1) :
    scaleOf a (ix2 r u) = scaleOfR (a (ix2 r u)) := rfl

theorem scale_apply (v : FVec Ideal (M2 t n) .f32) (r : Fin t) (u : Fin 1) :
    scale v (ix2 r u) = scaleR (row v r) := by
  unfold scale scaleR
  rw [scaleOf_apply, amaxCol_apply]

theorem qreal_apply (v : FVec Ideal (M2 t n) .f32) (s : FVec Ideal (M2 t 1) .f32) (r : Fin t) (j : Fin n) :
    qreal v s (ix2 r j) = qrealR1 (v (ix2 r j)) (s (ix2 r 0)) := by
  show min _ (max _ (FloatOps.roundeven (F := Ideal) (Ideal.div (v (ix2 r j)) (broadcastTo (M2 t n) s (bcol t n) (ix2 r j))))) = _
  rw [bcol_apply]; rfl

theorem centred_apply (v : FVec Ideal (M2 t n) .f32) (r : Fin t) (j : Fin n) :
    centred v (ix2 r j) = centredR (row v r) j := by
  unfold centred centredR
  rw [subf_apply, bcol_apply, divf_apply, sumCol_apply]
  rfl

theorem lnorm_apply (v : FVec Ideal (M2 t n) .f32) (g b : FVec Ideal (M2 1 n) .f32) (r : Fin t) (j : Fin n) :
    lnorm v g b (ix2 r j) = lnormR (row v r) g b j := by
  unfold lnorm lnormR
  rw [addf_apply, mulf_apply, divf_apply, brow_apply, brow_apply, bcol_apply, centred_apply]
  show Ideal.div _ (Ideal.sqrt (divf (F := Ideal) (φ := .f32) _ _ (ix2 r 0) + _)) * _ + _ = _
  rw [divf_apply, sumCol_apply]
  exact congrArg (fun z => Ideal.div _ (Ideal.sqrt (Ideal.div z _ + _)) * _ + _) (Finset.sum_congr rfl fun k _ => by
    rw [mulf_apply, centred_apply])

theorem lin_apply (lhs : FVec Ideal (M2 t K) .bf16) (s : FVec Ideal (M2 t 1) .f32) (w : Vec Ideal (M2 K n) .i8)
    (ws b : FVec Ideal (M2 1 n) .f32) (r : Fin t) (j : Fin n) :
    lin lhs s w ws b (ix2 r j) = linR (row lhs r) (s (ix2 r 0)) w ws b j := by
  unfold lin linR
  rw [addf_apply, mulf_apply, mulf_apply, brow_apply, brow_apply, bcol_apply]
  exact congrArg (· * _ * _ + _) (Ideal.matmul_plain_apply none lhs (sitofp .bf16 w) _ r j)

theorem gelu_apply (k : EReal) (f : FVec Ideal (M2 t n) .f32) (r : Fin t) (j : Fin n) :
    gelu (F := Ideal) k f (ix2 r j) = geluR k (f (ix2 r j)) := rfl
theorem geluDiv_apply (k : EReal) (f : FVec Ideal (M2 t n) .f32) (r : Fin t) (j : Fin n) :
    geluDiv (F := Ideal) k f (ix2 r j) = geluDivR k (f (ix2 r j)) := rfl

end Apply

end Cert.Rows

end
-- ==== Proof.Pack.lean ====
/- The packing of a column of numbers into a row, as the kernels write it (128 numbers at a time: the column spread
   over a square, everything off the diagonal replaced by zero, and the square summed down), and three facts on buffers
   written piece by piece. -/
module

public import proofs.«01_k».proof.Proof.Rows
public import Idealize.ShloMosaic.Lib.Pipeline.FrameBody

@[expose] public section

noncomputable section

namespace Cert.Rows

open Idealize.ShloMosaic Idealize.ShloMosaic.ValueIdx

variable {F : FTy → Type} [FloatOps F]

theorem iotas0 : (M2 128 128).Iotas .tc 32 [0] := by decide
theorem iotas1 : (M2 128 128).Iotas .tc 32 [1] := by decide
theorem red0 : (M2 128 128).Reduces [0] (M1 128) := by decide
theorem asRow : (M1 128).ShapeCasts (M2 1 128) := by decide
theorem rows128 {t : ℕ} (o : ℕ) (h : o + 128 ≤ t) : (M2 t 1).Slices ![o, 0] (M2 128 1) :=
  ⟨rfl, fun a => match a with | ⟨0, _⟩ => h | ⟨1, _⟩ => le_refl _⟩

/-- A column of 128 numbers as a row. -/
def diagRow (v : FVec F (M2 128 1) .f32) : FVec F (M2 1 128) .f32 :=
  shapeCast (M2 1 128) (multiReduction .add [0] (M1 128)
    (select (cmpi .eq (iota .tc (M2 128 128) 32 [0] iotas0) (iota .tc (M2 128 128) 32 [1] iotas1))
      (broadcastTo (M2 128 128) (shapeCast (M2 128 1) v (same _)) (bcol 128 128))
      (broadcast (M2 128 128) (Scalar.ofBits .f32 0x00000000#32))) 0x00000000#32 red0 (.inl rfl) rfl) asRow

theorem cat2 : Shape.Concatenates [M2 1 128, M2 1 128] (M2 1 256) 1 := by decide

/-- A column of 256 numbers as a row. -/
def rowOf256 (v : FVec F (M2 256 1) .f32) : FVec F (M2 1 256) .f32 :=
  concatenate (M2 1 256) 1
    [⟨M2 1 128, diagRow (extractStridedSlice (M2 128 1) ![0, 0] v (rows128 0 (by norm_num)))⟩,
     ⟨M2 1 128, diagRow (extractStridedSlice (M2 128 1) ![128, 0] v (rows128 128 (by norm_num)))⟩] cat2

/-- How a buffer written piece by piece is read back through a box. -/
abbrev Reader (F : FTy → Type) (s : Shape) (e : EltTy) :=
  List (View.Piece (Elt F) s e) → (B : LoadRect s) → B.shape.Idx → Elt F e

/-- The reader that names no buffer: the pieces' own contents, the last written first. -/
abbrev rdC {s : Shape} {e : EltTy} : Reader F s e := fun L B j => View.canon L (B.idx j)

theorem readCov_eq {sig : RefSig} {κ : Kind} {sp : Space} {s : Shape} {e : EltTy} (v : View sig κ sp s e) :
    (fun (L : List (View.Piece (Elt F) s e)) (B : LoadRect s) => v.readCov L B) = rdC :=
  funext fun L => funext fun B => View.readCov_eq_canon' v L B

/-- A buffer written at one box reads as it did, but for the box. -/
theorem read_writes_overlay {sig : RefSig} {κ : Kind} {sp : Space} {s : Shape} {e : EltTy} (v : View sig κ sp s e)
    (f : v.ty.Contents (Elt F)) (r : Rect s) (w : r.shape.Idx → Elt F e) :
    v.read (Elt F) (v.writes (Elt F) f [⟨r, w⟩]) = r.overlay (v.read (Elt F) f) w := by
  funext y
  by_cases h : y ∈ r.set
  · obtain ⟨x, rfl⟩ : ∃ x, r.emb x = y := by
      rw [← Rect.map_emb_univ] at h; exact (Finset.mem_map.1 h).imp fun _ h => h.2
    exact (View.read_writes_cons_emb v f r w [] x).trans (r.overlay_emb _ _ x).symm
  · exact (View.read_writes_cons_miss v f ⟨r, w⟩ [] y h).trans (r.overlay_of_not_mem _ _ h).symm

end Cert.Rows

end
-- ==== Proof.MlpBlock.lean ====
/- What the feed-forward kernel computes from one block of 256 rows, at any float instance: the quantised output
   projection with its residual, layer normalisation, the hidden layer in ten chunks of 512 columns with the greatest
   absolute value kept lane by lane, the hidden codes, and the second product with its residual. The two scratch
   buffers and the code buffer are written piece by piece and read back: how they are read back is a parameter. -/
module

public import proofs.«01_k».proof.Proof.Pack
public import Idealize.ShloMosaic.Lib.Pipeline.FrameBody

@[expose] public section

noncomputable section

namespace Cert.Rows

open Idealize.ShloMosaic Idealize.ShloMosaic.ValueIdx

variable {F : FTy → Type} [FloatOps F]

theorem inbCols {a b c n : ℕ} (h : c + n ≤ b) : ∀ ax, (![0, c] : Fin 2 → Nat) ax + (M2 a n).size ax ≤ (M2 a b).size ax
  | ⟨0, _⟩ => le_of_eq (Nat.zero_add a)
  | ⟨1, _⟩ => h

/-- The box of all rows and of the columns from `c` to `c + n`. -/
abbrev colBox (a b c n : ℕ) (h : c + n ≤ b) : Rect (M2 a b) := Rect.unit ![0, c] (M2 a n).size (inbCols h)

/-- The columns from `c` to `c + n` of a matrix. -/
abbrev cut {a b : ℕ} {e : EltTy} (X : Vec F (M2 a b) e) (c n : ℕ) (h : c + n ≤ b) : Vec F (M2 a n) e :=
  View.ld (Val := Elt F) (e' := e) X (colBox a b c n h)

theorem mem_colBox {a b c n : ℕ} (h : c + n ≤ b) (y : (M2 a b).Idx) (h1 : c ≤ (y 1).val) (h2 : (y 1).val < c + n) :
    y ∈ (colBox a b c n h).set :=
  Rect.mem_set_unit.2 fun ax => match ax with
    | ⟨0, _⟩ => ⟨Nat.zero_le _, by show (y 0).val < 0 + a; rw [Nat.zero_add]; exact (y 0).isLt⟩
    | ⟨1, _⟩ => ⟨h1, h2⟩

theorem cover1 {a n : ℕ} {e : EltTy} (h : 0 + n ≤ n) (p : Vec F (M2 a n) e) (y : (M2 a n).Idx) :
    ∃ q ∈ ([⟨colBox a n 0 n h, p⟩] : List (View.Piece (Elt F) (M2 a n) e)), y ∈ q.1.set :=
  ⟨_, List.mem_singleton_self _, mem_colBox h y (Nat.zero_le _) (by have := (y 1).isLt; exact (Nat.zero_add n).symm ▸ this)⟩

theorem cover3 {e : EltTy} (p : Vec F (M2 256 256) e) (q r : Vec F (M2 256 512) e) (y : (M2 256 1280).Idx) :
    ∃ x ∈ ([⟨colBox 256 1280 1024 256 (by norm_num), p⟩, ⟨colBox 256 1280 512 512 (by norm_num), q⟩,
      ⟨colBox 256 1280 0 512 (by norm_num), r⟩] : List (View.Piece (Elt F) (M2 256 1280) e)), y ∈ x.1.set := by
  obtain ⟨j, hj⟩ : ∃ j, (y 1).val = j := ⟨_, rfl⟩
  have hy : j < 1280 := hj ▸ (y 1).isLt
  rcases lt_or_ge j 512 with h | h
  · exact ⟨_, List.mem_cons_of_mem _ (List.mem_cons_of_mem _ List.mem_cons_self), mem_colBox (c := 0) (n := 512) (by norm_num) y (Nat.zero_le _) (hj ▸ (Nat.zero_add 512).symm ▸ h)⟩
  rcases lt_or_ge j 1024 with h' | h'
  · exact ⟨_, List.mem_cons_of_mem _ List.mem_cons_self, mem_colBox (c := 512) (n := 512) (by norm_num) y (hj ▸ h) (hj ▸ h')⟩
  · exact ⟨_, List.mem_cons_self, mem_colBox (c := 1024) (n := 256) (by norm_num) y (hj ▸ h') (hj ▸ hy)⟩

theorem bf16_lt : FTy.bits .bf16 < FTy.bits .f32 := by decide

theorem lane (c : ℕ) (h : c + 128 ≤ 512) (t : ℕ) : (M2 t 512).Slices ![0, c] (M2 t 128) :=
  ⟨rfl, fun a => match a with | ⟨0, _⟩ => le_of_eq (Nat.zero_add t) | ⟨1, _⟩ => h⟩

/-- The running greatest absolute value of each lane, after one more chunk of four groups of 128 columns. -/
def amaxStep {t : ℕ} (a : FVec F (M2 t 128) .f32) (v : FVec F (M2 t 512) .f32) : FVec F (M2 t 128) .f32 :=
  maximumf (maximumf (maximumf (maximumf a
    (absf (extractStridedSlice (M2 t 128) ![0, 0] v (lane 0 (by norm_num) t))))
    (absf (extractStridedSlice (M2 t 128) ![0, 128] v (lane 128 (by norm_num) t))))
    (absf (extractStridedSlice (M2 t 128) ![0, 256] v (lane 256 (by norm_num) t))))
    (absf (extractStridedSlice (M2 t 128) ![0, 384] v (lane 384 (by norm_num) t)))

/-- Each row's maximum, as one column. -/
def maxCol {t n : ℕ} (v : FVec F (M2 t n) .f32) : FVec F (M2 t 1) .f32 :=
  shapeCast (M2 t 1) (multiReduction .maximumf [1] (M1 t) v 0xFF800000#32 (red1 t n) (.inl rfl) rfl) (col t)

/-- One block's data: the attention output, the residual input in three column pieces, the weights, and the constant
    the activation multiplies by. -/
structure Blk (F : FTy → Type) where
  o : FVec F (M2 256 1280) .f32
  xa : FVec F (M2 256 512) .f32
  xb : FVec F (M2 256 512) .f32
  xc : FVec F (M2 256 256) .f32
  wp : Vec F (M2 1280 1280) .i8
  wps : Vec F (M2 1 1280) .f32
  bp : Vec F (M2 1 1280) .f32
  g : FVec F (M2 1 1280) .f32
  beta : FVec F (M2 1 1280) .f32
  w1 : Vec F (M2 1280 5120) .i8
  w1s : Vec F (M2 1 5120) .f32
  b1 : Vec F (M2 1 5120) .f32
  w2 : Vec F (M2 5120 1280) .i8
  w2s : Vec F (M2 1 1280) .f32
  b2 : Vec F (M2 1 1280) .f32
  k : F .f32

namespace Blk

variable (B : Blk F)

def s1 : FVec F (M2 256 1) .f32 := scale B.o
def lhs1 : FVec F (M2 256 1280) .bf16 := truncf .bf16 (qreal B.o B.s1) bf16_lt

/-- The columns from `c` on of the residual sum after the output projection. -/
def h1c (c n : ℕ) (h : c + n ≤ 1280) (x : FVec F (M2 256 n) .f32) : FVec F (M2 256 n) .f32 :=
  addf x (lin B.lhs1 B.s1 (cut B.wp c n h) (cut B.wps c n h) (cut B.bp c n h))

def H1L : List (View.Piece (Elt F) (M2 256 1280) .f32) :=
  [⟨colBox 256 1280 1024 256 (by norm_num), shapeCast (M2 256 256) (B.h1c 1024 256 (by norm_num) B.xc) (same _)⟩,
   ⟨colBox 256 1280 512 512 (by norm_num), shapeCast (M2 256 512) (B.h1c 512 512 (by norm_num) B.xb) (same _)⟩,
   ⟨colBox 256 1280 0 512 (by norm_num), shapeCast (M2 256 512) (B.h1c 0 512 (by norm_num) B.xa) (same _)⟩]

variable (rd1 : Reader F (M2 256 1280) .f32) (rd2 : Reader F (M2 256 5120) .f32) (rd3 : Reader F (M2 256 5120) .i8)

/-- The normalised rows, their scales and codes. -/
def ln : FVec F (M2 256 1280) .f32 := lnorm (rd1 B.H1L (colBox 256 1280 0 1280 (by norm_num)).toLoadRect) B.g B.beta
def s2 : FVec F (M2 256 1) .f32 := scale (B.ln rd1)
def codes2 : IVec (M2 256 1280) 8 := codes (B.ln rd1) (B.s2 rd1)
def lhs2 : FVec F (M2 256 1280) .bf16 := truncf .bf16 (qreal (B.ln rd1) (B.s2 rd1)) bf16_lt

/-- Columns `c` to `c + 512` of the hidden layer. -/
def act (c : ℕ) (h : c + 512 ≤ 5120) : FVec F (M2 256 512) .f32 :=
  gelu B.k (lin (B.lhs2 rd1) (B.s2 rd1) (cut B.w1 c 512 h) (cut B.w1s c 512 h) (cut B.b1 c 512 h))

def actPiece (c : ℕ) (h : c + 512 ≤ 5120) : View.Piece (Elt F) (M2 256 5120) .f32 :=
  ⟨colBox 256 5120 c 512 h, shapeCast (M2 256 512) (B.act rd1 c h) (same _)⟩

def HIDL : List (View.Piece (Elt F) (M2 256 5120) .f32) :=
  [B.actPiece rd1 4608 (by norm_num), B.actPiece rd1 4096 (by norm_num), B.actPiece rd1 3584 (by norm_num),
   B.actPiece rd1 3072 (by norm_num), B.actPiece rd1 2560 (by norm_num), B.actPiece rd1 2048 (by norm_num),
   B.actPiece rd1 1536 (by norm_num), B.actPiece rd1 1024 (by norm_num), B.actPiece rd1 512 (by norm_num),
   B.actPiece rd1 0 (by norm_num)]

/-- The greatest absolute value of the hidden layer by row and lane. -/
def amax : FVec F (M2 256 128) .f32 :=
  amaxStep (amaxStep (amaxStep (amaxStep (amaxStep (amaxStep (amaxStep (amaxStep (amaxStep (amaxStep
    (broadcast (M2 256 128) (Scalar.ofBits .f32 0x00000000#32))
    (B.act rd1 0 (by norm_num))) (B.act rd1 512 (by norm_num))) (B.act rd1 1024 (by norm_num)))
    (B.act rd1 1536 (by norm_num))) (B.act rd1 2048 (by norm_num))) (B.act rd1 2560 (by norm_num)))
    (B.act rd1 3072 (by norm_num))) (B.act rd1 3584 (by norm_num))) (B.act rd1 4096 (by norm_num)))
    (B.act rd1 4608 (by norm_num))

def s3 : FVec F (M2 256 1) .f32 := scaleOf (maxCol (B.amax rd1))

def codePiece (c : ℕ) (h : c + 512 ≤ 5120) : View.Piece (Elt F) (M2 256 5120) .i8 :=
  ⟨colBox 256 5120 c 512 h, codes (rd2 (B.HIDL rd1) (colBox 256 5120 c 512 h).toLoadRect) (B.s3 rd1)⟩

def HCL : List (View.Piece (Elt F) (M2 256 5120) .i8) :=
  [B.codePiece rd1 rd2 4608 (by norm_num), B.codePiece rd1 rd2 4096 (by norm_num), B.codePiece rd1 rd2 3584 (by norm_num),
   B.codePiece rd1 rd2 3072 (by norm_num), B.codePiece rd1 rd2 2560 (by norm_num), B.codePiece rd1 rd2 2048 (by norm_num),
   B.codePiece rd1 rd2 1536 (by norm_num), B.codePiece rd1 rd2 1024 (by norm_num), B.codePiece rd1 rd2 512 (by norm_num),
   B.codePiece rd1 rd2 0 (by norm_num)]

def lhs3 : FVec F (M2 256 5120) .bf16 :=
  sitofp .bf16 (shapeCast (M2 256 5120) (rd3 (B.HCL rd1 rd2) (colBox 256 5120 0 5120 (by norm_num)).toLoadRect) (same _))

/-- The columns from `c` on of the result. -/
def yc (c n : ℕ) (h : c + n ≤ 1280) : FVec F (M2 256 n) .f32 :=
  addf (rd1 B.H1L (colBox 256 1280 c n h).toLoadRect)
    (lin (B.lhs3 rd1 rd2 rd3) (B.s3 rd1) (cut B.w2 c n h) (cut B.w2s c n h) (cut B.b2 c n h))

/-- The result as it is written: three pieces. -/
def YL : List (View.Piece (Elt F) (M2 256 1280) .f32) :=
  [⟨colBox 256 1280 1024 256 (by norm_num), B.yc rd1 rd2 rd3 1024 256 (by norm_num)⟩,
   ⟨colBox 256 1280 512 512 (by norm_num), B.yc rd1 rd2 rd3 512 512 (by norm_num)⟩,
   ⟨colBox 256 1280 0 512 (by norm_num), B.yc rd1 rd2 rd3 0 512 (by norm_num)⟩]

/-- The same rounded to bf16. -/
def YLb : List (View.Piece (Elt F) (M2 256 1280) .bf16) :=
  [⟨colBox 256 1280 1024 256 (by norm_num), truncf .bf16 (B.yc rd1 rd2 rd3 1024 256 (by norm_num)) bf16_lt⟩,
   ⟨colBox 256 1280 512 512 (by norm_num), truncf .bf16 (B.yc rd1 rd2 rd3 512 512 (by norm_num)) bf16_lt⟩,
   ⟨colBox 256 1280 0 512 (by norm_num), truncf .bf16 (B.yc rd1 rd2 rd3 0 512 (by norm_num)) bf16_lt⟩]

/-- The codes of the attention output and of the normalised rows, each written whole. -/
def ACL : List (View.Piece (Elt F) (M2 256 1280) .i8) :=
  [⟨colBox 256 1280 0 1280 (by norm_num), codes B.o B.s1⟩]
def LCL : List (View.Piece (Elt F) (M2 256 1280) .i8) :=
  [⟨colBox 256 1280 0 1280 (by norm_num), B.codes2 rd1⟩]

/-! What the buffers hold after the block, whatever they are: the pieces' own contents. -/

section Out

variable {sig : RefSig} {κ κ1 κ2 κ3 : Kind} {sp sp1 sp2 sp3 : Space}
  (v1 : View sig κ1 sp1 (M2 256 1280) .f32) (v2 : View sig κ2 sp2 (M2 256 5120) .f32) (v3 : View sig κ3 sp3 (M2 256 5120) .i8)

abbrev rdV {s : Shape} {e : EltTy} {κ : Kind} {sp : Space} (v : View sig κ sp s e) : Reader F s e := fun L B => v.readCov L B

theorem Y_read (v : View sig κ sp (M2 256 1280) .f32) (f : v.ty.Contents (Elt F)) :
    v.read (Elt F) (v.writes (Elt F) f (B.YL (rdV v1) (rdV v2) (rdV v3))) = View.canon (B.YL rdC rdC rdC) := by
  rw [show rdV (F := F) v1 = rdC from readCov_eq v1, show rdV (F := F) v2 = rdC from readCov_eq v2,
    show rdV (F := F) v3 = rdC from readCov_eq v3]
  exact View.read_writes_eq_canon v f _ (cover3 _ _ _)

theorem Yb_read (v : View sig κ sp (M2 256 1280) .bf16) (f : v.ty.Contents (Elt F)) :
    v.read (Elt F) (v.writes (Elt F) f (B.YLb (rdV v1) (rdV v2) (rdV v3))) = View.canon (B.YLb rdC rdC rdC) := by
  rw [show rdV (F := F) v1 = rdC from readCov_eq v1, show rdV (F := F) v2 = rdC from readCov_eq v2,
    show rdV (F := F) v3 = rdC from readCov_eq v3]
  exact View.read_writes_eq_canon v f _ (cover3 _ _ _)

theorem AC_read (v : View sig κ sp (M2 256 1280) .i8) (f : v.ty.Contents (Elt F)) :
    v.read (Elt F) (v.writes (Elt F) f B.ACL) = View.canon B.ACL :=
  View.read_writes_eq_canon v f _ (cover1 _ _)

theorem LC_read (v : View sig κ sp (M2 256 1280) .i8) (f : v.ty.Contents (Elt F)) :
    v.read (Elt F) (v.writes (Elt F) f (B.LCL (rdV v1))) = View.canon (B.LCL rdC) := by
  rw [show rdV (F := F) v1 = rdC from readCov_eq v1]
  exact View.read_writes_eq_canon v f _ (cover1 _ _)

theorem HC_read (v : View sig κ sp (M2 256 5120) .i8) (f : v.ty.Contents (Elt F)) :
    v.read (Elt F) (v.writes (Elt F) f (B.HCL (rdV v1) (rdV v2))) = View.canon (B.HCL rdC rdC) := by
  rw [show rdV (F := F) v1 = rdC from readCov_eq v1, show rdV (F := F) v2 = rdC from readCov_eq v2]
  exact View.read_writes_eq_canon v f _ (View.cover_of_tiled _ (M2 256 512).size (by rfl))

theorem s2_read : B.s2 (rdV v1) = B.s2 rdC := by rw [show rdV (F := F) v1 = rdC from readCov_eq v1]
theorem s3_read : B.s3 (rdV v1) = B.s3 rdC := by rw [show rdV (F := F) v1 = rdC from readCov_eq v1]

end Out

end Blk

end Cert.Rows

end
-- ==== Proof.WinMlpIdealRun.lean ====
/- The kernel of `Cert.WinMlpIdeal` run once on buffers it owns: what it leaves in its outputs, as the run finds it. -/
module

public import proofs.«01_k».proof.Proof.Gen.WinMlpIdeal.Frame
public import proofs.«01_k».proof.Proof.Gen.WinMlpIdeal.Skeleton
public import proofs.«01_k».proof.Proof.MlpBlock
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

set_option maxHeartbeats 4000000 in
/-- The body's run: the inputs stay, the outputs hold what the run finds (a scale buffer at this block's place only, the
    rest as found), the scratch something. -/
def found (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F)) :
    Σ' (o13 : List (View.Piece (Elt F) S256x1280 .f32)) (o14 : List (View.Piece (Elt F) S256x1280 .i8)) (o15 : Vec F S1x256 .f32) (o16 : List (View.Piece (Elt F) S256x1280 .i8)) (o17 : Vec F S1x256 .f32) (o18 : List (View.Piece (Elt F) S256x5120 .i8)), { o19 : Vec F S1x256 .f32 // ∀ (x15 : Vec F S4x4096 .f32) (x17 : Vec F S4x4096 .f32) (x19 : Vec F S4x4096 .f32) (E : Set ℕ) (K : PUnit → sProp 𝕄),
        iprop(owns (c : Thread nD τ) arg1 fullShare (View.read (Elt F) arg1.view g0) ∗ owns (c : Thread nD τ) arg2 fullShare (View.read (Elt F) arg2.view g1) ∗ owns (c : Thread nD τ) arg3 fullShare (View.read (Elt F) arg3.view g2) ∗ owns (c : Thread nD τ) arg4 fullShare (View.read (Elt F) arg4.view g3) ∗ owns (c : Thread nD τ) arg5 fullShare (View.read (Elt F) arg5.view g4) ∗ owns (c : Thread nD τ) arg6 fullShare (View.read (Elt F) arg6.view g5) ∗ owns (c : Thread nD τ) arg7 fullShare (View.read (Elt F) arg7.view g6) ∗ owns (c : Thread nD τ) arg8 fullShare (View.read (Elt F) arg8.view g7) ∗ owns (c : Thread nD τ) arg9 fullShare (View.read (Elt F) arg9.view g8) ∗ owns (c : Thread nD τ) arg10 fullShare (View.read (Elt F) arg10.view g9) ∗ owns (c : Thread nD τ) arg11 fullShare (View.read (Elt F) arg11.view g10) ∗ owns (c : Thread nD τ) arg12 fullShare (View.read (Elt F) arg12.view g11) ∗ owns (c : Thread nD τ) arg13 fullShare (View.read (Elt F) arg13.view g12) ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ owns (c : Thread nD τ) arg20 fullShare x19 ∗ (∃ d, owns (c : Thread nD τ) arg21 fullShare d) ∗ (∃ d, owns (c : Thread nD τ) arg22 fullShare d) ∗ (iprop(owns (c : Thread nD τ) arg1 fullShare (View.read (Elt F) arg1.view g0) ∗ owns (c : Thread nD τ) arg2 fullShare (View.read (Elt F) arg2.view g1) ∗ owns (c : Thread nD τ) arg3 fullShare (View.read (Elt F) arg3.view g2) ∗ owns (c : Thread nD τ) arg4 fullShare (View.read (Elt F) arg4.view g3) ∗ owns (c : Thread nD τ) arg5 fullShare (View.read (Elt F) arg5.view g4) ∗ owns (c : Thread nD τ) arg6 fullShare (View.read (Elt F) arg6.view g5) ∗ owns (c : Thread nD τ) arg7 fullShare (View.read (Elt F) arg7.view g6) ∗ owns (c : Thread nD τ) arg8 fullShare (View.read (Elt F) arg8.view g7) ∗ owns (c : Thread nD τ) arg9 fullShare (View.read (Elt F) arg9.view g8) ∗ owns (c : Thread nD τ) arg10 fullShare (View.read (Elt F) arg10.view g9) ∗ owns (c : Thread nD τ) arg11 fullShare (View.read (Elt F) arg11.view g10) ∗ owns (c : Thread nD τ) arg12 fullShare (View.read (Elt F) arg12.view g11) ∗ owns (c : Thread nD τ) arg13 fullShare (View.read (Elt F) arg13.view g12) ∗ (∃ f, arg14.view.loc (c : Thread nD τ) ↦[arg14.view.set]{fullShare} arg14.view.writes (Elt F) f o13) ∗ (∃ f, arg15.view.loc (c : Thread nD τ) ↦[arg15.view.set]{fullShare} arg15.view.writes (Elt F) f o14) ∗ (∃ f, ⌜View.read (Elt F) arg16.view f = x15⌝ ∗ arg16.view.loc (c : Thread nD τ) ↦[arg16.view.set]{fullShare} arg16.view.writes (Elt F) f [⟨(Rect.unit (s := S4x4096) (k0_off1 i) S1x256.size (k0_off1_inb i)), o15⟩]) ∗ (∃ f, arg17.view.loc (c : Thread nD τ) ↦[arg17.view.set]{fullShare} arg17.view.writes (Elt F) f o16) ∗ (∃ f, ⌜View.read (Elt F) arg18.view f = x17⌝ ∗ arg18.view.loc (c : Thread nD τ) ↦[arg18.view.set]{fullShare} arg18.view.writes (Elt F) f [⟨(Rect.unit (s := S4x4096) (k0_off1 i) S1x256.size (k0_off1_inb i)), o17⟩]) ∗ (∃ f, arg19.view.loc (c : Thread nD τ) ↦[arg19.view.set]{fullShare} arg19.view.writes (Elt F) f o18) ∗ (∃ f, ⌜View.read (Elt F) arg20.view f = x19⌝ ∗ arg20.view.loc (c : Thread nD τ) ↦[arg20.view.set]{fullShare} arg20.view.writes (Elt F) f [⟨(Rect.unit (s := S4x4096) (k0_off1 i) S1x256.size (k0_off1_inb i)), o19⟩]) ∗ (∃ d, owns (c : Thread nD τ) arg21 fullShare d) ∗ (∃ d, owns (c : Thread nD τ) arg22 fullShare d)) -∗ K ⟨⟩))
          ⊢ wp frame (wpE (defs₀ (F := F)) Variants.none c none) E (cc0_win_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
    refine ⟨?_, ?_, ?_, ?_, ?_, ?_, ?_, fun x15 x17 x19 E K => ?run⟩
    case run =>
      simp only [cc0_win_mlp_eq_skeleton]; unfold cc0_win_mlp_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%d21, %f21, -, H21⟩, Hk⟩
      obtain rfl : g0 = f0 := (harg1.eq_unread rfl).trans (harg1.eq_unread hf0).symm
      obtain rfl : g1 = f1 := (harg2.eq_unread rfl).trans (harg2.eq_unread hf1).symm
      obtain rfl : g2 = f2 := (harg3.eq_unread rfl).trans (harg3.eq_unread hf2).symm
      obtain rfl : g3 = f3 := (harg4.eq_unread rfl).trans (harg4.eq_unread hf3).symm
      obtain rfl : g4 = f4 := (harg5.eq_unread rfl).trans (harg5.eq_unread hf4).symm
      obtain rfl : g5 = f5 := (harg6.eq_unread rfl).trans (harg6.eq_unread hf5).symm
      obtain rfl : g6 = f6 := (harg7.eq_unread rfl).trans (harg7.eq_unread hf6).symm
      obtain rfl : g7 = f7 := (harg8.eq_unread rfl).trans (harg8.eq_unread hf7).symm
      obtain rfl : g8 = f8 := (harg9.eq_unread rfl).trans (harg9.eq_unread hf8).symm
      obtain rfl : g9 = f9 := (harg10.eq_unread rfl).trans (harg10.eq_unread hf9).symm
      obtain rfl : g10 = f10 := (harg11.eq_unread rfl).trans (harg11.eq_unread hf10).symm
      obtain rfl : g11 = f11 := (harg12.eq_unread rfl).trans (harg12.eq_unread hf11).symm
      obtain rfl : g12 = f12 := (harg13.eq_unread rfl).trans (harg13.eq_unread hf12).symm
      subst hf15
      subst hf17
      subst hf19
      sl_exec
      sl_step
      iapply Hk
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H13]
      · iexists _; iexact H13
      isplitl [H14]
      · iexists _; iexact H14
      isplitl [H15]
      · iexists _; isplitr; swap; · iexact H15
        ipureintro; rfl
      isplitl [H16]
      · iexists _; iexact H16
      isplitl [H17]
      · iexists _; isplitr; swap; · iexact H17
        ipureintro; rfl
      isplitl [H18]
      · iexists _; iexact H18
      isplitl [H19]
      · iexists _; isplitr; swap; · iexact H19
        ipureintro; rfl
      isplitl [H20]
      · iexists _, _; isplitr; swap; · iexact H20
        ipureintro; rfl
      iexists _, _; isplitr; swap; · iexact H21
      ipureintro; rfl

end Cert.WinMlpIdeal.Hand

end
-- ==== Proof.WinMlpIdealStages.lean ====
/- What the run of `Cert.WinMlpIdeal` finds, in the words of MlpBlock.lean: stage by stage, each stage's value named once and
   the next one read over it. -/
module

public import proofs.«01_k».proof.Proof.Gen.WinMlpIdeal.Frame
public import proofs.«01_k».proof.Proof.Gen.WinMlpIdeal.Skeleton
public import proofs.«01_k».proof.Proof.WinMlpIdealRun
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

/-- The data of one block, from what the kernel's buffers hold. -/
def blk (x0 : Vec F S256x1280 .f32) (x1 : Vec F S256x1280 .bf16) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32) : Blk F where
  o := cut x0 0 1280 (by norm_num)
  xa := extf .f32 (cut x1 0 512 (by norm_num)) bf16_lt
  xb := extf .f32 (cut x1 512 512 (by norm_num)) bf16_lt
  xc := extf .f32 (cut x1 1024 256 (by norm_num)) bf16_lt
  wp := x2
  wps := x3
  bp := x4
  g := cut x5 0 1280 (by norm_num)
  beta := cut x6 0 1280 (by norm_num)
  w1 := x7
  w1s := x8
  b1 := x9
  w2 := x10
  w2s := x11
  b2 := x12
  k := Named.named κ "inv_sqrt_2" 0x3F3504F3#32

variable (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

/-- The same from the buffers' own contents. -/
abbrev blkOf (arg1 : Memref sig .tc .vmem S256x1280 .f32) (arg2 : Memref sig .tc .vmem S256x1280 .bf16) (arg3 : Memref sig .tc .vmem S1280x1280 .i8) (arg4 : Memref sig .tc .vmem S1x1280 .f32) (arg5 : Memref sig .tc .vmem S1x1280 .f32) (arg6 : Memref sig .tc .vmem S1x1280 .f32) (arg7 : Memref sig .tc .vmem S1x1280 .f32) (arg8 : Memref sig .tc .vmem S1280x5120 .i8) (arg9 : Memref sig .tc .vmem S1x5120 .f32) (arg10 : Memref sig .tc .vmem S1x5120 .f32) (arg11 : Memref sig .tc .vmem S5120x1280 .i8) (arg12 : Memref sig .tc .vmem S1x1280 .f32) (arg13 : Memref sig .tc .vmem S1x1280 .f32) (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F)) : Blk F :=
  blk (View.read (Elt F) arg1.view g0) (View.read (Elt F) arg2.view g1) (View.read (Elt F) arg3.view g2) (View.read (Elt F) arg4.view g3) (View.read (Elt F) arg5.view g4) (View.read (Elt F) arg6.view g5) (View.read (Elt F) arg7.view g6) (View.read (Elt F) arg8.view g7) (View.read (Elt F) arg9.view g8) (View.read (Elt F) arg10.view g9) (View.read (Elt F) arg11.view g10) (View.read (Elt F) arg12.view g11) (View.read (Elt F) arg13.view g12)

theorem st_s1 : (found.sl.v9 c arg1 g0) = (blkOf arg1 arg2 arg3 arg4 arg5 arg6 arg7 arg8 arg9 arg10 arg11 arg12 arg13 g0 g1 g2 g3 g4 g5 g6 g7 g8 g9 g10 g11 g12).s1 := rfl

theorem st_lhs1 : (found.sl.v71 c arg1 g0) = (blkOf arg1 arg2 arg3 arg4 arg5 arg6 arg7 arg8 arg9 arg10 arg11 arg12 arg13 g0 g1 g2 g3 g4 g5 g6 g7 g8 g9 g10 g11 g12).lhs1 := rfl

theorem st_h1 : (found.sl.H20_3 c arg1 arg2 arg3 arg4 arg5 g0 g1 g2 g3 g4) = (blkOf arg1 arg2 arg3 arg4 arg5 arg6 arg7 arg8 arg9 arg10 arg11 arg12 arg13 g0 g1 g2 g3 g4 g5 g6 g7 g8 g9 g10 g11 g12).H1L := rfl

theorem st_ln : (found.sl.v153 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).ln (Blk.rdV arg21.view) := rfl

theorem st_s2 : (found.sl.v162 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).s2 (Blk.rdV arg21.view) := rfl

theorem st_codes2 : (found.sl.v172 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).codes2 (Blk.rdV arg21.view) := rfl

theorem st_q2 : (found.sl.v171 c arg1 arg2 arg3 arg4 arg5 arg6 arg7 arg21 g0 g1 g2 g3 g4 g5 g6) = qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) := rfl

theorem st_lhs2 : (found.sl.r_1 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).lhs2 (Blk.rdV arg21.view) := rfl

end Cert.WinMlpIdeal.Hand

end
-- ==== Proof.WinMlpIdealHidden.lean ====
/- What the run of `Cert.WinMlpIdeal` finds, in the words of MlpBlock.lean: stage by stage, each stage's value named once and
   the next one read over it. -/
module

public import proofs.«01_k».proof.Proof.Gen.WinMlpIdeal.Frame
public import proofs.«01_k».proof.Proof.Gen.WinMlpIdeal.Skeleton
public import proofs.«01_k».proof.Proof.WinMlpIdealStages
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

theorem st_s3 : (found.sl.r_20 c arg1 arg2 arg3 arg4 arg5 arg6 arg7 arg8 arg9 arg10 arg21 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).s3 (Blk.rdV arg21.view) := by
  simp only [found.sl.r_2, found.sl.r_3, found.sl.r_4, found.sl.r_5, found.sl.r_6, found.sl.r_7, found.sl.r_8, found.sl.r_9, found.sl.r_10, found.sl.r_11, found.sl.r_12, found.sl.r_13, found.sl.r_14, found.sl.r_15, found.sl.r_16, found.sl.r_17, found.sl.r_18, found.sl.r_19, found.sl.r_20]
  rw [st_s2 c arg1 arg2 arg3 arg4 arg5 arg6 arg7 arg8 arg9 arg10 arg11 arg12 arg13 arg21 g0 g1 g2 g3 g4 g5 g6 g7 g8 g9 g10 g11 g12, st_lhs2 c arg1 arg2 arg3 arg4 arg5 arg6 arg7 arg8 arg9 arg10 arg11 arg12 arg13 arg21 g0 g1 g2 g3 g4 g5 g6 g7 g8 g9 g10 g11 g12, st_q2 c arg1 arg2 arg3 arg4 arg5 arg6 arg7 arg8 arg9 arg10 arg11 arg12 arg13 arg21 g0 g1 g2 g3 g4 g5 g6 g7 g8 g9 g10 g11 g12]
  unfold Blk.s3 Blk.amax Blk.act Blk.lhs2
  generalize qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) = l
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem st_hid : (found.sl.H21_10 c arg1 arg2 arg3 arg4 arg5 arg6 arg7 arg8 arg9 arg10 arg21 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).HIDL (Blk.rdV arg21.view) := by
  simp only [found.sl.H21_10, found.sl.r_2, found.sl.r_3, found.sl.r_4, found.sl.r_5, found.sl.r_6, found.sl.r_7, found.sl.r_8, found.sl.r_9, found.sl.r_10, found.sl.r_11, found.sl.r_12, found.sl.r_13, found.sl.r_14, found.sl.r_15, found.sl.r_16, found.sl.r_17, found.sl.r_18, found.sl.r_19, found.sl.r_20]
  rw [st_s2 c arg1 arg2 arg3 arg4 arg5 arg6 arg7 arg8 arg9 arg10 arg11 arg12 arg13 arg21 g0 g1 g2 g3 g4 g5 g6 g7 g8 g9 g10 g11 g12, st_lhs2 c arg1 arg2 arg3 arg4 arg5 arg6 arg7 arg8 arg9 arg10 arg11 arg12 arg13 arg21 g0 g1 g2 g3 g4 g5 g6 g7 g8 g9 g10 g11 g12, st_q2 c arg1 arg2 arg3 arg4 arg5 arg6 arg7 arg8 arg9 arg10 arg11 arg12 arg13 arg21 g0 g1 g2 g3 g4 g5 g6 g7 g8 g9 g10 g11 g12]
  unfold Blk.HIDL Blk.actPiece Blk.act Blk.lhs2
  generalize qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) = l
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem st_codes3 : (found.sl.H18_10 c arg1 arg2 arg3 arg4 arg5 arg6 arg7 arg8 arg9 arg10 arg21 arg22 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).HCL (Blk.rdV arg21.view) (Blk.rdV arg22.view) := by
  simp only [found.sl.H18_10, found.sl.v644, found.sl.v645, found.sl.v646, found.sl.v647, found.sl.v649, found.sl.v650, found.sl.v652, found.sl.v653, found.sl.v654, found.sl.v656, found.sl.v658, found.sl.v659, found.sl.v662, found.sl.v665, found.sl.v666, found.sl.v668, found.sl.v670, found.sl.v671, found.sl.v674, found.sl.v677, found.sl.v678, found.sl.v680, found.sl.v682, found.sl.v683, found.sl.v686, found.sl.v689, found.sl.v690, found.sl.v692, found.sl.v694, found.sl.v695, found.sl.v698, found.sl.v701, found.sl.v702, found.sl.v704, found.sl.v706, found.sl.v707, found.sl.v710, found.sl.v713, found.sl.v714, found.sl.v716, found.sl.v718, found.sl.v719, found.sl.v722, found.sl.v725, found.sl.v726, found.sl.v728, found.sl.v730, found.sl.v731, found.sl.v734, found.sl.v737, found.sl.v738, found.sl.v740, found.sl.v742, found.sl.v743, found.sl.v746, found.sl.v749, found.sl.v750, found.sl.v752, found.sl.v754, found.sl.v755, found.sl.v758, found.sl.v761, found.sl.v762]
  rw [st_s3 c arg1 arg2 arg3 arg4 arg5 arg6 arg7 arg8 arg9 arg10 arg11 arg12 arg13 arg21 g0 g1 g2 g3 g4 g5 g6 g7 g8 g9 g10 g11 g12, st_hid c arg1 arg2 arg3 arg4 arg5 arg6 arg7 arg8 arg9 arg10 arg11 arg12 arg13 arg21 g0 g1 g2 g3 g4 g5 g6 g7 g8 g9 g10 g11 g12]
  unfold Blk.HCL Blk.codePiece
  generalize (blkOf arg1 arg2 arg3 arg4 arg5 arg6 arg7 arg8 arg9 arg10 arg11 arg12 arg13 g0 g1 g2 g3 g4 g5 g6 g7 g8 g9 g10 g11 g12).s3 (Blk.rdV arg21.view) = s
  generalize (blkOf arg1 arg2 arg3 arg4 arg5 arg6 arg7 arg8 arg9 arg10 arg11 arg12 arg13 g0 g1 g2 g3 g4 g5 g6 g7 g8 g9 g10 g11 g12).HIDL (Blk.rdV arg21.view) = l
  rfl

theorem st_lhs3 : (found.sl.v766 c arg1 arg2 arg3 arg4 arg5 arg6 arg7 arg8 arg9 arg10 arg19 arg21 arg22 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).lhs3 (Blk.rdV arg21.view) (Blk.rdV arg22.view) (Blk.rdV arg19.view) := by
  simp only [found.sl.v766, found.sl.v765, found.sl.v764]
  rw [st_codes3 c arg1 arg2 arg3 arg4 arg5 arg6 arg7 arg8 arg9 arg10 arg11 arg12 arg13 arg21 arg22 g0 g1 g2 g3 g4 g5 g6 g7 g8 g9 g10 g11 g12]
  rfl
end Cert.WinMlpIdeal.Hand

end
-- ==== Proof.WinMlpIdealFinal.lean ====
/- What the run of `Cert.WinMlpIdeal` finds, in the words of MlpBlock.lean: stage by stage, each stage's value named once and
   the next one read over it. -/
module

public import proofs.«01_k».proof.Proof.Gen.WinMlpIdeal.Frame
public import proofs.«01_k».proof.Proof.Gen.WinMlpIdeal.Skeleton
public import proofs.«01_k».proof.Proof.WinMlpIdealHidden
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

theorem o13_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).1 = (blkOf arg1 arg2 arg3 arg4 arg5 arg6 arg7 arg8 arg9 arg10 arg11 arg12 arg13 g0 g1 g2 g3 g4 g5 g6 g7 g8 g9 g10 g11 g12).YL (Blk.rdV arg21.view) (Blk.rdV arg22.view) (Blk.rdV arg19.view) := by
  unfold found
  dsimp only
  simp only [found.sl.r_21, found.sl.v644, found.sl.v645, found.sl.v768, found.sl.v769, found.sl.v770, found.sl.v772, found.sl.v774, found.sl.v775, found.sl.v776, found.sl.v778, found.sl.v779, found.sl.v780, found.sl.v781, found.sl.v784, found.sl.v785, found.sl.v786, found.sl.v788, found.sl.v802]
  rw [st_s3 c arg1 arg2 arg3 arg4 arg5 arg6 arg7 arg8 arg9 arg10 arg11 arg12 arg13 arg21 g0 g1 g2 g3 g4 g5 g6 g7 g8 g9 g10 g11 g12, st_h1 c arg1 arg2 arg3 arg4 arg5 arg6 arg7 arg8 arg9 arg10 arg11 arg12 arg13 g0 g1 g2 g3 g4 g5 g6 g7 g8 g9 g10 g11 g12, st_lhs3 c arg1 arg2 arg3 arg4 arg5 arg6 arg7 arg8 arg9 arg10 arg11 arg12 arg13 arg19 arg21 arg22 g0 g1 g2 g3 g4 g5 g6 g7 g8 g9 g10 g11 g12]
  unfold Blk.YL Blk.yc
  generalize (blkOf arg1 arg2 arg3 arg4 arg5 arg6 arg7 arg8 arg9 arg10 arg11 arg12 arg13 g0 g1 g2 g3 g4 g5 g6 g7 g8 g9 g10 g11 g12).s3 (Blk.rdV arg21.view) = s
  generalize (blkOf arg1 arg2 arg3 arg4 arg5 arg6 arg7 arg8 arg9 arg10 arg11 arg12 arg13 g0 g1 g2 g3 g4 g5 g6 g7 g8 g9 g10 g11 g12).H1L = l
  generalize (blkOf arg1 arg2 arg3 arg4 arg5 arg6 arg7 arg8 arg9 arg10 arg11 arg12 arg13 g0 g1 g2 g3 g4 g5 g6 g7 g8 g9 g10 g11 g12).lhs3 (Blk.rdV arg21.view) (Blk.rdV arg22.view) (Blk.rdV arg19.view) = q
  rfl

theorem o14_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.1 = (blkOf arg1 arg2 arg3 arg4 arg5 arg6 arg7 arg8 arg9 arg10 arg11 arg12 arg13 g0 g1 g2 g3 g4 g5 g6 g7 g8 g9 g10 g11 g12).ACL := by
  rfl

theorem o15_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.1 = rowOf256 (blkOf arg1 arg2 arg3 arg4 arg5 arg6 arg7 arg8 arg9 arg10 arg11 arg12 arg13 g0 g1 g2 g3 g4 g5 g6 g7 g8 g9 g10 g11 g12).s1 := by
  rfl

theorem o16_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.1 = (blkOf arg1 arg2 arg3 arg4 arg5 arg6 arg7 arg8 arg9 arg10 arg11 arg12 arg13 g0 g1 g2 g3 g4 g5 g6 g7 g8 g9 g10 g11 g12).LCL (Blk.rdV arg21.view) := by
  rfl

theorem o17_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.1 = rowOf256 ((blkOf arg1 arg2 arg3 arg4 arg5 arg6 arg7 arg8 arg9 arg10 arg11 arg12 arg13 g0 g1 g2 g3 g4 g5 g6 g7 g8 g9 g10 g11 g12).s2 (Blk.rdV arg21.view)) := by
  unfold found
  dsimp only
  rw [st_s2 c arg1 arg2 arg3 arg4 arg5 arg6 arg7 arg8 arg9 arg10 arg11 arg12 arg13 arg21 g0 g1 g2 g3 g4 g5 g6 g7 g8 g9 g10 g11 g12]
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem o19_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.2.1 = rowOf256 ((blkOf arg1 arg2 arg3 arg4 arg5 arg6 arg7 arg8 arg9 arg10 arg11 arg12 arg13 g0 g1 g2 g3 g4 g5 g6 g7 g8 g9 g10 g11 g12).s3 (Blk.rdV arg21.view)) := by
  unfold found
  dsimp only
  simp only [found.sl.v640, found.sl.v626, found.sl.v627, found.sl.v628, found.sl.v630, found.sl.v631, found.sl.v632, found.sl.v633, found.sl.v634, found.sl.v635, found.sl.v637, found.sl.v638, found.sl.v639]
  rw [st_s3 c arg1 arg2 arg3 arg4 arg5 arg6 arg7 arg8 arg9 arg10 arg11 arg12 arg13 arg21 g0 g1 g2 g3 g4 g5 g6 g7 g8 g9 g10 g11 g12]
  generalize (blkOf arg1 arg2 arg3 arg4 arg5 arg6 arg7 arg8 arg9 arg10 arg11 arg12 arg13 g0 g1 g2 g3 g4 g5 g6 g7 g8 g9 g10 g11 g12).s3 (Blk.rdV arg21.view) = s
  rfl

theorem o18_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.1 = (blkOf arg1 arg2 arg3 arg4 arg5 arg6 arg7 arg8 arg9 arg10 arg11 arg12 arg13 g0 g1 g2 g3 g4 g5 g6 g7 g8 g9 g10 g11 g12).HCL (Blk.rdV arg21.view) (Blk.rdV arg22.view) := by
  unfold found
  dsimp only
  exact st_codes3 c arg1 arg2 arg3 arg4 arg5 arg6 arg7 arg8 arg9 arg10 arg11 arg12 arg13 arg21 arg22 g0 g1 g2 g3 g4 g5 g6 g7 g8 g9 g10 g11 g12

end Cert.WinMlpIdeal.Hand

end
-- ==== Proof.WinMlpIdealVRun.lean ====
/- What the run of `Cert.WinMlpIdeal` finds, in the words of MlpBlock.lean: stage by stage, each stage's value named once and
   the next one read over it. -/
module

public import proofs.«01_k».proof.Proof.Gen.WinMlpIdeal.Frame
public import proofs.«01_k».proof.Proof.Gen.WinMlpIdeal.Skeleton
public import proofs.«01_k».proof.Proof.WinMlpIdealFinal
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.WinMlpIdeal.Hand

open Cert.WinMlpIdeal Cert.WinMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

theorem fin_ov {κ' : Kind} {sp : Space} {s : Shape} {e : EltTy} {v : View sig κ' sp s e} {f : v.ty.Contents (Elt F)}
    {x : s.Idx → Elt F e} {r : Rect s} {w w' : r.shape.Idx → Elt F e} (h : v.read (Elt F) f = x) (hw : w = w') :
    v.read (Elt F) (v.writes (Elt F) f [⟨r, w⟩]) = r.overlay x w' := by
  subst h hw
  exact read_writes_overlay _ _ _ _

theorem fin_rd {κ' : Kind} {sp : Space} {s : Shape} {e : EltTy} {v : View sig κ' sp s e} {f : v.ty.Contents (Elt F)}
    {L L' : List (View.Piece (Elt F) s e)} {z : s.Idx → Elt F e} (h : L = L') (h' : v.read (Elt F) (v.writes (Elt F) f L') = z) :
    v.read (Elt F) (v.writes (Elt F) f L) = z := h ▸ h'

attribute [local irreducible] found

set_option maxHeartbeats 4000000 in
/-- The body's run, each output's contents in the words of MlpBlock.lean. -/
theorem vruns (c : Dev nD) (i : grid0.Coords) (arg1 : Memref sig .tc .vmem S256x1280 .f32) (harg1 : arg1.IsWhole) (arg2 : Memref sig .tc .vmem S256x1280 .bf16) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .f32) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S256x1280 .f32) (x1 : Vec F S256x1280 .bf16) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32) (x15 : Vec F S4x4096 .f32) (x17 : Vec F S4x4096 .f32) (x19 : Vec F S4x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ owns (c : Thread nD τ) arg20 fullShare x19 ∗ (∃ d, owns (c : Thread nD τ) arg21 fullShare d) ∗ (∃ d, owns (c : Thread nD τ) arg22 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (View.canon ((blk x0 x1 x2 x3 x4 x5 x6 x7 x8 x9 x10 x11 x12).YL rdC rdC rdC)) ∗ owns (c : Thread nD τ) arg15 fullShare (View.canon (blk x0 x1 x2 x3 x4 x5 x6 x7 x8 x9 x10 x11 x12).ACL) ∗ owns (c : Thread nD τ) arg16 fullShare ((Rect.unit (s := S4x4096) (k0_off1 i) S1x256.size (k0_off1_inb i)).overlay x15 (rowOf256 (blk x0 x1 x2 x3 x4 x5 x6 x7 x8 x9 x10 x11 x12).s1)) ∗ owns (c : Thread nD τ) arg17 fullShare (View.canon ((blk x0 x1 x2 x3 x4 x5 x6 x7 x8 x9 x10 x11 x12).LCL rdC)) ∗ owns (c : Thread nD τ) arg18 fullShare ((Rect.unit (s := S4x4096) (k0_off1 i) S1x256.size (k0_off1_inb i)).overlay x17 (rowOf256 ((blk x0 x1 x2 x3 x4 x5 x6 x7 x8 x9 x10 x11 x12).s2 rdC))) ∗ owns (c : Thread nD τ) arg19 fullShare (View.canon ((blk x0 x1 x2 x3 x4 x5 x6 x7 x8 x9 x10 x11 x12).HCL rdC rdC)) ∗ owns (c : Thread nD τ) arg20 fullShare ((Rect.unit (s := S4x4096) (k0_off1 i) S1x256.size (k0_off1_inb i)).overlay x19 (rowOf256 ((blk x0 x1 x2 x3 x4 x5 x6 x7 x8 x9 x10 x11 x12).s3 rdC))) ∗ (∃ d, owns (c : Thread nD τ) arg21 fullShare d) ∗ (∃ d, owns (c : Thread nD τ) arg22 fullShare d)) -∗ K ⟨⟩))
          ⊢ wp frame (wpE (defs₀ (F := F)) Variants.none c none) E (cc0_win_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  obtain ⟨g0, rfl⟩ : ∃ g, View.read (Elt F) arg1.view g = x0 := ⟨_, harg1.read_unread x0⟩
  obtain ⟨g1, rfl⟩ : ∃ g, View.read (Elt F) arg2.view g = x1 := ⟨_, harg2.read_unread x1⟩
  obtain ⟨g2, rfl⟩ : ∃ g, View.read (Elt F) arg3.view g = x2 := ⟨_, harg3.read_unread x2⟩
  obtain ⟨g3, rfl⟩ : ∃ g, View.read (Elt F) arg4.view g = x3 := ⟨_, harg4.read_unread x3⟩
  obtain ⟨g4, rfl⟩ : ∃ g, View.read (Elt F) arg5.view g = x4 := ⟨_, harg5.read_unread x4⟩
  obtain ⟨g5, rfl⟩ : ∃ g, View.read (Elt F) arg6.view g = x5 := ⟨_, harg6.read_unread x5⟩
  obtain ⟨g6, rfl⟩ : ∃ g, View.read (Elt F) arg7.view g = x6 := ⟨_, harg7.read_unread x6⟩
  obtain ⟨g7, rfl⟩ : ∃ g, View.read (Elt F) arg8.view g = x7 := ⟨_, harg8.read_unread x7⟩
  obtain ⟨g8, rfl⟩ : ∃ g, View.read (Elt F) arg9.view g = x8 := ⟨_, harg9.read_unread x8⟩
  obtain ⟨g9, rfl⟩ : ∃ g, View.read (Elt F) arg10.view g = x9 := ⟨_, harg10.read_unread x9⟩
  obtain ⟨g10, rfl⟩ : ∃ g, View.read (Elt F) arg11.view g = x10 := ⟨_, harg11.read_unread x10⟩
  obtain ⟨g11, rfl⟩ : ∃ g, View.read (Elt F) arg12.view g = x11 := ⟨_, harg12.read_unread x11⟩
  obtain ⟨g12, rfl⟩ : ∃ g, View.read (Elt F) arg13.view g = x12 := ⟨_, harg13.read_unread x12⟩
  have hr := (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.2.2 x15 x17 x19 E K
  refine BIBase.Entails.trans ?_ hr
  iintro ⟨H0, H1, H2, H3, H4, H5, H6, H7, H8, H9, H10, H11, H12, H13, H14, H15, H16, H17, H18, H19, H20, H21, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, ⟨%f13, H13⟩, ⟨%f14, H14⟩, ⟨%f15, %h15, H15⟩, ⟨%f16, H16⟩, ⟨%f17, %h17, H17⟩, ⟨%f18, H18⟩, ⟨%f19, %h19, H19⟩, H20, H21⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact fin_rd (o13_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.Y_read _ _ _ _ _ f13)
  isplitl [H14]
  · unfold owns; iexists _; isplitr; swap; · iexact H14
    ipureintro; exact fin_rd (o14_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.AC_read _ _ f14)
  isplitl [H15]
  · unfold owns; iexists _; isplitr; swap; · iexact H15
    ipureintro; exact fin_ov h15 ((o15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12))
  isplitl [H16]
  · unfold owns; iexists _; isplitr; swap; · iexact H16
    ipureintro; exact fin_rd (o16_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.LC_read _ _ _ f16)
  isplitl [H17]
  · unfold owns; iexists _; isplitr; swap; · iexact H17
    ipureintro; exact fin_ov h17 ((o17_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).trans (congrArg rowOf256 (Blk.s2_read _ _)))
  isplitl [H18]
  · unfold owns; iexists _; isplitr; swap; · iexact H18
    ipureintro; exact fin_rd (o18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.HC_read _ _ _ _ f18)
  isplitl [H19]
  · unfold owns; iexists _; isplitr; swap; · iexact H19
    ipureintro; exact fin_ov h19 ((o19_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).trans (congrArg rowOf256 (Blk.s3_read _ _)))
  isplitl [H20]; · iexact H20
  iexact H21

end Cert.WinMlpIdeal.Hand

end
-- ==== Proof.RowFacts.lean ====
/- Facts about one row at the ideal values: the codes read back as the reals they came from; a product with the inverse
   of the square root of two is a quotient by it; a row's greatest absolute value, taken lane by lane in chunks of 512. -/
module

public import proofs.«01_k».proof.Proof.Rows

@[expose] public section

noncomputable section

namespace Cert.Rows

open Idealize.ShloMosaic Idealize.ShloMosaic.ValueIdx

/-! ## Codes read back -/

theorem liftRound_max (z : EReal) :
    ∃ k : ℤ, -127 ≤ k ∧ k ≤ 127 ∧
      min (((127 : ℤ) : ℝ) : EReal) (max (((-127 : ℤ) : ℝ) : EReal) (Ideal.liftRound Ideal.roundHalfEven z)) = ((k : ℝ) : EReal) := by
  induction z with
  | bot => exact ⟨-127, le_refl _, by norm_num, by
      show min _ (max _ (⊥ : EReal)) = _
      rw [max_eq_left bot_le]; exact min_eq_right (by exact_mod_cast (by norm_num : (-127 : ℤ) ≤ 127))⟩
  | top => exact ⟨127, by norm_num, le_refl _, by
      show min _ (max _ (⊤ : EReal)) = _
      rw [max_eq_right le_top]; exact min_eq_left le_top⟩
  | coe r =>
    refine ⟨min 127 (max (-127) (Ideal.roundHalfEven r)), ?_, ?_, ?_⟩
    · exact le_min (by norm_num) (le_max_left _ _)
    · exact min_le_left _ _
    · show min _ (max _ (((Ideal.roundHalfEven r : ℤ) : ℝ) : EReal)) = _
      rw [Int.cast_min, Int.cast_max]
      rw [EReal.coe_strictMono.monotone.map_min, EReal.coe_strictMono.monotone.map_max]

theorem qrealR1_int (x s : EReal) : ∃ k : ℤ, -127 ≤ k ∧ k ≤ 127 ∧ qrealR1 x s = ((k : ℝ) : EReal) := by
  obtain ⟨k, h1, h2, h⟩ := liftRound_max (Ideal.div x s)
  exact ⟨k, h1, h2, h⟩

/-- A code converted back is the real it was converted from. -/
theorem sitofp_fptosi (x s : EReal) :
    FloatOps.sitofp (F := Ideal) .bf16 (Ideal.fptosi 8 (qrealR1 x s)) = qrealR1 x s := by
  obtain ⟨k, h1, h2, h⟩ := qrealR1_int x s
  rw [h]
  show (((BitVec.ofInt 8 (max _ (min _ (if (0 : ℝ) ≤ (k : ℝ) then ⌊(k : ℝ)⌋ else ⌈(k : ℝ)⌉)))).toInt : ℝ) : EReal) = _
  rw [Int.floor_intCast, Int.ceil_intCast, ite_self]
  have e : (max (-((2 ^ (8 - 1) : ℕ) : ℤ)) (min (((2 ^ (8 - 1) : ℕ) : ℤ) - 1) k)) = k := by norm_num; omega
  rw [e, BitVec.toInt_ofInt]
  congr 2
  rw [Int.bmod_eq_of_le (by omega) (by omega)]

/-! ## The square root of two -/

theorem mul_inv_sqrt (x : EReal) : x * (((Real.sqrt 2)⁻¹ : ℝ) : EReal) = Ideal.div x ((Real.sqrt 2 : ℝ) : EReal) := by
  have h : ((Real.sqrt 2 : ℝ) : EReal) ≠ 0 := by
    exact_mod_cast (Real.sqrt_pos.mpr (by norm_num : (0 : ℝ) < 2)).ne'
  unfold Ideal.div
  rw [if_neg h, EReal.coe_inv]

theorem gelu_eq (x : EReal) :
    geluR (((Real.sqrt 2)⁻¹ : ℝ) : EReal) x = geluDivR ((Real.sqrt 2 : ℝ) : EReal) x := by
  unfold geluR geluDivR
  rw [mul_inv_sqrt]

/-! ## The greatest absolute value by lanes -/

theorem amaxR_le {n : ℕ} (v : Fin n → EReal) (z : EReal) : amaxR v ≤ z ↔ ∀ k, max (v k) (-(v k)) ≤ z := by
  unfold amaxR
  rw [Finset.fold_max_le]
  have hb : FloatOps.ofBits (F := Ideal) .f32 0xFF800000#32 = (⊥ : EReal) := by
    show Ideal.ofBits .f32 _ = _
    decide +kernel
  rw [hb]
  simp

end Cert.Rows

end
-- ==== Proof.MlpRow.lean ====
/- One row of the feed-forward layer at the ideal values, and the block of MlpBlock.lean read row by row: each of its
   results at a row and a column is the row function there. -/
module

public import proofs.«01_k».proof.Proof.MlpBlock
public import proofs.«01_k».proof.Proof.RowFacts

@[expose] public section

set_option maxRecDepth 16384

noncomputable section

namespace Cert.Rows

open Idealize.ShloMosaic Idealize.ShloMosaic.ValueIdx

/-- The layer's weights, and the function inside the activation. -/
structure Wt where
  wp : Vec Ideal (M2 1280 1280) .i8
  wps : FVec Ideal (M2 1 1280) .f32
  bp : FVec Ideal (M2 1 1280) .f32
  g : FVec Ideal (M2 1 1280) .f32
  beta : FVec Ideal (M2 1 1280) .f32
  w1 : Vec Ideal (M2 1280 5120) .i8
  w1s : FVec Ideal (M2 1 5120) .f32
  b1 : FVec Ideal (M2 1 5120) .f32
  w2 : Vec Ideal (M2 5120 1280) .i8
  w2s : FVec Ideal (M2 1 1280) .f32
  b2 : FVec Ideal (M2 1 1280) .f32

namespace Wt

variable (W : Wt) (o x : Fin 1280 → EReal)

/-- The residual sum after the output projection, its normalisation, the hidden layer and the result, of one row. -/
def h1 : Fin 1280 → EReal := fun j => x j + linR (qrealR o) (scaleR o) W.wp W.wps W.bp j
def ln : Fin 1280 → EReal := lnormR (W.h1 o x) W.g W.beta
def hid : Fin 5120 → EReal := fun j =>
  geluDivR ((Real.sqrt 2 : ℝ) : EReal) (linR (qrealR (W.ln o x)) (scaleR (W.ln o x)) W.w1 W.w1s W.b1 j)
def y : Fin 1280 → EReal := fun j =>
  W.h1 o x j + linR (qrealR (W.hid o x)) (scaleR (W.hid o x)) W.w2 W.w2s W.b2 j

end Wt

theorem canon_of {s : Shape} {e : EltTy} (L : List (View.Piece (Elt Ideal) s e)) (f : s.Idx → Elt Ideal e)
    (hp : ∀ p ∈ L, ∀ x, p.2 x = f (p.1.emb x)) (hc : ∀ y, ∃ p ∈ L, y ∈ p.1.set) : View.canon L = f := by
  funext y
  revert hp hc
  intro hp hc
  replace hc := hc y
  induction L with
  | nil => obtain ⟨p, hp, _⟩ := hc; exact absurd hp List.not_mem_nil
  | cons p L ih =>
    by_cases hm : y ∈ p.1.set
    · obtain ⟨x, rfl⟩ : ∃ x, p.1.emb x = y := by
        rw [← Rect.map_emb_univ] at hm; exact (Finset.mem_map.1 hm).imp fun _ h => h.2
      rw [View.canon_cons_emb]
      exact hp p List.mem_cons_self x
    · rw [View.canon_cons_of_not_mem _ _ hm]
      refine ih (fun q hq => hp q (List.mem_cons_of_mem _ hq)) ?_
      obtain ⟨q, hq, hyq⟩ := hc
      rcases List.mem_cons.mp hq with rfl | hq'
      · exact absurd hyq hm
      · exact ⟨q, hq', hyq⟩

theorem colBox_emb {a b c n : ℕ} (h : c + n ≤ b) (r : Fin a) (j : Fin n) :
    (colBox a b c n h).emb (ix2 r j) = ix2 r ⟨c + j.val, by have := j.isLt; omega⟩ := by
  funext ax
  match ax with
  | ⟨0, _⟩ => exact Fin.ext (by show 0 + 1 * r.val = r.val; omega)
  | ⟨1, _⟩ => exact Fin.ext (by show c + 1 * j.val = c + j.val; omega)

theorem piece_at {a b c n : ℕ} {e : EltTy} (h : c + n ≤ b) (w : Vec Ideal (M2 a n) e) (f : (M2 a b).Idx → Elt Ideal e)
    (H : ∀ (r : Fin a) (j : Fin n), w (ix2 r j) = f (ix2 r ⟨c + j.val, by have := j.isLt; omega⟩)) :
    ∀ x, (⟨colBox a b c n h, w⟩ : View.Piece (Elt Ideal) (M2 a b) e).2 x =
      f ((⟨colBox a b c n h, w⟩ : View.Piece (Elt Ideal) (M2 a b) e).1.emb x) := by
  intro x
  obtain ⟨r, j, e⟩ : ∃ (r : Fin a) (j : Fin n), x = ix2 r j := ⟨x 0, x 1, eq_ix2 (n0 := a) (n1 := n) x⟩
  subst e
  exact (H r j).trans (congrArg f (colBox_emb h r j).symm)

theorem cut_apply {a b : ℕ} {e : EltTy} (X : Vec Ideal (M2 a b) e) (c n : ℕ) (h : c + n ≤ b) (r : Fin a) (j : Fin n) :
    cut X c n h (ix2 r j) = X (ix2 r ⟨c + j.val, by have := j.isLt; omega⟩) :=
  congrArg X (colBox_emb h r j)

theorem cut_all {a b : ℕ} {e : EltTy} (X : Vec Ideal (M2 a b) e) (h : 0 + b ≤ b) : cut X 0 b h = X := by
  funext i
  obtain ⟨r, j, rfl⟩ : ∃ (r : Fin a) (j : Fin b), i = ix2 r j := ⟨i 0, i 1, eq_ix2 i⟩
  rw [cut_apply]
  exact congrArg X (congrArg (ix2 _) (Fin.ext (Nat.zero_add _)))

/-- A matrix from its rows. -/
abbrev ofRows {t n : ℕ} {α : Type} (f : Fin t → Fin n → α) : (M2 t n).Idx → α := fun i => f (i 0) (i 1)

theorem linR_cut {K : ℕ} {N : ℕ} (q : Fin K → EReal) (s : EReal) (w : Vec Ideal (M2 K N) .i8) (ws b : FVec Ideal (M2 1 N) .f32)
    (c n : ℕ) (h : c + n ≤ N) (j : Fin n) :
    linR q s (cut w c n h) (cut (F := Ideal) (b := N) (e := .f32) ws c n h) (cut (F := Ideal) (b := N) (e := .f32) b c n h) j =
      linR q s w ws b ⟨c + j.val, by have := j.isLt; omega⟩ := by
  unfold linR
  rw [cut_apply, cut_apply]
  exact congrArg (fun z => (Ideal.ofBits .f32 0x00000000#32 + z) * s * _ + _) (Finset.sum_congr rfl fun k _ =>
    congrArg (fun z => q k * FloatOps.sitofp (F := Ideal) .bf16 z) (cut_apply w c n h k j))

/-- One more chunk of columns in the running greatest absolute value, as a bound. -/
theorem amaxStep_le {t : ℕ} (a : FVec Ideal (M2 t 128) .f32) (v : FVec Ideal (M2 t 512) .f32) (r : Fin t) (z : EReal) :
    (∀ l : Fin 128, amaxStep a v (ix2 r l) ≤ z) ↔
      (∀ l : Fin 128, a (ix2 r l) ≤ z) ∧ ∀ j : Fin 512, max (v (ix2 r j)) (-(v (ix2 r j))) ≤ z := by
  have e : ∀ (c : ℕ) (h : c + 128 ≤ 512) (l : Fin 128),
      absf (F := Ideal) (φ := .f32) (extractStridedSlice (M2 t 128) ![0, c] v (lane c h t)) (ix2 r l) =
        max (v (ix2 r ⟨c + l.val, by have := l.isLt; omega⟩)) (-(v (ix2 r ⟨c + l.val, by have := l.isLt; omega⟩))) := by
    intro c h l
    have : extractStridedSlice (M2 t 128) ![0, c] v (lane c h t) (ix2 r l) = v (ix2 r ⟨c + l.val, by have := l.isLt; omega⟩) :=
      extractStridedSlice_apply _ _ _ _ _ fun ax => match ax with
        | ⟨0, _⟩ => (Nat.zero_add _).symm
        | ⟨1, _⟩ => rfl
    show max (extractStridedSlice (M2 t 128) ![0, c] v (lane c h t) (ix2 r l)) (-(extractStridedSlice (M2 t 128) ![0, c] v (lane c h t) (ix2 r l))) = _
    rw [this]
  have s : ∀ l : Fin 128, amaxStep a v (ix2 r l) ≤ z ↔ _ := fun l => by
    show max (max (max (max (a (ix2 r l)) (absf (F := Ideal) (φ := .f32) _ (ix2 r l))) (absf (F := Ideal) (φ := .f32) _ (ix2 r l)))
      (absf (F := Ideal) (φ := .f32) _ (ix2 r l))) (absf (F := Ideal) (φ := .f32) _ (ix2 r l)) ≤ z ↔ _
    rw [e 0 (by norm_num) l, e 128 (by norm_num) l, e 256 (by norm_num) l, e 384 (by norm_num) l, max_le_iff, max_le_iff, max_le_iff, max_le_iff]
  constructor
  · intro H
    refine ⟨fun l => ((s l).1 (H l)).1.1.1.1, fun j => ?_⟩
    obtain ⟨j, hj⟩ := j
    rcases lt_or_ge j 128 with h1 | h1
    · have := ((s ⟨j, h1⟩).1 (H _)).1.1.1.2
      have e' : (⟨0 + j, by omega⟩ : Fin 512) = ⟨j, hj⟩ := Fin.ext (by show 0 + j = j; omega)
      rw [e'] at this; exact this
    rcases lt_or_ge j 256 with h2 | h2
    · have := ((s ⟨j - 128, by omega⟩).1 (H _)).1.1.2
      have e' : (⟨128 + (j - 128), by omega⟩ : Fin 512) = ⟨j, hj⟩ := Fin.ext (by show 128 + (j - 128) = j; omega)
      rw [e'] at this; exact this
    rcases lt_or_ge j 384 with h3 | h3
    · have := ((s ⟨j - 256, by omega⟩).1 (H _)).1.2
      have e' : (⟨256 + (j - 256), by omega⟩ : Fin 512) = ⟨j, hj⟩ := Fin.ext (by show 256 + (j - 256) = j; omega)
      rw [e'] at this; exact this
    · have := ((s ⟨j - 384, by omega⟩).1 (H _)).2
      have e' : (⟨384 + (j - 384), by omega⟩ : Fin 512) = ⟨j, hj⟩ := Fin.ext (by show 384 + (j - 384) = j; omega)
      rw [e'] at this; exact this
  · rintro ⟨h1, h2⟩ l
    exact (s l).2 ⟨⟨⟨⟨h1 l, h2 _⟩, h2 _⟩, h2 _⟩, h2 _⟩

theorem bot_bits : Ideal.ofBits .f32 0xFF800000#32 = (⊥ : EReal) := by decide +kernel
theorem zero_bits : Ideal.ofBits .f32 0x00000000#32 = (0 : EReal) := Ideal.ofBits_zero_f32

theorem maxCol_le {t n : ℕ} (v : FVec Ideal (M2 t n) .f32) (r : Fin t) (u : Fin 1) (z : EReal) :
    maxCol v (ix2 r u) ≤ z ↔ ∀ k, v (ix2 r k) ≤ z := by
  have : maxCol v (ix2 r u) = (Finset.univ : Finset (Fin n)).fold max (Ideal.ofBits .f32 0xFF800000#32) fun k => v (ix2 r k) := by
    refine (shapeCast_a_a1_apply _ (col t) r u).trans ((Ideal.multiReduction_maximumf_single _ _ (red1 t n) _ rfl _).trans ?_)
    exact congrArg (Finset.fold max _ · _) (funext fun k => congrArg v (lift1 r k))
  rw [this, Finset.fold_max_le, bot_bits]
  simp

namespace Blk

variable (B : Blk Ideal)

/-- The block's weights. -/
abbrev W : Wt := ⟨B.wp, B.wps, B.bp, B.g, B.beta, B.w1, B.w1s, B.b1, B.w2, B.w2s, B.b2⟩

variable (X : FVec Ideal (M2 256 1280) .f32)
  (ha : B.xa = cut (F := Ideal) (b := 1280) (e := .f32) X 0 512 (by norm_num)) (hb : B.xb = cut (F := Ideal) (b := 1280) (e := .f32) X 512 512 (by norm_num))
  (hx : B.xc = cut (F := Ideal) (b := 1280) (e := .f32) X 1024 256 (by norm_num))
  (hk : B.k = (((Real.sqrt 2)⁻¹ : ℝ) : EReal))

theorem s1_apply (r : Fin 256) (u : Fin 1) : B.s1 (ix2 r u) = scaleR (row B.o r) := scale_apply _ _ _

theorem lhs1_row (r : Fin 256) : row B.lhs1 r = qrealR (row B.o r) := funext fun k => by
  show qreal B.o B.s1 (ix2 r k) = _
  rw [qreal_apply, s1_apply]
  rfl

theorem h1c_apply (c n : ℕ) (h : c + n ≤ 1280) (r : Fin 256) (j : Fin n) :
    B.h1c c n h (cut (F := Ideal) (b := 1280) (e := .f32) X c n h) (ix2 r j) = B.W.h1 (row B.o r) (row X r) ⟨c + j.val, by have := j.isLt; omega⟩ := by
  unfold h1c Wt.h1
  rw [addf_apply, lin_apply, linR_cut, cut_apply, s1_apply, lhs1_row]

include ha hb hx in
theorem H1_eq : View.canon B.H1L = ofRows fun r => B.W.h1 (row B.o r) (row X r) := by
  refine canon_of _ _ ?_ (cover3 _ _ _)
  intro p hp
  unfold H1L at hp
  rcases List.mem_cons.1 hp with rfl | hp
  · exact piece_at _ _ _ fun r j => (shapeCast_apply _ _ _ _ rfl).trans (by rw [hx]; exact B.h1c_apply X _ _ _ _ _)
  rcases List.mem_cons.1 hp with rfl | hp
  · exact piece_at _ _ _ fun r j => (shapeCast_apply _ _ _ _ rfl).trans (by rw [hb]; exact B.h1c_apply X _ _ _ _ _)
  · obtain rfl := List.mem_singleton.1 hp
    exact piece_at _ _ _ fun r j => (shapeCast_apply _ _ _ _ rfl).trans (by rw [ha]; exact B.h1c_apply X _ _ _ _ _)

include ha hb hx in
theorem rdC_H1 (c n : ℕ) (h : c + n ≤ 1280) (r : Fin 256) (j : Fin n) :
    (rdC (F := Ideal)) B.H1L (colBox 256 1280 c n h).toLoadRect (ix2 r j) =
      B.W.h1 (row B.o r) (row X r) ⟨c + j.val, by have := j.isLt; omega⟩ := by
  show View.canon B.H1L ((colBox 256 1280 c n h).emb (ix2 r j)) = _
  rw [B.H1_eq X ha hb hx, colBox_emb]

include ha hb hx in
theorem ln_apply (r : Fin 256) (j : Fin 1280) : B.ln rdC (ix2 r j) = B.W.ln (row B.o r) (row X r) j := by
  unfold ln
  rw [lnorm_apply]
  refine congrFun (congrArg (fun v => lnormR v B.g B.beta) (funext fun k => ?_)) j
  refine (B.rdC_H1 X ha hb hx 0 1280 (by norm_num) r k).trans ?_
  exact congrArg _ (Fin.ext (Nat.zero_add _))

include ha hb hx in
theorem ln_row (r : Fin 256) : row (B.ln rdC) r = B.W.ln (row B.o r) (row X r) := funext fun j => B.ln_apply X ha hb hx r j

include ha hb hx in
theorem s2_apply (r : Fin 256) (u : Fin 1) : B.s2 rdC (ix2 r u) = scaleR (B.W.ln (row B.o r) (row X r)) := by
  unfold s2
  rw [scale_apply, B.ln_row X ha hb hx]

include ha hb hx in
theorem lhs2_row (r : Fin 256) : row (B.lhs2 rdC) r = qrealR (B.W.ln (row B.o r) (row X r)) := funext fun k => by
  show qreal (B.ln rdC) (B.s2 rdC) (ix2 r k) = _
  rw [qreal_apply, B.s2_apply X ha hb hx, B.ln_apply X ha hb hx]
  rfl

include ha hb hx hk in
theorem act_apply (c : ℕ) (h : c + 512 ≤ 5120) (r : Fin 256) (j : Fin 512) :
    B.act rdC c h (ix2 r j) = B.W.hid (row B.o r) (row X r) ⟨c + j.val, by have := j.isLt; omega⟩ := by
  unfold act Wt.hid
  rw [hk, gelu_apply, gelu_eq, lin_apply, linR_cut, B.s2_apply X ha hb hx, B.lhs2_row X ha hb hx]

include ha hb hx hk in
theorem HID_eq : View.canon (B.HIDL rdC) = ofRows fun r => B.W.hid (row B.o r) (row X r) := by
  refine canon_of _ _ ?_ (View.cover_of_tiled _ (M2 256 512).size (by rfl))
  have key : ∀ (c : ℕ) (h : c + 512 ≤ 5120), ∀ x, (B.actPiece rdC c h).2 x =
      (ofRows fun r => B.W.hid (row B.o r) (row X r)) ((B.actPiece rdC c h).1.emb x) := by
    intro c h
    refine piece_at _ _ _ fun r j => ?_
    exact (shapeCast_apply _ _ _ _ rfl).trans (B.act_apply X ha hb hx hk c h _ _)
  intro p hp
  unfold HIDL at hp
  simp only [List.mem_cons, List.not_mem_nil, or_false] at hp
  rcases hp with rfl | rfl | rfl | rfl | rfl | rfl | rfl | rfl | rfl | rfl <;> exact key _ _

include ha hb hx hk in
theorem s3_apply (r : Fin 256) (u : Fin 1) : B.s3 rdC (ix2 r u) = scaleR (B.W.hid (row B.o r) (row X r)) := by
  unfold s3 scaleR
  rw [scaleOf_apply]
  refine congrArg scaleOfR (le_antisymm ?_ ?_)
  · rw [maxCol_le]
    unfold amax
    rw [amaxStep_le, amaxStep_le, amaxStep_le, amaxStep_le, amaxStep_le, amaxStep_le, amaxStep_le, amaxStep_le, amaxStep_le, amaxStep_le]
    have top : ∀ j, max (B.W.hid (row B.o r) (row X r) j) (-(B.W.hid (row B.o r) (row X r) j)) ≤ amaxR (B.W.hid (row B.o r) (row X r)) :=
      (amaxR_le _ _).1 le_rfl
    have st : ∀ (c : ℕ) (h : c + 512 ≤ 5120) (j : Fin 512), max (B.act rdC c h (ix2 r j)) (-(B.act rdC c h (ix2 r j))) ≤ amaxR (B.W.hid (row B.o r) (row X r)) := by
      intro c h j
      rw [B.act_apply X ha hb hx hk]
      exact top _
    refine ⟨⟨⟨⟨⟨⟨⟨⟨⟨⟨fun l => ?_, st _ _⟩, st _ _⟩, st _ _⟩, st _ _⟩, st _ _⟩, st _ _⟩, st _ _⟩, st _ _⟩, st _ _⟩, st _ _⟩
    show Ideal.ofBits .f32 0x00000000#32 ≤ _
    rw [zero_bits]
    refine le_trans ?_ (top 0)
    rcases le_total 0 (B.W.hid (row B.o r) (row X r) 0) with h | h
    · exact le_max_of_le_left h
    · exact le_max_of_le_right (EReal.neg_le_neg_iff.1 (by simpa using h))
  · rw [amaxR_le]
    have H := (maxCol_le (B.amax rdC) r u _).1 le_rfl
    revert H
    generalize maxCol (B.amax rdC) (ix2 r u) = z
    intro H
    unfold amax at H
    rw [amaxStep_le, amaxStep_le, amaxStep_le, amaxStep_le, amaxStep_le, amaxStep_le, amaxStep_le, amaxStep_le, amaxStep_le, amaxStep_le] at H
    obtain ⟨⟨⟨⟨⟨⟨⟨⟨⟨⟨_, h0⟩, h1⟩, h2⟩, h3⟩, h4⟩, h5⟩, h6⟩, h7⟩, h8⟩, h9⟩ := H
    intro k
    obtain ⟨k, hk5⟩ := k
    have st : ∀ (c : ℕ) (h : c + 512 ≤ 5120) (_ : ∀ j : Fin 512, max (B.act rdC c h (ix2 r j)) (-(B.act rdC c h (ix2 r j))) ≤ z)
        (_ : c ≤ k) (_ : k < c + 512), max (B.W.hid (row B.o r) (row X r) ⟨k, hk5⟩) (-(B.W.hid (row B.o r) (row X r) ⟨k, hk5⟩)) ≤ z := by
      intro c h H h1 h2
      have := H ⟨k - c, by omega⟩
      rw [B.act_apply X ha hb hx hk] at this
      have e' : (⟨c + (k - c), by omega⟩ : Fin 5120) = ⟨k, hk5⟩ := Fin.ext (by show c + (k - c) = k; omega)
      rw [e'] at this
      exact this
    rcases lt_or_ge k 512 with g | g
    · exact st 0 _ h0 (by omega) (by omega)
    rcases lt_or_ge k 1024 with g | g
    · exact st 512 _ h1 (by omega) (by omega)
    rcases lt_or_ge k 1536 with g | g
    · exact st 1024 _ h2 (by omega) (by omega)
    rcases lt_or_ge k 2048 with g | g
    · exact st 1536 _ h3 (by omega) (by omega)
    rcases lt_or_ge k 2560 with g | g
    · exact st 2048 _ h4 (by omega) (by omega)
    rcases lt_or_ge k 3072 with g | g
    · exact st 2560 _ h5 (by omega) (by omega)
    rcases lt_or_ge k 3584 with g | g
    · exact st 3072 _ h6 (by omega) (by omega)
    rcases lt_or_ge k 4096 with g | g
    · exact st 3584 _ h7 (by omega) (by omega)
    rcases lt_or_ge k 4608 with g | g
    · exact st 4096 _ h8 (by omega) (by omega)
    · exact st 4608 _ h9 (by omega) (by omega)

include ha hb hx hk in
theorem HC_eq : View.canon (B.HCL rdC rdC) = ofRows fun r => codeR (B.W.hid (row B.o r) (row X r)) := by
  refine canon_of _ _ ?_ (View.cover_of_tiled _ (M2 256 512).size (by rfl))
  have key : ∀ (c : ℕ) (h : c + 512 ≤ 5120), ∀ x, (B.codePiece rdC rdC c h).2 x =
      (ofRows fun r => codeR (B.W.hid (row B.o r) (row X r))) ((B.codePiece rdC rdC c h).1.emb x) := by
    intro c h
    refine piece_at _ _ _ fun r j => ?_
    refine congrArg (Ideal.fptosi 8) ((qreal_apply _ _ _ _).trans ?_)
    show qrealR1 (View.canon (B.HIDL rdC) ((colBox 256 5120 c 512 h).emb (ix2 _ _))) _ = _
    rw [B.HID_eq X ha hb hx hk, B.s3_apply X ha hb hx hk, colBox_emb]
    rfl
  intro p hp
  unfold HCL at hp
  simp only [List.mem_cons, List.not_mem_nil, or_false] at hp
  rcases hp with rfl | rfl | rfl | rfl | rfl | rfl | rfl | rfl | rfl | rfl <;> exact key _ _

include ha hb hx hk in
theorem lhs3_row (r : Fin 256) : row (B.lhs3 rdC rdC rdC) r = qrealR (B.W.hid (row B.o r) (row X r)) := funext fun k => by
  show FloatOps.sitofp (F := Ideal) .bf16 (shapeCast (M2 256 5120) (rdC (B.HCL rdC rdC) (colBox 256 5120 0 5120 (by norm_num)).toLoadRect) (same _) (ix2 r k)) = _
  rw [shapeCast_apply _ _ (ix2 r k) (ix2 r k) rfl]
  show FloatOps.sitofp (F := Ideal) .bf16 (View.canon (B.HCL rdC rdC) ((colBox 256 5120 0 5120 _).emb (ix2 r k))) = _
  rw [B.HC_eq X ha hb hx hk, colBox_emb]
  show FloatOps.sitofp (F := Ideal) .bf16 (Ideal.fptosi 8 (qrealR1 _ _)) = _
  rw [sitofp_fptosi]
  exact congrArg (fun i => qrealR1 (B.W.hid (row B.o r) (row X r) i) _) (Fin.ext (Nat.zero_add _))

include ha hb hx hk in
theorem yc_apply (c n : ℕ) (h : c + n ≤ 1280) (r : Fin 256) (j : Fin n) :
    B.yc rdC rdC rdC c n h (ix2 r j) = B.W.y (row B.o r) (row X r) ⟨c + j.val, by have := j.isLt; omega⟩ := by
  unfold yc Wt.y
  rw [addf_apply, lin_apply, linR_cut, B.s3_apply X ha hb hx hk, B.rdC_H1 X ha hb hx, B.lhs3_row X ha hb hx hk]

include ha hb hx hk in
theorem Y_eq : View.canon (B.YL rdC rdC rdC) = ofRows fun r => B.W.y (row B.o r) (row X r) := by
  refine canon_of _ _ ?_ (cover3 _ _ _)
  have key := fun (c n : ℕ) (h : c + n ≤ 1280) => piece_at (e := .f32) h (B.yc rdC rdC rdC c n h)
    (ofRows fun r => B.W.y (row B.o r) (row X r)) (B.yc_apply X ha hb hx hk c n h)
  intro p hp
  unfold YL at hp
  rcases List.mem_cons.1 hp with rfl | hp
  · exact key _ _ _
  rcases List.mem_cons.1 hp with rfl | hp
  · exact key _ _ _
  · obtain rfl := List.mem_singleton.1 hp
    exact key _ _ _

theorem AC_eq : View.canon B.ACL = ofRows fun r => codeR (row B.o r) := by
  refine canon_of _ _ ?_ (cover1 _ _)
  intro p hp
  obtain rfl := List.mem_singleton.1 hp
  refine piece_at (e := .i8) (a := 256) (b := 1280) (c := 0) (n := 1280) _ (codes B.o B.s1) (ofRows fun r => codeR (row B.o r)) fun r j => ?_
  refine congrArg (Ideal.fptosi 8) ((qreal_apply B.o B.s1 r j).trans ?_)
  rw [s1_apply]
  exact congrArg (fun i => qrealR1 (B.o (ix2 _ i)) _) (Fin.ext (Nat.zero_add _).symm)

include ha hb hx in
theorem LC_eq : View.canon (B.LCL rdC) = ofRows fun r => codeR (B.W.ln (row B.o r) (row X r)) := by
  refine canon_of _ _ ?_ (cover1 _ _)
  intro p hp
  obtain rfl := List.mem_singleton.1 hp
  refine piece_at (e := .i8) (a := 256) (b := 1280) (c := 0) (n := 1280) _ (B.codes2 rdC) (ofRows fun r => codeR (B.W.ln (row B.o r) (row X r))) fun r j => ?_
  refine congrArg (Ideal.fptosi 8) ((qreal_apply (B.ln rdC) (B.s2 rdC) r j).trans ?_)
  rw [B.s2_apply X ha hb hx, B.ln_apply X ha hb hx]
  exact congrArg (fun i => qrealR1 (B.W.ln (row B.o _) (row X _) i) _) (Fin.ext (Nat.zero_add _).symm)

end Blk

end Cert.Rows

end
-- ==== Proof.WinMlpIdealBlk.lean ====
/- What the windows of the feed-forward kernel hold at a point: rows of the two row arrays, and the weights whole. -/
module

public import proofs.«01_k».proof.Proof.WinMlpIdealVRun
public import proofs.«01_k».proof.Proof.WinMlpIdealForget
public import proofs.«01_k».proof.Proof.MlpRow
public import Idealize.ShloMosaic.Lib.Pipeline.DatRel
public import Idealize.ShloMosaic.Lib.Pipeline.ArrRel

@[expose] public section

set_option maxRecDepth 16384

noncomputable section

namespace Cert.WinMlpIdeal.Hand

open Cert.WinMlpIdeal Cert.WinMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The weights as the launch finds them, and the two row arrays. -/
def wts (c : Dev nD) : Wt :=
  ⟨V m c main_arg2, V m c main_v0, V m c main_v1, V m c main_v2, V m c main_v3, V m c main_arg7, V m c main_v4, V m c main_v5, V m c main_arg10, V m c main_v6, V m c main_v7⟩
def arrO (c : Dev nD) : FVec Ideal (M2 16384 1280) .f32 := m ((c : Thread nD τ).loc main_arg0)
def arrX (c : Dev nD) : FVec Ideal (M2 16384 1280) .f32 := m ((c : Thread nD τ).loc main_arg1)

theorem pt_lt (t : Fin cfg0.N) : t.val < 64 := t.isLt

theorem iblk_2 (c : Dev nD) (t : Fin cfg0.N) : (iblk m c 2 t : Vec Ideal S1280x1280 .i8) = V m c main_arg2 := by
  funext j
  unfold iblk
  rw [View.read_apply]
  show V m c main_arg2 _ = V m c main_arg2 j
  congr 1
  funext a
  apply Fin.ext
  match a with
  | ⟨0, _⟩ => show 0 * 1280 + 1 * (j 0).val = (j 0).val; omega
  | ⟨1, _⟩ => show 0 * 1280 + 1 * (j 1).val = (j 1).val; omega

theorem iblk_3 (c : Dev nD) (t : Fin cfg0.N) : (iblk m c 3 t : Vec Ideal S1x1280 .f32) = V m c main_v0 := by
  funext j
  unfold iblk
  rw [View.read_apply]
  show V m c main_v0 _ = V m c main_v0 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_4 (c : Dev nD) (t : Fin cfg0.N) : (iblk m c 4 t : Vec Ideal S1x1280 .f32) = V m c main_v1 := by
  funext j
  unfold iblk
  rw [View.read_apply]
  show V m c main_v1 _ = V m c main_v1 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_5 (c : Dev nD) (t : Fin cfg0.N) : (iblk m c 5 t : Vec Ideal S1x1280 .f32) = V m c main_v2 := by
  funext j
  unfold iblk
  rw [View.read_apply]
  show V m c main_v2 _ = V m c main_v2 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_6 (c : Dev nD) (t : Fin cfg0.N) : (iblk m c 6 t : Vec Ideal S1x1280 .f32) = V m c main_v3 := by
  funext j
  unfold iblk
  rw [View.read_apply]
  show V m c main_v3 _ = V m c main_v3 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_7 (c : Dev nD) (t : Fin cfg0.N) : (iblk m c 7 t : Vec Ideal S1280x5120 .i8) = V m c main_arg7 := by
  funext j
  unfold iblk
  rw [View.read_apply]
  show V m c main_arg7 _ = V m c main_arg7 j
  congr 1
  funext a
  apply Fin.ext
  match a with
  | ⟨0, _⟩ => show 0 * 1280 + 1 * (j 0).val = (j 0).val; omega
  | ⟨1, _⟩ => show 0 * 5120 + 1 * (j 1).val = (j 1).val; omega

theorem iblk_8 (c : Dev nD) (t : Fin cfg0.N) : (iblk m c 8 t : Vec Ideal S1x5120 .f32) = V m c main_v4 := by
  funext j
  unfold iblk
  rw [View.read_apply]
  show V m c main_v4 _ = V m c main_v4 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_9 (c : Dev nD) (t : Fin cfg0.N) : (iblk m c 9 t : Vec Ideal S1x5120 .f32) = V m c main_v5 := by
  funext j
  unfold iblk
  rw [View.read_apply]
  show V m c main_v5 _ = V m c main_v5 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_10 (c : Dev nD) (t : Fin cfg0.N) : (iblk m c 10 t : Vec Ideal S5120x1280 .i8) = V m c main_arg10 := by
  funext j
  unfold iblk
  rw [View.read_apply]
  show V m c main_arg10 _ = V m c main_arg10 j
  congr 1
  funext a
  apply Fin.ext
  match a with
  | ⟨0, _⟩ => show 0 * 5120 + 1 * (j 0).val = (j 0).val; omega
  | ⟨1, _⟩ => show 0 * 1280 + 1 * (j 1).val = (j 1).val; omega

theorem iblk_11 (c : Dev nD) (t : Fin cfg0.N) : (iblk m c 11 t : Vec Ideal S1x1280 .f32) = V m c main_v6 := by
  funext j
  unfold iblk
  rw [View.read_apply]
  show V m c main_v6 _ = V m c main_v6 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_12 (c : Dev nD) (t : Fin cfg0.N) : (iblk m c 12 t : Vec Ideal S1x1280 .f32) = V m c main_v7 := by
  funext j
  unfold iblk
  rw [View.read_apply]
  show V m c main_v7 _ = V m c main_v7 j
  congr 1
  funext a
  apply Fin.ext
  match a with
  | ⟨0, _⟩ => show 0 * 1 + 1 * (j 0).val = (j 0).val; omega
  | ⟨1, _⟩ => show 0 * 1280 + 1 * (j 1).val = (j 1).val; omega

theorem idx_0 (t : Fin cfg0.N) : win0_0.index t 0 = t.val ∧ win0_0.index t 1 = 0 := by
  revert t
  decide +kernel

theorem iblk_0 (c : Dev nD) (t : Fin cfg0.N) (r : Fin 256) (j : Fin 1280) :
    (iblk m c 0 t : Vec Ideal S256x1280 .f32) (ix2 r j) =
      arrO m c (ix2 ⟨t.val * 256 + r.val, by have := pt_lt t; have := r.isLt; omega⟩ j) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * r.val = t.val * 256 + r.val; rw [(idx_0 t).1]; omega
  | ⟨1, _⟩ => show win0_0.index t 1 * 1280 + 1 * j.val = j.val; rw [(idx_0 t).2]; omega

theorem idx_1 (t : Fin cfg0.N) : win0_1.index t 0 = t.val ∧ win0_1.index t 1 = 0 := by
  revert t
  decide +kernel

theorem iblk_1 (c : Dev nD) (t : Fin cfg0.N) (r : Fin 256) (j : Fin 1280) :
    (iblk m c 1 t : Vec Ideal S256x1280 .bf16) (ix2 r j) =
      arrX m c (ix2 ⟨t.val * 256 + r.val, by have := pt_lt t; have := r.isLt; omega⟩ j) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 256 + 1 * r.val = t.val * 256 + r.val; rw [(idx_1 t).1]; omega
  | ⟨1, _⟩ => show win0_1.index t 1 * 1280 + 1 * j.val = j.val; rw [(idx_1 t).2]; omega

end Cert.WinMlpIdeal.Hand

end
-- ==== Proof.PackRow.lean ====
/- A column of 256 numbers packed into a row of the packed array keeps its numbers, in order. -/
module

public import proofs.«01_k».proof.Proof.Pack

@[expose] public section

set_option maxRecDepth 16384

noncomputable section

namespace Cert.Rows

open Idealize.ShloMosaic Idealize.ShloMosaic.ValueIdx

theorem iota_eq_iff (i j : Fin 128) :
    IntOp.cmpi .eq (iota .tc (M2 128 128) 32 [0] iotas0 (ix2 i j)) (iota .tc (M2 128 128) 32 [1] iotas1 (ix2 i j)) = if i = j then 1#1 else 0#1 := by
  revert i j
  decide +kernel

theorem diagRow_apply (v : FVec Ideal (M2 128 1) .f32) (u : Fin 1) (j : Fin 128) : diagRow v (ix2 u j) = v (ix2 j 0) := by
  unfold diagRow
  refine (shapeCast_a_1a_apply _ asRow u j).trans ((Ideal.multiReduction_add_single _ _ red0 _ rfl _).trans ?_)
  have h : ∀ k : Fin 128, (select (cmpi .eq (iota .tc (M2 128 128) 32 [0] iotas0) (iota .tc (M2 128 128) 32 [1] iotas1))
      (broadcastTo (M2 128 128) (shapeCast (M2 128 1) v (same _)) (bcol 128 128))
      (broadcast (M2 128 128) (Scalar.ofBits (F := Ideal) .f32 0x00000000#32))) (ix2 k j) = if k = j then v (ix2 k 0) else (0 : EReal) := by
    intro k
    refine (select_apply _ _ _ _).trans ?_
    rw [show cmpi .eq (iota .tc (M2 128 128) 32 [0] iotas0) (iota .tc (M2 128 128) 32 [1] iotas1) (ix2 k j) = _ from iota_eq_iff k j, bcol_apply, shapeCast_self]
    by_cases hk : k = j
    · rw [if_pos hk, if_pos hk]; rfl
    · rw [if_neg hk, if_neg hk]; exact Ideal.ofBits_zero_f32
  have h' : ∀ k : Fin 128, red0.lift (ix1 j) k = (ix2 k j : (M2 128 128).Idx) := fun k => by
    funext a
    match a with
    | ⟨0, _⟩ => rfl
    | ⟨1, _⟩ => rfl
  refine (Finset.sum_congr rfl fun k _ => (congrArg _ (h' k)).trans (h k)).trans ?_
  exact (Finset.sum_ite_eq' (Finset.univ : Finset (Fin 128)) j (fun k => v (ix2 k 0))).trans (if_pos (Finset.mem_univ j))

theorem rowOf256_apply (v : FVec Ideal (M2 256 1) .f32) (u : Fin 1) (j : Fin 256) : rowOf256 v (ix2 u j) = v (ix2 j 0) := by
  unfold rowOf256
  by_cases h : j.val < 128
  · refine (concatenate_pair_apply_left 1 _ _ cat2 (ix2 u j) rfl (ix2 u ⟨j.val, h⟩) fun b => ?_).trans ?_
    · match b with
      | ⟨0, _⟩ => rfl
      | ⟨1, _⟩ => rfl
    · rw [diagRow_apply]
      refine extractStridedSlice_apply _ v _ _ (ix2 j 0) fun a => ?_
      match a with
      | ⟨0, _⟩ => exact (Nat.zero_add _).symm
      | ⟨1, _⟩ => rfl
  · have hj := j.isLt
    refine (concatenate_pair_apply_right 1 _ _ cat2 (ix2 u j) rfl rfl (ix2 u ⟨j.val - 128, by omega⟩) (fun b hb => ?_) ?_).trans ?_
    · match b, hb with
      | ⟨0, _⟩, _ => rfl
      | ⟨1, _⟩, hb => exact absurd rfl hb
    · show j.val - 128 + 128 = j.val
      omega
    · rw [diagRow_apply]
      refine extractStridedSlice_apply _ v _ _ (ix2 j 0) fun a => ?_
      match a with
      | ⟨0, _⟩ => show j.val = 128 + (j.val - 128); omega
      | ⟨1, _⟩ => rfl

/-- The place of an index of the packed array, row by row. -/
def flat (y : (M2 4 4096).Idx) : Fin 16384 := ⟨(y 0).val * 4096 + (y 1).val, by
  have h0 : (y 0).val < 4 := (y 0).isLt
  have h1 : (y 1).val < 4096 := (y 1).isLt
  omega⟩

/-- The global place of row `r` of block `t`. -/
def pt (t : ℕ) (ht : t < 64) (r : Fin 256) : Fin 16384 := ⟨t * 256 + r.val, by have := r.isLt; omega⟩

/-- Writing block `t`'s numbers into the packed array extends the part that is right by one block. -/
theorem pack_step (t : ℕ) (ht : t < 64) (off : Fin 2 → ℕ) (inb : ∀ a, off a + (M2 1 256).size a ≤ (M2 4 4096).size a)
    (h0 : off 0 = t / 16) (h1 : off 1 = t % 16 * 256) (g : Fin 16384 → EReal) (Y : FVec Ideal (M2 4 4096) .f32)
    (hY : ∀ y, (flat y).val < t * 256 → Y y = g (flat y)) (v : FVec Ideal (M2 256 1) .f32)
    (hv : ∀ r, v (ix2 r 0) = g (pt t ht r)) (y : (M2 4 4096).Idx) (hy : (flat y).val < (t + 1) * 256) :
    (Rect.unit (s := M2 4 4096) off (M2 1 256).size inb).overlay Y (rowOf256 v) y = g (flat y) := by
  have hf : (flat y).val = (y 0).val * 4096 + (y 1).val := rfl
  have b1 : (y 1).val < 4096 := (y 1).isLt
  have b0 : (y 0).val < 4 := (y 0).isLt
  by_cases h : t * 256 ≤ (flat y).val
  · have hlt : (flat y).val - t * 256 < 256 := by omega
    have he : y = (Rect.unit (s := M2 4 4096) off (M2 1 256).size inb).emb
        (ix2 (n0 := 1) (n1 := 256) 0 ⟨(flat y).val - t * 256, hlt⟩ : (M2 1 256).Idx) := by
      funext a
      apply Fin.ext
      match a with
      | ⟨0, _⟩ => show (y 0).val = off 0 + 1 * 0; omega
      | ⟨1, _⟩ => show (y 1).val = off 1 + 1 * ((flat y).val - t * 256); omega
    conv_lhs => rw [he]
    rw [Rect.overlay_emb]
    refine (rowOf256_apply v 0 _).trans ((hv _).trans (congrArg g (Fin.ext ?_)))
    show t * 256 + ((flat y).val - t * 256) = (flat y).val
    omega
  · rw [Rect.overlay_of_not_mem]
    · exact hY y (by omega)
    · intro hm
      obtain ⟨x, hx⟩ : ∃ x, (Rect.unit (s := M2 4 4096) off (M2 1 256).size inb).emb x = y := by
        rw [← Rect.map_emb_univ] at hm; exact (Finset.mem_map.1 hm).imp fun _ h => h.2
      have e0 : (y 0).val = off 0 + 1 * (x 0).val := by rw [← hx]; rfl
      have e1 : (y 1).val = off 1 + 1 * (x 1).val := by rw [← hx]; rfl
      omega

end Cert.Rows

end
-- ==== Proof.MlpGoal.lean ====
/- The seven results of the feed-forward layer over all the rows, and what a kernel's buffers are to hold of them
   after a block. -/
module

public import proofs.«01_k».proof.Proof.MlpRow
public import proofs.«01_k».proof.Proof.PackRow

@[expose] public section

set_option maxRecDepth 16384

noncomputable section

namespace Cert.Rows

open Idealize.ShloMosaic Idealize.ShloMosaic.ValueIdx

theorem Wt.ext' {a b : Wt} (h0 : a.wp = b.wp) (h1 : a.wps = b.wps) (h2 : a.bp = b.bp) (h3 : a.g = b.g) (h4 : a.beta = b.beta)
    (h5 : a.w1 = b.w1) (h6 : a.w1s = b.w1s) (h7 : a.b1 = b.b1) (h8 : a.w2 = b.w2) (h9 : a.w2s = b.w2s) (h10 : a.b2 = b.b2) : a = b := by
  cases a; cases b
  subst h0 h1 h2 h3 h4 h5 h6 h7 h8 h9 h10
  rfl

namespace Wt

variable (W : Wt) (O X : FVec Ideal (M2 16384 1280) .f32)

/-- The row functions over all the rows. -/
def fY (p : Fin 16384) : Fin 1280 → EReal := W.y (row O p) (row X p)
def fA (O : FVec Ideal (M2 16384 1280) .f32) (p : Fin 16384) : Fin 1280 → BitVec 8 := codeR (row O p)
def fAS (O : FVec Ideal (M2 16384 1280) .f32) (p : Fin 16384) : EReal := scaleR (row O p)
def fL (p : Fin 16384) : Fin 1280 → BitVec 8 := codeR (W.ln (row O p) (row X p))
def fLS (p : Fin 16384) : EReal := scaleR (W.ln (row O p) (row X p))
def fH (p : Fin 16384) : Fin 5120 → BitVec 8 := codeR (W.hid (row O p) (row X p))
def fHS (p : Fin 16384) : EReal := scaleR (W.hid (row O p) (row X p))

end Wt

/-- A block holds rows `256 t`, … of an array given by rows. -/
def BlockOf {α : Type} {n : ℕ} (t : ℕ) (g : Fin 16384 → Fin n → α) (X : (M2 256 n).Idx → α) : Prop :=
  ∀ (ht : t < 64) (r : Fin 256) (j : Fin n), X (ix2 r j) = g (pt t ht r) j

/-- The packed array holds the first `256 (t + 1)` numbers. -/
def PackedTo (t : ℕ) (g : Fin 16384 → EReal) (X : (M2 4 4096).Idx → EReal) : Prop :=
  ∀ y : (M2 4 4096).Idx, (flat y).val < (t + 1) * 256 → X y = g (flat y)

end Cert.Rows

end
-- ==== Proof.WinMlpIdealVal.lean ====
/- The feed-forward kernel's blocks at the ideal values, its body held to the row functions, and its run. -/
module

public import proofs.«01_k».proof.Proof.WinMlpIdealBlk
public import proofs.«01_k».proof.Proof.MlpGoal

@[expose] public section

set_option maxRecDepth 16384

noncomputable section

namespace Cert.WinMlpIdeal.Hand

open Cert.WinMlpIdeal Cert.WinMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The block of point `t`. -/
def bk (c : Dev nD) (t : Fin cfg0.N) : Blk Ideal := blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
/-- The block's residual rows. -/
def bx (c : Dev nD) (t : Fin cfg0.N) : FVec Ideal (M2 256 1280) .f32 := (iblk m c 1 t : Vec Ideal S256x1280 .bf16)

variable (c : Dev nD) (t : Fin cfg0.N)

theorem bk_W : (bk m c t).W = wts m c :=
  Wt.ext' (iblk_2 m c t) (iblk_3 m c t) (iblk_4 m c t) ((cut_all _ _).trans (iblk_5 m c t)) ((cut_all _ _).trans (iblk_6 m c t))
    (iblk_7 m c t) (iblk_8 m c t) (iblk_9 m c t) (iblk_10 m c t) (iblk_11 m c t) (iblk_12 m c t)

theorem bk_o (r : Fin 256) : row (bk m c t).o r = row (arrO m c) (pt t.val (pt_lt t) r) :=
  funext fun k => (congrFun (cut_all _ _) _).trans (iblk_0 m c t r k)

theorem bx_row (r : Fin 256) : row (bx m c t) r = row (arrX m c) (pt t.val (pt_lt t) r) :=
  funext fun k => iblk_1 m c t r k

theorem ha : (bk m c t).xa = cut (F := Ideal) (b := 1280) (e := .f32) (bx m c t) 0 512 (by norm_num) := rfl
theorem hb : (bk m c t).xb = cut (F := Ideal) (b := 1280) (e := .f32) (bx m c t) 512 512 (by norm_num) := rfl
theorem hx : (bk m c t).xc = cut (F := Ideal) (b := 1280) (e := .f32) (bx m c t) 1024 256 (by norm_num) := rfl
theorem hk : (bk m c t).k = (((Real.sqrt 2)⁻¹ : ℝ) : EReal) := IdealRules.named_const.ideal_named_scalar _ _ _ _ rfl

theorem off_eq : k0_off1 (grid0.coords t) 0 = t.val / 16 ∧ k0_off1 (grid0.coords t) 1 = t.val % 16 * 256 := by
  revert t
  decide +kernel

theorem val_13 : BlockOf t.val ((wts m c).fY (arrO m c) (arrX m c)) (View.canon ((bk m c t).YL rdC rdC rdC)) := fun _ r j => by
  refine (congrFun ((bk m c t).Y_eq (bx m c t) (ha m c t) (hb m c t) (hx m c t) (hk m c t)) _).trans ?_
  show _ = Wt.fY (wts m c) (arrO m c) (arrX m c) _ j
  unfold Wt.fY
  rw [← bk_o, ← bx_row, ← bk_W m c t]

theorem val_14 : BlockOf t.val (Wt.fA (arrO m c)) (View.canon ((bk m c t).ACL)) := fun _ r j => by
  refine (congrFun ((bk m c t).AC_eq) _).trans ?_
  show _ = Wt.fA (arrO m c) _ j
  unfold Wt.fA
  rw [← bk_o]

theorem val_15 (r : Fin 256) : ((bk m c t).s1) (ix2 r 0) = (Wt.fAS (arrO m c)) (pt t.val (pt_lt t) r) := by
  refine ((bk m c t).s1_apply r 0).trans ?_
  unfold Wt.fAS
  rw [← bk_o]

theorem val_16 : BlockOf t.val ((wts m c).fL (arrO m c) (arrX m c)) (View.canon ((bk m c t).LCL rdC)) := fun _ r j => by
  refine (congrFun ((bk m c t).LC_eq (bx m c t) (ha m c t) (hb m c t) (hx m c t)) _).trans ?_
  show _ = Wt.fL (wts m c) (arrO m c) (arrX m c) _ j
  unfold Wt.fL
  rw [← bk_o, ← bx_row, ← bk_W m c t]

theorem val_17 (r : Fin 256) : ((bk m c t).s2 rdC) (ix2 r 0) = ((wts m c).fLS (arrO m c) (arrX m c)) (pt t.val (pt_lt t) r) := by
  refine ((bk m c t).s2_apply (bx m c t) (ha m c t) (hb m c t) (hx m c t) r 0).trans ?_
  unfold Wt.fLS
  rw [← bk_o, ← bx_row, ← bk_W m c t]

theorem val_18 : BlockOf t.val ((wts m c).fH (arrO m c) (arrX m c)) (View.canon ((bk m c t).HCL rdC rdC)) := fun _ r j => by
  refine (congrFun ((bk m c t).HC_eq (bx m c t) (ha m c t) (hb m c t) (hx m c t) (hk m c t)) _).trans ?_
  show _ = Wt.fH (wts m c) (arrO m c) (arrX m c) _ j
  unfold Wt.fH
  rw [← bk_o, ← bx_row, ← bk_W m c t]

theorem val_19 (r : Fin 256) : ((bk m c t).s3 rdC) (ix2 r 0) = ((wts m c).fHS (arrO m c) (arrX m c)) (pt t.val (pt_lt t) r) := by
  refine ((bk m c t).s3_apply (bx m c t) (ha m c t) (hb m c t) (hx m c t) (hk m c t) r 0).trans ?_
  unfold Wt.fHS
  rw [← bk_o, ← bx_row, ← bk_W m c t]

/-- What the body leaves in each output. -/
def rel (c : Dev nD) (w : Fin cfg0.W) (t : Fin cfg0.N) (X : (cfg0.win w).block.Idx → Elt Ideal (cfg0.win w).elt) : Prop :=
  match w, X with
  | ⟨13, _⟩, X => BlockOf t.val ((wts m c).fY (arrO m c) (arrX m c)) X
  | ⟨14, _⟩, X => BlockOf t.val (Wt.fA (arrO m c)) X
  | ⟨15, _⟩, X => PackedTo t.val (Wt.fAS (arrO m c)) X
  | ⟨16, _⟩, X => BlockOf t.val ((wts m c).fL (arrO m c) (arrX m c)) X
  | ⟨17, _⟩, X => PackedTo t.val ((wts m c).fLS (arrO m c) (arrX m c)) X
  | ⟨18, _⟩, X => BlockOf t.val ((wts m c).fH (arrO m c) (arrX m c)) X
  | ⟨19, _⟩, X => PackedTo t.val ((wts m c).fHS (arrO m c) (arrX m c)) X
  | _, _ => True

/-- The exact data of the inputs with the outputs held to `rel`. -/
def rdat (c : Dev nD) := (dats (F := Ideal) m 0 c).toRRel forgets0 (rel m c)

theorem found_15 (Y : S4x4096.Idx → EReal) (hY : (rdat m c).Finds 15 t Y) (y : (M2 4 4096).Idx) (hy : (flat y).val < t.val * 256) :
    Y y = (Wt.fAS (arrO m c)) (flat y) := by
  have ht0 : t.val ≠ 0 := fun h => by rw [h] at hy; omega
  rcases ((rdat m c).finds_of_pos (w := 15) ((cfg0.win 15).fetch_out rfl t) ht0 Y).1 hY with h | h
  · have := (flush0_15 _).1 h
    have hlt := pt_lt t
    dsimp only at this
    omega
  · have h' := (dats (F := Ideal) m 0 c).toRRel_leaves (fgt := forgets0) (Rl := rel m c) (w := 15) rfl h
    exact h' y (by show (flat y).val < (t.val - 1 + 1) * 256; omega)

theorem found_17 (Y : S4x4096.Idx → EReal) (hY : (rdat m c).Finds 17 t Y) (y : (M2 4 4096).Idx) (hy : (flat y).val < t.val * 256) :
    Y y = ((wts m c).fLS (arrO m c) (arrX m c)) (flat y) := by
  have ht0 : t.val ≠ 0 := fun h => by rw [h] at hy; omega
  rcases ((rdat m c).finds_of_pos (w := 17) ((cfg0.win 17).fetch_out rfl t) ht0 Y).1 hY with h | h
  · have := (flush0_17 _).1 h
    have hlt := pt_lt t
    dsimp only at this
    omega
  · have h' := (dats (F := Ideal) m 0 c).toRRel_leaves (fgt := forgets0) (Rl := rel m c) (w := 17) rfl h
    exact h' y (by show (flat y).val < (t.val - 1 + 1) * 256; omega)

theorem found_19 (Y : S4x4096.Idx → EReal) (hY : (rdat m c).Finds 19 t Y) (y : (M2 4 4096).Idx) (hy : (flat y).val < t.val * 256) :
    Y y = ((wts m c).fHS (arrO m c) (arrX m c)) (flat y) := by
  have ht0 : t.val ≠ 0 := fun h => by rw [h] at hy; omega
  rcases ((rdat m c).finds_of_pos (w := 19) ((cfg0.win 19).fetch_out rfl t) ht0 Y).1 hY with h | h
  · have := (flush0_19 _).1 h
    have hlt := pt_lt t
    dsimp only at this
    omega
  · have h' := (dats (F := Ideal) m 0 c).toRRel_leaves (fgt := forgets0) (Rl := rel m c) (w := 19) rfl h
    exact h' y (by show (flat y).val < (t.val - 1 + 1) * 256; omega)

/-- What the body is called with at point `t`, -/
def vbodyPre (c : Dev nD) (t : Fin cfg0.N) : sProp 𝕄 :=
  iprop((dats (F := Ideal) m 0 c).Φ t.castSucc ∗ (dats (F := Ideal) m 0 c).owesAt () t.castSucc
    ∗ (∃ d, owns (c : Thread nD τ) (ms0_0 t) fullShare ((dats (F := Ideal) m 0 c).before 0 t d))
    ∗ (∃ d, owns (c : Thread nD τ) (ms0_1 t) fullShare ((dats (F := Ideal) m 0 c).before 1 t d))
    ∗ (∃ d, owns (c : Thread nD τ) (ms0_2 t) fullShare ((dats (F := Ideal) m 0 c).before 2 t d))
    ∗ (∃ d, owns (c : Thread nD τ) (ms0_3 t) fullShare ((dats (F := Ideal) m 0 c).before 3 t d))
    ∗ (∃ d, owns (c : Thread nD τ) (ms0_4 t) fullShare ((dats (F := Ideal) m 0 c).before 4 t d))
    ∗ (∃ d, owns (c : Thread nD τ) (ms0_5 t) fullShare ((dats (F := Ideal) m 0 c).before 5 t d))
    ∗ (∃ d, owns (c : Thread nD τ) (ms0_6 t) fullShare ((dats (F := Ideal) m 0 c).before 6 t d))
    ∗ (∃ d, owns (c : Thread nD τ) (ms0_7 t) fullShare ((dats (F := Ideal) m 0 c).before 7 t d))
    ∗ (∃ d, owns (c : Thread nD τ) (ms0_8 t) fullShare ((dats (F := Ideal) m 0 c).before 8 t d))
    ∗ (∃ d, owns (c : Thread nD τ) (ms0_9 t) fullShare ((dats (F := Ideal) m 0 c).before 9 t d))
    ∗ (∃ d, owns (c : Thread nD τ) (ms0_10 t) fullShare ((dats (F := Ideal) m 0 c).before 10 t d))
    ∗ (∃ d, owns (c : Thread nD τ) (ms0_11 t) fullShare ((dats (F := Ideal) m 0 c).before 11 t d))
    ∗ (∃ d, owns (c : Thread nD τ) (ms0_12 t) fullShare ((dats (F := Ideal) m 0 c).before 12 t d))
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y))

/-- and what it returns. -/
def vbodyPost (c : Dev nD) (t : Fin cfg0.N) : sProp 𝕄 :=
  iprop((dats (F := Ideal) m 0 c).Φ t.succ ∗ (dats (F := Ideal) m 0 c).owesAt () t.succ
    ∗ owns (c : Thread nD τ) (ms0_0 t) fullShare ((dats (F := Ideal) m 0 c).after 0 t)
    ∗ owns (c : Thread nD τ) (ms0_1 t) fullShare ((dats (F := Ideal) m 0 c).after 1 t)
    ∗ owns (c : Thread nD τ) (ms0_2 t) fullShare ((dats (F := Ideal) m 0 c).after 2 t)
    ∗ owns (c : Thread nD τ) (ms0_3 t) fullShare ((dats (F := Ideal) m 0 c).after 3 t)
    ∗ owns (c : Thread nD τ) (ms0_4 t) fullShare ((dats (F := Ideal) m 0 c).after 4 t)
    ∗ owns (c : Thread nD τ) (ms0_5 t) fullShare ((dats (F := Ideal) m 0 c).after 5 t)
    ∗ owns (c : Thread nD τ) (ms0_6 t) fullShare ((dats (F := Ideal) m 0 c).after 6 t)
    ∗ owns (c : Thread nD τ) (ms0_7 t) fullShare ((dats (F := Ideal) m 0 c).after 7 t)
    ∗ owns (c : Thread nD τ) (ms0_8 t) fullShare ((dats (F := Ideal) m 0 c).after 8 t)
    ∗ owns (c : Thread nD τ) (ms0_9 t) fullShare ((dats (F := Ideal) m 0 c).after 9 t)
    ∗ owns (c : Thread nD τ) (ms0_10 t) fullShare ((dats (F := Ideal) m 0 c).after 10 t)
    ∗ owns (c : Thread nD τ) (ms0_11 t) fullShare ((dats (F := Ideal) m 0 c).after 11 t)
    ∗ owns (c : Thread nD τ) (ms0_12 t) fullShare ((dats (F := Ideal) m 0 c).after 12 t)
    ∗ (∃ X, ⌜rel m c 13 t X⌝ ∗ owns (c : Thread nD τ) (ms0_13 t) fullShare X)
    ∗ (∃ X, ⌜rel m c 14 t X⌝ ∗ owns (c : Thread nD τ) (ms0_14 t) fullShare X)
    ∗ (∃ X, ⌜rel m c 15 t X⌝ ∗ owns (c : Thread nD τ) (ms0_15 t) fullShare X)
    ∗ (∃ X, ⌜rel m c 16 t X⌝ ∗ owns (c : Thread nD τ) (ms0_16 t) fullShare X)
    ∗ (∃ X, ⌜rel m c 17 t X⌝ ∗ owns (c : Thread nD τ) (ms0_17 t) fullShare X)
    ∗ (∃ X, ⌜rel m c 18 t X⌝ ∗ owns (c : Thread nD τ) (ms0_18 t) fullShare X)
    ∗ (∃ X, ⌜rel m c 19 t X⌝ ∗ owns (c : Thread nD τ) (ms0_19 t) fullShare X))

set_option maxHeartbeats 4000000 in
theorem vsound_body :
    vbodyPre m c t ⊢ wp Idealize.ShloMosaic.frame (wpE (defs₀ (F := Ideal)) Variants.none c none) Set.univ (bodyAt0 t) (fun _ => vbodyPost m c t) := by
  unfold vbodyPre vbodyPost bodyAt0
  simp only [before0_0, before0_1, before0_2, before0_3, before0_4, before0_5, before0_6, before0_7, before0_8, before0_9, before0_10, before0_11, before0_12]
  rw [show (dats (F := Ideal) m 0 c).Φ t.succ = (dats (F := Ideal) m 0 c).Φ t.castSucc from rfl,
    show (dats (F := Ideal) m 0 c).owesAt () t.succ = (dats (F := Ideal) m 0 c).owesAt () t.castSucc from rfl,
    after0_0, after0_1, after0_2, after0_3, after0_4, after0_5, after0_6, after0_7, after0_8, after0_9, after0_10, after0_11, after0_12]
  rw [show (dats (F := Ideal) m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %h13, H13⟩, ⟨%y14, %h14, H14⟩, ⟨%y15, %h15, H15⟩, ⟨%y16, %h16, H16⟩, ⟨%y17, %h17, H17⟩, ⟨%y18, %h18, H18⟩, ⟨%y19, %h19, H19⟩⟩
  iapply (vruns c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y17 y19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [H17]; · iexact H17
  isplitl [H18]; · iexists _; iexact H18
  isplitl [H19]; · iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; exact val_13 m c t
  isplitl [H14]
  · iexists _; isplitr; swap; · iexact H14
    ipureintro; exact val_14 m c t
  isplitl [H15]
  · iexists _; isplitr; swap; · iexact H15
    ipureintro; exact fun y hy => pack_step t.val (pt_lt t) _ (k0_off1_inb _) (off_eq t).1 (off_eq t).2 (Wt.fAS (arrO m c)) y15 (found_15 m c t y15 h15) ((bk m c t).s1) (val_15 m c t) y hy
  isplitl [H16]
  · iexists _; isplitr; swap; · iexact H16
    ipureintro; exact val_16 m c t
  isplitl [H17]
  · iexists _; isplitr; swap; · iexact H17
    ipureintro; exact fun y hy => pack_step t.val (pt_lt t) _ (k0_off1_inb _) (off_eq t).1 (off_eq t).2 ((wts m c).fLS (arrO m c) (arrX m c)) y17 (found_17 m c t y17 h17) ((bk m c t).s2 rdC) (val_17 m c t) y hy
  isplitl [H18]
  · iexists _; isplitr; swap; · iexact H18
    ipureintro; exact val_18 m c t
  iexists _; isplitr; swap; · iexact H19
  ipureintro; exact fun y hy => pack_step t.val (pt_lt t) _ (k0_off1_inb _) (off_eq t).1 (off_eq t).2 ((wts m c).fHS (arrO m c) (arrX m c)) y19 (found_19 m c t y19 h19) ((bk m c t).s3 rdC) (val_19 m c t) y hy

theorem vbody_obligation (c : Dev nD) : Pipeline.BodyObligationRel (dats (F := Ideal) m 0 c) (defs₀ (F := Ideal)) Variants.none () Set.univ forgets0 (rel m c) := fun t => by
  rw [bigSep_W0, bigSep_W0, defs₀_row]
  exact triple_restated (vsound_body m c t) rfl .rfl fun _ => .rfl

set_option backward.isDefEq.respectTransparency.types false in
/-- The launch, each output held to its row function. -/
theorem run_vals : θ_run defs (onTc (τ := τ) (main (F := Ideal))) (s₀ m ρ) (fun r => RDat.FramePost (cfgs 0) (rdat m) (V m) r) :=
  RDat.θ_run_frame cfgs (0 : Fin 1) launch0 defs₀ Variants.none (rdat m) m ρ main
    (hbody := fun c => (vbody_obligation m c).toRRel) (hshare := fun c => (dats m 0 c).share_full fun _ => rfl)
    (howed := fun _ _ => rfl) (V := V m) (hmain := hmain m Variants.none) (hA := A_eq m) (hΦ := fun _ _ => rfl)

end Cert.WinMlpIdeal.Hand

end
-- ==== Proof.WinMlpIdealArr.lean ====
/- What the feed-forward kernel's result arrays hold when it ends. -/
module

public import proofs.«01_k».proof.Proof.WinMlpIdealVal
public import Idealize.ShloMosaic.Lib.Pipeline.ArrRel

@[expose] public section

set_option maxRecDepth 16384

noncomputable section

namespace Cert.WinMlpIdeal.Hand

open Cert.WinMlpIdeal Cert.WinMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

variable (c : Dev nD) (r : PUnit × MemSt nD τ sig (Elt Ideal)) (h : RDat.FramePost (cfgs 0) (rdat m) (V m) r)

theorem idx_13 (t : Fin cfg0.N) : win0_13.index t 0 = t.val ∧ win0_13.index t 1 = 0 := by
  revert t
  decide +kernel

include h in
theorem arr_13 : (r.2.mem ((c : Thread nD τ).loc main_v8_0) : Vec Ideal (M2 16384 1280) .f32) = ofRows ((wts m c).fY (arrO m c) (arrX m c)) := by
  obtain ⟨after, hL, hA⟩ := h.exists_exact c
  refine (hA 13).trans (Dat.arrAt_eq_of_covers ((rdat m c).withAfter after) 13 _ (by decide +kernel) fun t hf y => ?_)
  have hl : BlockOf t.val ((wts m c).fY (arrO m c) (arrX m c)) (after 13 t) :=
    (dats (F := Ideal) m 0 c).toRRel_leaves (fgt := forgets0) (Rl := rel m c) (w := 13) rfl (hL 13 t hf)
  have hy0 : (y 0).val < 256 := (y 0).isLt
  have hy1 : (y 1).val < 1280 := (y 1).isLt
  refine (congrArg (after 13 t) (eq_ix2 (n0 := 256) (n1 := 1280) _)).trans ((hl (pt_lt t) _ _).trans ?_)
  refine congrArg₂ ((wts m c).fY (arrO m c) (arrX m c)) (Fin.ext ?_) (Fin.ext ?_)
  · show t.val * 256 + (y 0).val = win0_13.index t 0 * 256 + 1 * (y 0).val
    rw [(idx_13 t).1]; omega
  · show (y 1).val = win0_13.index t 1 * 1280 + 1 * (y 1).val
    rw [(idx_13 t).2]; omega

theorem idx_14 (t : Fin cfg0.N) : win0_14.index t 0 = t.val ∧ win0_14.index t 1 = 0 := by
  revert t
  decide +kernel

include h in
theorem arr_14 : (r.2.mem ((c : Thread nD τ).loc main_v8_1) : Vec Ideal (M2 16384 1280) .i8) = ofRows (Wt.fA (arrO m c)) := by
  obtain ⟨after, hL, hA⟩ := h.exists_exact c
  refine (hA 14).trans (Dat.arrAt_eq_of_covers ((rdat m c).withAfter after) 14 _ (by decide +kernel) fun t hf y => ?_)
  have hl : BlockOf t.val (Wt.fA (arrO m c)) (after 14 t) :=
    (dats (F := Ideal) m 0 c).toRRel_leaves (fgt := forgets0) (Rl := rel m c) (w := 14) rfl (hL 14 t hf)
  have hy0 : (y 0).val < 256 := (y 0).isLt
  have hy1 : (y 1).val < 1280 := (y 1).isLt
  refine (congrArg (after 14 t) (eq_ix2 (n0 := 256) (n1 := 1280) _)).trans ((hl (pt_lt t) _ _).trans ?_)
  refine congrArg₂ (Wt.fA (arrO m c)) (Fin.ext ?_) (Fin.ext ?_)
  · show t.val * 256 + (y 0).val = win0_14.index t 0 * 256 + 1 * (y 0).val
    rw [(idx_14 t).1]; omega
  · show (y 1).val = win0_14.index t 1 * 1280 + 1 * (y 1).val
    rw [(idx_14 t).2]; omega

include h in
theorem arr_15 : (r.2.mem ((c : Thread nD τ).loc main_v8_2) : Vec Ideal (M2 4 4096) .f32) = fun y => (Wt.fAS (arrO m c)) (flat y) := by
  obtain ⟨after, hL, hA⟩ := h.exists_exact c
  refine (hA 15).trans (Dat.arrAt_eq_of_covers ((rdat m c).withAfter after) 15 _ (by decide +kernel) fun t hf y => ?_)
  have hl : PackedTo t.val (Wt.fAS (arrO m c)) (after 15 t) :=
    (dats (F := Ideal) m 0 c).toRRel_leaves (fgt := forgets0) (Rl := rel m c) (w := 15) rfl (hL 15 t hf)
  have ht := (flush0_15 t).1 hf
  have ht' := pt_lt t
  have hy0 : (y 0).val < 4 := (y 0).isLt
  have hy1 : (y 1).val < 4096 := (y 1).isLt
  refine (congrArg (after 15 t) (eq_ix2 (n0 := 4) (n1 := 4096) _)).trans ((hl _ ?_).trans (congrArg (Wt.fAS (arrO m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

theorem idx_16 (t : Fin cfg0.N) : win0_16.index t 0 = t.val ∧ win0_16.index t 1 = 0 := by
  revert t
  decide +kernel

include h in
theorem arr_16 : (r.2.mem ((c : Thread nD τ).loc main_v8_3) : Vec Ideal (M2 16384 1280) .i8) = ofRows ((wts m c).fL (arrO m c) (arrX m c)) := by
  obtain ⟨after, hL, hA⟩ := h.exists_exact c
  refine (hA 16).trans (Dat.arrAt_eq_of_covers ((rdat m c).withAfter after) 16 _ (by decide +kernel) fun t hf y => ?_)
  have hl : BlockOf t.val ((wts m c).fL (arrO m c) (arrX m c)) (after 16 t) :=
    (dats (F := Ideal) m 0 c).toRRel_leaves (fgt := forgets0) (Rl := rel m c) (w := 16) rfl (hL 16 t hf)
  have hy0 : (y 0).val < 256 := (y 0).isLt
  have hy1 : (y 1).val < 1280 := (y 1).isLt
  refine (congrArg (after 16 t) (eq_ix2 (n0 := 256) (n1 := 1280) _)).trans ((hl (pt_lt t) _ _).trans ?_)
  refine congrArg₂ ((wts m c).fL (arrO m c) (arrX m c)) (Fin.ext ?_) (Fin.ext ?_)
  · show t.val * 256 + (y 0).val = win0_16.index t 0 * 256 + 1 * (y 0).val
    rw [(idx_16 t).1]; omega
  · show (y 1).val = win0_16.index t 1 * 1280 + 1 * (y 1).val
    rw [(idx_16 t).2]; omega

include h in
theorem arr_17 : (r.2.mem ((c : Thread nD τ).loc main_v8_4) : Vec Ideal (M2 4 4096) .f32) = fun y => ((wts m c).fLS (arrO m c) (arrX m c)) (flat y) := by
  obtain ⟨after, hL, hA⟩ := h.exists_exact c
  refine (hA 17).trans (Dat.arrAt_eq_of_covers ((rdat m c).withAfter after) 17 _ (by decide +kernel) fun t hf y => ?_)
  have hl : PackedTo t.val ((wts m c).fLS (arrO m c) (arrX m c)) (after 17 t) :=
    (dats (F := Ideal) m 0 c).toRRel_leaves (fgt := forgets0) (Rl := rel m c) (w := 17) rfl (hL 17 t hf)
  have ht := (flush0_17 t).1 hf
  have ht' := pt_lt t
  have hy0 : (y 0).val < 4 := (y 0).isLt
  have hy1 : (y 1).val < 4096 := (y 1).isLt
  refine (congrArg (after 17 t) (eq_ix2 (n0 := 4) (n1 := 4096) _)).trans ((hl _ ?_).trans (congrArg ((wts m c).fLS (arrO m c) (arrX m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

theorem idx_18 (t : Fin cfg0.N) : win0_18.index t 0 = t.val ∧ win0_18.index t 1 = 0 := by
  revert t
  decide +kernel

include h in
theorem arr_18 : (r.2.mem ((c : Thread nD τ).loc main_v8_5) : Vec Ideal (M2 16384 5120) .i8) = ofRows ((wts m c).fH (arrO m c) (arrX m c)) := by
  obtain ⟨after, hL, hA⟩ := h.exists_exact c
  refine (hA 18).trans (Dat.arrAt_eq_of_covers ((rdat m c).withAfter after) 18 _ (by decide +kernel) fun t hf y => ?_)
  have hl : BlockOf t.val ((wts m c).fH (arrO m c) (arrX m c)) (after 18 t) :=
    (dats (F := Ideal) m 0 c).toRRel_leaves (fgt := forgets0) (Rl := rel m c) (w := 18) rfl (hL 18 t hf)
  have hy0 : (y 0).val < 256 := (y 0).isLt
  have hy1 : (y 1).val < 5120 := (y 1).isLt
  refine (congrArg (after 18 t) (eq_ix2 (n0 := 256) (n1 := 5120) _)).trans ((hl (pt_lt t) _ _).trans ?_)
  refine congrArg₂ ((wts m c).fH (arrO m c) (arrX m c)) (Fin.ext ?_) (Fin.ext ?_)
  · show t.val * 256 + (y 0).val = win0_18.index t 0 * 256 + 1 * (y 0).val
    rw [(idx_18 t).1]; omega
  · show (y 1).val = win0_18.index t 1 * 5120 + 1 * (y 1).val
    rw [(idx_18 t).2]; omega

include h in
theorem arr_19 : (r.2.mem ((c : Thread nD τ).loc main_v8_6) : Vec Ideal (M2 4 4096) .f32) = fun y => ((wts m c).fHS (arrO m c) (arrX m c)) (flat y) := by
  obtain ⟨after, hL, hA⟩ := h.exists_exact c
  refine (hA 19).trans (Dat.arrAt_eq_of_covers ((rdat m c).withAfter after) 19 _ (by decide +kernel) fun t hf y => ?_)
  have hl : PackedTo t.val ((wts m c).fHS (arrO m c) (arrX m c)) (after 19 t) :=
    (dats (F := Ideal) m 0 c).toRRel_leaves (fgt := forgets0) (Rl := rel m c) (w := 19) rfl (hL 19 t hf)
  have ht := (flush0_19 t).1 hf
  have ht' := pt_lt t
  have hy0 : (y 0).val < 4 := (y 0).isLt
  have hy1 : (y 1).val < 4096 := (y 1).isLt
  refine (congrArg (after 19 t) (eq_ix2 (n0 := 4) (n1 := 4096) _)).trans ((hl _ ?_).trans (congrArg ((wts m c).fHS (arrO m c) (arrX m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

end Cert.WinMlpIdeal.Hand

end
-- ==== Proof.MlpRefRow.lean ====
/- The feed-forward layer written over all its rows at once, read row by row at the ideal values, and three facts on
   buffers read and written whole. -/
module

public import proofs.«01_k».proof.Proof.MlpGoal

@[expose] public section

set_option maxRecDepth 16384

noncomputable section

namespace Cert.Rows

open Idealize.ShloMosaic Idealize.ShloMosaic.ValueIdx

theorem emb_whole {a b : ℕ} (inb : ∀ i, (![0, 0] : Fin 2 → ℕ) i + (M2 a b).size i ≤ (M2 a b).size i) (x : (M2 a b).Idx) :
    (Rect.unit (s := M2 a b) ![0, 0] (M2 a b).size inb).emb x = x := by
  funext i
  apply Fin.ext
  match i with
  | ⟨0, _⟩ => show 0 + 1 * (x 0).val = (x 0).val; omega
  | ⟨1, _⟩ => show 0 + 1 * (x 1).val = (x 1).val; omega

theorem ld_whole {a b : ℕ} {e : EltTy} (inb : ∀ i, (![0, 0] : Fin 2 → ℕ) i + (M2 a b).size i ≤ (M2 a b).size i) (X : Vec Ideal (M2 a b) e) :
    View.ld (Val := Elt Ideal) X (Rect.unit (s := M2 a b) ![0, 0] (M2 a b).size inb) = X :=
  funext fun x => congrArg X (emb_whole inb x)

theorem canon_whole {a b : ℕ} {e : EltTy} (inb : ∀ i, (![0, 0] : Fin 2 → ℕ) i + (M2 a b).size i ≤ (M2 a b).size i) (p : Vec Ideal (M2 a b) e) :
    View.canon (Val := Elt Ideal) [⟨Rect.unit (s := M2 a b) ![0, 0] (M2 a b).size inb, p⟩] = p := by
  refine canon_of _ _ ?_ fun y => ⟨_, List.mem_singleton_self _, ?_⟩
  · intro q hq x
    obtain rfl := List.mem_singleton.1 hq
    exact congrArg p (emb_whole inb x).symm
  · show y ∈ (Rect.unit (s := M2 a b) ![0, 0] (M2 a b).size inb).set
    rw [← Rect.map_emb_univ]
    exact Finset.mem_map.2 ⟨y, Finset.mem_univ _, emb_whole inb y⟩

section

variable {t : ℕ} (W : Wt) (O X : FVec Ideal (M2 t 1280) .f32)

/-- The four arrays of the layer, all rows at once. -/
def allH1 : FVec Ideal (M2 t 1280) .f32 := addf X (lin (sitofp .bf16 (codes O (scale O))) (scale O) W.wp W.wps W.bp)
def allLn : FVec Ideal (M2 t 1280) .f32 := lnorm (allH1 W O X) W.g W.beta
def allHid : FVec Ideal (M2 t 5120) .f32 :=
  geluDiv (F := Ideal) ((Real.sqrt 2 : ℝ) : EReal) (lin (sitofp .bf16 (codes (allLn W O X) (scale (allLn W O X)))) (scale (allLn W O X)) W.w1 W.w1s W.b1)
def allY : FVec Ideal (M2 t 1280) .f32 :=
  addf (allH1 W O X) (lin (sitofp .bf16 (codes (allHid W O X) (scale (allHid W O X)))) (scale (allHid W O X)) W.w2 W.w2s W.b2)

theorem codes_row {n : ℕ} (v : FVec Ideal (M2 t n) .f32) (r : Fin t) : row (codes v (scale v)) r = codeR (row v r) :=
  funext fun k => congrArg (Ideal.fptosi 8) (by rw [qreal_apply, scale_apply]; rfl)

theorem back_row {n : ℕ} (v : FVec Ideal (M2 t n) .f32) (r : Fin t) :
    row (sitofp (F := Ideal) .bf16 (codes v (scale v))) r = qrealR (row v r) :=
  funext fun k => (congrArg (FloatOps.sitofp (F := Ideal) .bf16) (congrFun (codes_row v r) k)).trans (sitofp_fptosi _ _)

theorem allH1_row (r : Fin t) : row (allH1 W O X) r = W.h1 (row O r) (row X r) := funext fun j => by
  unfold Wt.h1
  show addf X (lin _ _ _ _ _) (ix2 r j) = _
  rw [addf_apply, lin_apply, scale_apply, back_row]

theorem allLn_row (r : Fin t) : row (allLn W O X) r = W.ln (row O r) (row X r) := funext fun j => by
  unfold Wt.ln
  show lnorm (allH1 W O X) _ _ (ix2 r j) = _
  rw [lnorm_apply, allH1_row]

theorem allHid_row (r : Fin t) : row (allHid W O X) r = W.hid (row O r) (row X r) := funext fun j => by
  unfold Wt.hid
  show geluDiv (F := Ideal) _ (lin _ _ _ _ _) (ix2 r j) = _
  rw [geluDiv_apply, lin_apply, scale_apply, back_row, allLn_row]

theorem allY_row (r : Fin t) : row (allY W O X) r = W.y (row O r) (row X r) := funext fun j => by
  unfold Wt.y
  show addf (allH1 W O X) (lin _ _ _ _ _) (ix2 r j) = _
  rw [addf_apply, lin_apply, scale_apply, back_row, allHid_row]
  exact congrArg (· + _) (congrFun (allH1_row W O X r) j)

end

variable (W : Wt) (O X : FVec Ideal (M2 16384 1280) .f32)

theorem ext_rows {α : Type} {a b : ℕ} (v : (M2 a b).Idx → α) (f : Fin a → Fin b → α) (h : ∀ r, row v r = f r) : v = ofRows f :=
  funext fun i => (congrArg v (eq_ix2 i)).trans (congrFun (h (i 0)) (i 1))

theorem allY_eq : allY W O X = ofRows (W.fY O X) := ext_rows _ _ (allY_row W O X)
theorem allA_eq : codes O (scale O) = ofRows (Wt.fA O) := ext_rows _ _ (codes_row O)
theorem allL_eq : codes (allLn W O X) (scale (allLn W O X)) = ofRows (W.fL O X) :=
  ext_rows _ _ fun r => (codes_row _ r).trans (congrArg codeR (allLn_row W O X r))
theorem allH_eq : codes (allHid W O X) (scale (allHid W O X)) = ofRows (W.fH O X) :=
  ext_rows _ _ fun r => (codes_row _ r).trans (congrArg codeR (allHid_row W O X r))

/-- A column laid out as the packed array. -/
theorem pack_apply (v : FVec Ideal (M2 16384 1) .f32) (h : (M2 16384 1).ShapeCasts (M2 4 4096)) (y : (M2 4 4096).Idx) :
    shapeCast (M2 4 4096) v h y = v (ix2 (flat y) 0) := by
  refine shapeCast_apply v h _ _ ?_
  rw [Shape.rowMajor_val_two, Shape.rowMajor_val_two]
  show (flat y).val * 1 + 0 = (y 0).val * 4096 + (y 1).val
  rw [Nat.mul_one, Nat.add_zero]
  rfl

theorem allAS_eq (h) : shapeCast (M2 4 4096) (scale O) h = fun y => Wt.fAS O (flat y) :=
  funext fun y => (pack_apply _ h y).trans (scale_apply O _ _)
theorem allLS_eq (h) : shapeCast (M2 4 4096) (scale (allLn W O X)) h = fun y => W.fLS O X (flat y) :=
  funext fun y => (pack_apply _ h y).trans ((scale_apply _ _ _).trans (congrArg scaleR (allLn_row W O X _)))
theorem allHS_eq (h) : shapeCast (M2 4 4096) (scale (allHid W O X)) h = fun y => W.fHS O X (flat y) :=
  funext fun y => (pack_apply _ h y).trans ((scale_apply _ _ _).trans (congrArg scaleR (allHid_row W O X _)))

end Cert.Rows

end
-- ==== Proof.WinMlpRefVal.lean ====
/- What the feed-forward reference's result arrays hold when it ends: the row functions at every row. -/
module

public import proofs.«01_k».proof.Proof.Gen.WinMlpRefIdeal.Frame
public import proofs.«01_k».proof.Proof.MlpRefRow
public import Idealize.ShloMosaic.Lib.Pipeline.ArrRel

@[expose] public section

set_option maxRecDepth 16384

noncomputable section

namespace Cert.WinMlpRefIdeal.Hand

open Cert.WinMlpRefIdeal Cert.WinMlpRefIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

section Payloads

variable {F : FTy → Type} [FloatOps F] [Named F]

theorem pay5_eq (x : Vec F S16384x1280 .f32) : k0_pay5 x = scale x := rfl
theorem pay6_eq (x : Vec F S16384x1280 .f32) : k0_pay6 x = codes x (scale x) := rfl
theorem pay7_eq (x1 : Vec F S16384x1280 .bf16) (x0 : Vec F S16384x1280 .f32) (w : Vec F S1280x1280 .i8) (s b : Vec F S1x1280 .f32) :
    k0_pay7 x1 x0 w s b = addf (extf .f32 x1 bitsLt_bf16_f32) (lin (sitofp .bf16 (codes x0 (scale x0))) (scale x0) w s b) := rfl
theorem pay10_eq (h : FVec F S16384x1280 .f32) (g b : Vec F S1x1280 .f32) : k0_pay10 h (k0_pay8 g) b = scale (lnorm h g b) := rfl
theorem pay11_eq (h : FVec F S16384x1280 .f32) (g b : Vec F S1x1280 .f32) :
    k0_pay11 h (k0_pay8 g) b = codes (lnorm h g b) (scale (lnorm h g b)) := rfl
theorem pay14_eq (s : FVec F S16384x1 .f32) (q : IVec S16384x1280 8) (w : Vec F S1280x5120 .i8) (ws b : Vec F S1x5120 .f32) :
    k0_pay14 s q w (k0_pay12 ws) b = scale (geluDiv (Named.named κ "sqrt_2" 0x3FB504F3#32) (lin (sitofp .bf16 q) s w ws b)) := rfl
theorem pay15_eq (s : FVec F S16384x1 .f32) (q : IVec S16384x1280 8) (w : Vec F S1280x5120 .i8) (ws b : Vec F S1x5120 .f32) :
    k0_pay15 s q w (k0_pay12 ws) b = codes (geluDiv (Named.named κ "sqrt_2" 0x3FB504F3#32) (lin (sitofp .bf16 q) s w ws b))
      (scale (geluDiv (Named.named κ "sqrt_2" 0x3FB504F3#32) (lin (sitofp .bf16 q) s w ws b))) := rfl
theorem pay1_eq (h : FVec F S16384x1280 .f32) (s : FVec F S16384x1 .f32) (q : IVec S16384x5120 8) (w : Vec F S5120x1280 .i8)
    (ws b : Vec F S1x1280 .f32) : k0_pay1 h s q w (k0_pay16 ws) (k0_pay17 b) = addf h (lin (sitofp .bf16 q) s w ws b) := rfl

end Payloads

theorem root : (Named.named κ "sqrt_2" 0x3FB504F3#32 : Ideal .f32) = ((Real.sqrt 2 : ℝ) : EReal) :=
  IdealRules.named_const.ideal_named_scalar _ _ _ _ rfl

section Outs

variable (x0 : Vec Ideal S16384x1280 .f32) (x1 : Vec Ideal S16384x1280 .bf16) (x2 : Vec Ideal S1280x1280 .i8) (x3 : Vec Ideal S1x1280 .f32) (x4 : Vec Ideal S1x1280 .f32) (x5 : Vec Ideal S1x1280 .f32) (x6 : Vec Ideal S1x1280 .f32) (x7 : Vec Ideal S1280x5120 .i8) (x8 : Vec Ideal S1x5120 .f32) (x9 : Vec Ideal S1x5120 .f32) (x10 : Vec Ideal S5120x1280 .i8) (x11 : Vec Ideal S1x1280 .f32) (x12 : Vec Ideal S1x1280 .f32)

theorem out18 : k0_pay18 x0 x1 x2 x3 x4 x5 x6 x7 x8 x9 x10 x11 x12 = allH1 ⟨x2, x3, x4, x5, x6, x7, x8, x9, x10, x11, x12⟩ x0 x1 := by
  unfold k0_pay18
  rw [ld_whole, ld_whole, ld_whole, ld_whole, ld_whole, pay7_eq]
  rfl
theorem out20 : k0_pay20 x0 x1 x2 x3 x4 x5 x6 x7 x8 x9 x10 x11 x12 = scale (allLn ⟨x2, x3, x4, x5, x6, x7, x8, x9, x10, x11, x12⟩ x0 x1) := by
  unfold k0_pay20 k0_pay19
  rw [ld_whole, ld_whole, pay10_eq, out18]
  rfl
theorem out21 : k0_pay21 x0 x1 x2 x3 x4 x5 x6 x7 x8 x9 x10 x11 x12 = codes (allLn ⟨x2, x3, x4, x5, x6, x7, x8, x9, x10, x11, x12⟩ x0 x1) (scale (allLn ⟨x2, x3, x4, x5, x6, x7, x8, x9, x10, x11, x12⟩ x0 x1)) := by
  unfold k0_pay21 k0_pay19
  rw [ld_whole, ld_whole, pay11_eq, out18]
  rfl
theorem out23 : k0_pay23 x0 x1 x2 x3 x4 x5 x6 x7 x8 x9 x10 x11 x12 = scale (allHid ⟨x2, x3, x4, x5, x6, x7, x8, x9, x10, x11, x12⟩ x0 x1) := by
  unfold k0_pay23 k0_pay22
  rw [ld_whole, ld_whole, ld_whole, pay14_eq, out20, out21, root]
  rfl
theorem out24 : k0_pay24 x0 x1 x2 x3 x4 x5 x6 x7 x8 x9 x10 x11 x12 = codes (allHid ⟨x2, x3, x4, x5, x6, x7, x8, x9, x10, x11, x12⟩ x0 x1) (scale (allHid ⟨x2, x3, x4, x5, x6, x7, x8, x9, x10, x11, x12⟩ x0 x1)) := by
  unfold k0_pay24 k0_pay22
  rw [ld_whole, ld_whole, ld_whole, pay15_eq, out20, out21, root]
  rfl

theorem fin_13 : out0_13 x0 x1 x2 x3 x4 x5 x6 x7 x8 x9 x10 x11 x12 = ofRows (Wt.fY ⟨x2, x3, x4, x5, x6, x7, x8, x9, x10, x11, x12⟩ x0 x1) := by
  unfold out0_13
  rw [canon_whole, out18, out23, out24, ld_whole, ld_whole, ld_whole, pay1_eq]
  exact allY_eq _ _ _

theorem fin_14 : out0_14 x0 x1 x2 x3 x4 x5 x6 x7 x8 x9 x10 x11 x12 = ofRows (Wt.fA x0) := by
  unfold out0_14
  rw [canon_whole, ld_whole, pay6_eq]
  exact allA_eq _

theorem fin_15 : out0_15 x0 x1 x2 x3 x4 x5 x6 x7 x8 x9 x10 x11 x12 = fun y => Wt.fAS x0 (flat y) := by
  unfold out0_15
  rw [canon_whole, ld_whole, pay5_eq]
  exact allAS_eq _ _

theorem fin_16 : out0_16 x0 x1 x2 x3 x4 x5 x6 x7 x8 x9 x10 x11 x12 = ofRows (Wt.fL ⟨x2, x3, x4, x5, x6, x7, x8, x9, x10, x11, x12⟩ x0 x1) := by
  unfold out0_16
  rw [canon_whole, out21]
  exact allL_eq _ _ _

theorem fin_17 : out0_17 x0 x1 x2 x3 x4 x5 x6 x7 x8 x9 x10 x11 x12 = fun y => Wt.fLS ⟨x2, x3, x4, x5, x6, x7, x8, x9, x10, x11, x12⟩ x0 x1 (flat y) := by
  unfold out0_17
  rw [canon_whole, out20]
  exact allLS_eq _ _ _ _

theorem fin_18 : out0_18 x0 x1 x2 x3 x4 x5 x6 x7 x8 x9 x10 x11 x12 = ofRows (Wt.fH ⟨x2, x3, x4, x5, x6, x7, x8, x9, x10, x11, x12⟩ x0 x1) := by
  unfold out0_18
  rw [canon_whole, out24]
  exact allH_eq _ _ _

theorem fin_19 : out0_19 x0 x1 x2 x3 x4 x5 x6 x7 x8 x9 x10 x11 x12 = fun y => Wt.fHS ⟨x2, x3, x4, x5, x6, x7, x8, x9, x10, x11, x12⟩ x0 x1 (flat y) := by
  unfold out0_19
  rw [canon_whole, out23]
  exact allHS_eq _ _ _ _

end Outs

/-- The weights as the launch finds them, and the two row arrays. -/
def wts (c : Dev nD) : Wt :=
  ⟨V m c main_arg2, V m c main_v0, V m c main_v1, V m c main_v2, V m c main_v3, V m c main_arg7, V m c main_v4, V m c main_v5, V m c main_arg10, V m c main_v6, V m c main_v7⟩
def arrO (c : Dev nD) : FVec Ideal (M2 16384 1280) .f32 := m ((c : Thread nD τ).loc main_arg0)
def arrX (c : Dev nD) : FVec Ideal (M2 16384 1280) .f32 := m ((c : Thread nD τ).loc main_arg1)

theorem iblk_0 (c : Dev nD) (t : Fin cfg0.N) : (iblk m c 0 t : Vec Ideal S16384x1280 .f32) = V m c main_arg0 := by
  funext j
  unfold iblk
  rw [View.read_apply]
  show V m c main_arg0 _ = V m c main_arg0 j
  congr 1
  funext a
  apply Fin.ext
  match a with
  | ⟨0, _⟩ => show 0 * 16384 + 1 * (j 0).val = (j 0).val; omega
  | ⟨1, _⟩ => show 0 * 1280 + 1 * (j 1).val = (j 1).val; omega

theorem iblk_1 (c : Dev nD) (t : Fin cfg0.N) : (iblk m c 1 t : Vec Ideal S16384x1280 .bf16) = V m c main_arg1 := by
  funext j
  unfold iblk
  rw [View.read_apply]
  show V m c main_arg1 _ = V m c main_arg1 j
  congr 1
  funext a
  apply Fin.ext
  match a with
  | ⟨0, _⟩ => show 0 * 16384 + 1 * (j 0).val = (j 0).val; omega
  | ⟨1, _⟩ => show 0 * 1280 + 1 * (j 1).val = (j 1).val; omega

theorem iblk_2 (c : Dev nD) (t : Fin cfg0.N) : (iblk m c 2 t : Vec Ideal S1280x1280 .i8) = V m c main_arg2 := by
  funext j
  unfold iblk
  rw [View.read_apply]
  show V m c main_arg2 _ = V m c main_arg2 j
  congr 1
  funext a
  apply Fin.ext
  match a with
  | ⟨0, _⟩ => show 0 * 1280 + 1 * (j 0).val = (j 0).val; omega
  | ⟨1, _⟩ => show 0 * 1280 + 1 * (j 1).val = (j 1).val; omega

theorem iblk_3 (c : Dev nD) (t : Fin cfg0.N) : (iblk m c 3 t : Vec Ideal S1x1280 .f32) = V m c main_v0 := by
  funext j
  unfold iblk
  rw [View.read_apply]
  show V m c main_v0 _ = V m c main_v0 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_4 (c : Dev nD) (t : Fin cfg0.N) : (iblk m c 4 t : Vec Ideal S1x1280 .f32) = V m c main_v1 := by
  funext j
  unfold iblk
  rw [View.read_apply]
  show V m c main_v1 _ = V m c main_v1 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_5 (c : Dev nD) (t : Fin cfg0.N) : (iblk m c 5 t : Vec Ideal S1x1280 .f32) = V m c main_v2 := by
  funext j
  unfold iblk
  rw [View.read_apply]
  show V m c main_v2 _ = V m c main_v2 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_6 (c : Dev nD) (t : Fin cfg0.N) : (iblk m c 6 t : Vec Ideal S1x1280 .f32) = V m c main_v3 := by
  funext j
  unfold iblk
  rw [View.read_apply]
  show V m c main_v3 _ = V m c main_v3 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_7 (c : Dev nD) (t : Fin cfg0.N) : (iblk m c 7 t : Vec Ideal S1280x5120 .i8) = V m c main_arg7 := by
  funext j
  unfold iblk
  rw [View.read_apply]
  show V m c main_arg7 _ = V m c main_arg7 j
  congr 1
  funext a
  apply Fin.ext
  match a with
  | ⟨0, _⟩ => show 0 * 1280 + 1 * (j 0).val = (j 0).val; omega
  | ⟨1, _⟩ => show 0 * 5120 + 1 * (j 1).val = (j 1).val; omega

theorem iblk_8 (c : Dev nD) (t : Fin cfg0.N) : (iblk m c 8 t : Vec Ideal S1x5120 .f32) = V m c main_v4 := by
  funext j
  unfold iblk
  rw [View.read_apply]
  show V m c main_v4 _ = V m c main_v4 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_9 (c : Dev nD) (t : Fin cfg0.N) : (iblk m c 9 t : Vec Ideal S1x5120 .f32) = V m c main_v5 := by
  funext j
  unfold iblk
  rw [View.read_apply]
  show V m c main_v5 _ = V m c main_v5 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_10 (c : Dev nD) (t : Fin cfg0.N) : (iblk m c 10 t : Vec Ideal S5120x1280 .i8) = V m c main_arg10 := by
  funext j
  unfold iblk
  rw [View.read_apply]
  show V m c main_arg10 _ = V m c main_arg10 j
  congr 1
  funext a
  apply Fin.ext
  match a with
  | ⟨0, _⟩ => show 0 * 5120 + 1 * (j 0).val = (j 0).val; omega
  | ⟨1, _⟩ => show 0 * 1280 + 1 * (j 1).val = (j 1).val; omega

theorem iblk_11 (c : Dev nD) (t : Fin cfg0.N) : (iblk m c 11 t : Vec Ideal S1x1280 .f32) = V m c main_v6 := by
  funext j
  unfold iblk
  rw [View.read_apply]
  show V m c main_v6 _ = V m c main_v6 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_12 (c : Dev nD) (t : Fin cfg0.N) : (iblk m c 12 t : Vec Ideal S1x1280 .f32) = V m c main_v7 := by
  funext j
  unfold iblk
  rw [View.read_apply]
  show V m c main_v7 _ = V m c main_v7 j
  congr 1
  funext a
  apply Fin.ext
  match a with
  | ⟨0, _⟩ => show 0 * 1 + 1 * (j 0).val = (j 0).val; omega
  | ⟨1, _⟩ => show 0 * 1280 + 1 * (j 1).val = (j 1).val; omega

variable (c : Dev nD) (r : PUnit × MemSt nD τ sig (Elt Ideal)) (h : Pipeline.FramePost cfgs (dats m) 0 (V m) r)

theorem after_13 (t : Fin cfg0.N) : ((dats m 0 c).after 13 t : Vec Ideal (M2 16384 1280) .f32) = ofRows ((wts m c).fY (arrO m c) (arrX m c)) := by
  rw [after0_13]
  refine (fin_13 _ _ _ _ _ _ _ _ _ _ _ _ _).trans ?_
  rw [iblk_0, iblk_1, iblk_2, iblk_3, iblk_4, iblk_5, iblk_6, iblk_7, iblk_8, iblk_9, iblk_10, iblk_11, iblk_12, V_main_arg0, V_main_arg1]
  rfl

include h in
theorem arr_13 : (r.2.mem ((c : Thread nD τ).loc main_v8_0) : Vec Ideal (M2 16384 1280) .f32) = ofRows ((wts m c).fY (arrO m c) (arrX m c)) := by
  refine ((h c).1 13).trans (Dat.arrAt_eq_of_covers (dats m 0 c) 13 _ (by decide +kernel) fun t hf y => ?_)
  refine (congrFun (after_13 m c t) _).trans (congrArg (ofRows ((wts m c).fY (arrO m c) (arrX m c))) ?_)
  funext a
  apply Fin.ext
  match a with
  | ⟨0, _⟩ => show (y 0).val = 0 * 16384 + 1 * (y 0).val; omega
  | ⟨1, _⟩ => show (y 1).val = 0 * 1280 + 1 * (y 1).val; omega

theorem after_14 (t : Fin cfg0.N) : ((dats m 0 c).after 14 t : Vec Ideal (M2 16384 1280) .i8) = ofRows (Wt.fA (arrO m c)) := by
  rw [after0_14]
  refine (fin_14 _ _ _ _ _ _ _ _ _ _ _ _ _).trans ?_
  rw [iblk_0, V_main_arg0]
  rfl

include h in
theorem arr_14 : (r.2.mem ((c : Thread nD τ).loc main_v8_1) : Vec Ideal (M2 16384 1280) .i8) = ofRows (Wt.fA (arrO m c)) := by
  refine ((h c).1 14).trans (Dat.arrAt_eq_of_covers (dats m 0 c) 14 _ (by decide +kernel) fun t hf y => ?_)
  refine (congrFun (after_14 m c t) _).trans (congrArg (ofRows (Wt.fA (arrO m c))) ?_)
  funext a
  apply Fin.ext
  match a with
  | ⟨0, _⟩ => show (y 0).val = 0 * 16384 + 1 * (y 0).val; omega
  | ⟨1, _⟩ => show (y 1).val = 0 * 1280 + 1 * (y 1).val; omega

theorem after_15 (t : Fin cfg0.N) : ((dats m 0 c).after 15 t : Vec Ideal (M2 4 4096) .f32) = fun y => Wt.fAS (arrO m c) (flat y) := by
  rw [after0_15]
  refine (fin_15 _ _ _ _ _ _ _ _ _ _ _ _ _).trans ?_
  rw [iblk_0, V_main_arg0]
  rfl

include h in
theorem arr_15 : (r.2.mem ((c : Thread nD τ).loc main_v8_2) : Vec Ideal (M2 4 4096) .f32) = fun y => Wt.fAS (arrO m c) (flat y) := by
  refine ((h c).1 15).trans (Dat.arrAt_eq_of_covers (dats m 0 c) 15 _ (by decide +kernel) fun t hf y => ?_)
  refine (congrFun (after_15 m c t) _).trans (congrArg (fun y => Wt.fAS (arrO m c) (flat y)) ?_)
  funext a
  apply Fin.ext
  match a with
  | ⟨0, _⟩ => show (y 0).val = 0 * 4 + 1 * (y 0).val; omega
  | ⟨1, _⟩ => show (y 1).val = 0 * 4096 + 1 * (y 1).val; omega

theorem after_16 (t : Fin cfg0.N) : ((dats m 0 c).after 16 t : Vec Ideal (M2 16384 1280) .i8) = ofRows ((wts m c).fL (arrO m c) (arrX m c)) := by
  rw [after0_16]
  refine (fin_16 _ _ _ _ _ _ _ _ _ _ _ _ _).trans ?_
  rw [iblk_0, iblk_1, iblk_2, iblk_3, iblk_4, iblk_5, iblk_6, iblk_7, iblk_8, iblk_9, iblk_10, iblk_11, iblk_12, V_main_arg0, V_main_arg1]
  rfl

include h in
theorem arr_16 : (r.2.mem ((c : Thread nD τ).loc main_v8_3) : Vec Ideal (M2 16384 1280) .i8) = ofRows ((wts m c).fL (arrO m c) (arrX m c)) := by
  refine ((h c).1 16).trans (Dat.arrAt_eq_of_covers (dats m 0 c) 16 _ (by decide +kernel) fun t hf y => ?_)
  refine (congrFun (after_16 m c t) _).trans (congrArg (ofRows ((wts m c).fL (arrO m c) (arrX m c))) ?_)
  funext a
  apply Fin.ext
  match a with
  | ⟨0, _⟩ => show (y 0).val = 0 * 16384 + 1 * (y 0).val; omega
  | ⟨1, _⟩ => show (y 1).val = 0 * 1280 + 1 * (y 1).val; omega

theorem after_17 (t : Fin cfg0.N) : ((dats m 0 c).after 17 t : Vec Ideal (M2 4 4096) .f32) = fun y => (wts m c).fLS (arrO m c) (arrX m c) (flat y) := by
  rw [after0_17]
  refine (fin_17 _ _ _ _ _ _ _ _ _ _ _ _ _).trans ?_
  rw [iblk_0, iblk_1, iblk_2, iblk_3, iblk_4, iblk_5, iblk_6, iblk_7, iblk_8, iblk_9, iblk_10, iblk_11, iblk_12, V_main_arg0, V_main_arg1]
  rfl

include h in
theorem arr_17 : (r.2.mem ((c : Thread nD τ).loc main_v8_4) : Vec Ideal (M2 4 4096) .f32) = fun y => (wts m c).fLS (arrO m c) (arrX m c) (flat y) := by
  refine ((h c).1 17).trans (Dat.arrAt_eq_of_covers (dats m 0 c) 17 _ (by decide +kernel) fun t hf y => ?_)
  refine (congrFun (after_17 m c t) _).trans (congrArg (fun y => (wts m c).fLS (arrO m c) (arrX m c) (flat y)) ?_)
  funext a
  apply Fin.ext
  match a with
  | ⟨0, _⟩ => show (y 0).val = 0 * 4 + 1 * (y 0).val; omega
  | ⟨1, _⟩ => show (y 1).val = 0 * 4096 + 1 * (y 1).val; omega

theorem after_18 (t : Fin cfg0.N) : ((dats m 0 c).after 18 t : Vec Ideal (M2 16384 5120) .i8) = ofRows ((wts m c).fH (arrO m c) (arrX m c)) := by
  rw [after0_18]
  refine (fin_18 _ _ _ _ _ _ _ _ _ _ _ _ _).trans ?_
  rw [iblk_0, iblk_1, iblk_2, iblk_3, iblk_4, iblk_5, iblk_6, iblk_7, iblk_8, iblk_9, iblk_10, iblk_11, iblk_12, V_main_arg0, V_main_arg1]
  rfl

include h in
theorem arr_18 : (r.2.mem ((c : Thread nD τ).loc main_v8_5) : Vec Ideal (M2 16384 5120) .i8) = ofRows ((wts m c).fH (arrO m c) (arrX m c)) := by
  refine ((h c).1 18).trans (Dat.arrAt_eq_of_covers (dats m 0 c) 18 _ (by decide +kernel) fun t hf y => ?_)
  refine (congrFun (after_18 m c t) _).trans (congrArg (ofRows ((wts m c).fH (arrO m c) (arrX m c))) ?_)
  funext a
  apply Fin.ext
  match a with
  | ⟨0, _⟩ => show (y 0).val = 0 * 16384 + 1 * (y 0).val; omega
  | ⟨1, _⟩ => show (y 1).val = 0 * 5120 + 1 * (y 1).val; omega

theorem after_19 (t : Fin cfg0.N) : ((dats m 0 c).after 19 t : Vec Ideal (M2 4 4096) .f32) = fun y => (wts m c).fHS (arrO m c) (arrX m c) (flat y) := by
  rw [after0_19]
  refine (fin_19 _ _ _ _ _ _ _ _ _ _ _ _ _).trans ?_
  rw [iblk_0, iblk_1, iblk_2, iblk_3, iblk_4, iblk_5, iblk_6, iblk_7, iblk_8, iblk_9, iblk_10, iblk_11, iblk_12, V_main_arg0, V_main_arg1]
  rfl

include h in
theorem arr_19 : (r.2.mem ((c : Thread nD τ).loc main_v8_6) : Vec Ideal (M2 4 4096) .f32) = fun y => (wts m c).fHS (arrO m c) (arrX m c) (flat y) := by
  refine ((h c).1 19).trans (Dat.arrAt_eq_of_covers (dats m 0 c) 19 _ (by decide +kernel) fun t hf y => ?_)
  refine (congrFun (after_19 m c t) _).trans (congrArg (fun y => (wts m c).fHS (arrO m c) (arrX m c) (flat y)) ?_)
  funext a
  apply Fin.ext
  match a with
  | ⟨0, _⟩ => show (y 0).val = 0 * 4 + 1 * (y 0).val; omega
  | ⟨1, _⟩ => show (y 1).val = 0 * 4096 + 1 * (y 1).val; omega

end Cert.WinMlpRefIdeal.Hand

end
-- ==== Proof.WinMlpAlg.lean ====
/- The feed-forward kernel of the window layer and its reference end with equal results. -/
module

public import proofs.«01_k».proof.Defs
public import proofs.«01_k».proof.Proof.WinMlpIdealArr
public import proofs.«01_k».proof.Proof.WinMlpRefVal

@[expose] public section

set_option maxRecDepth 16384

noncomputable section

namespace Cert.WinMlpAlg

open Cert.Rows
open Idealize.ShloMosaic Idealize.ShloMosaic.TcCoe Idealize.ShloMosaic.Tactic
open Idealize.SL Idealize.SL.Sem
open Idealize.ShloMosaic.Pipeline (Dat RDat Cfg Window cellOf)

variable (m : (ℓ : Loc Cert.WinMlpIdeal.nD Cert.WinMlpIdeal.τ Cert.WinMlpIdeal.sig) → Buf (Elt Ideal) ℓ)
  (m' : (ℓ : Loc Cert.WinMlpRefIdeal.nD Cert.WinMlpRefIdeal.τ Cert.WinMlpRefIdeal.sig) → Buf (Elt Ideal) ℓ)

/-- The two memories hold the same arguments. -/
abbrev Agree (c : Dev Cert.WinMlpIdeal.nD) : Prop :=
  m' ((c.tc : Thread Cert.WinMlpRefIdeal.nD Cert.WinMlpRefIdeal.τ).loc Cert.WinMlpRefIdeal.main_arg0) = m ((c.tc : Thread Cert.WinMlpIdeal.nD Cert.WinMlpIdeal.τ).loc Cert.WinMlpIdeal.main_arg0)
  ∧ m' ((c.tc : Thread Cert.WinMlpRefIdeal.nD Cert.WinMlpRefIdeal.τ).loc Cert.WinMlpRefIdeal.main_arg1) = m ((c.tc : Thread Cert.WinMlpIdeal.nD Cert.WinMlpIdeal.τ).loc Cert.WinMlpIdeal.main_arg1)
  ∧ m' ((c.tc : Thread Cert.WinMlpRefIdeal.nD Cert.WinMlpRefIdeal.τ).loc Cert.WinMlpRefIdeal.main_arg2) = m ((c.tc : Thread Cert.WinMlpIdeal.nD Cert.WinMlpIdeal.τ).loc Cert.WinMlpIdeal.main_arg2)
  ∧ m' ((c.tc : Thread Cert.WinMlpRefIdeal.nD Cert.WinMlpRefIdeal.τ).loc Cert.WinMlpRefIdeal.main_arg3) = m ((c.tc : Thread Cert.WinMlpIdeal.nD Cert.WinMlpIdeal.τ).loc Cert.WinMlpIdeal.main_arg3)
  ∧ m' ((c.tc : Thread Cert.WinMlpRefIdeal.nD Cert.WinMlpRefIdeal.τ).loc Cert.WinMlpRefIdeal.main_arg4) = m ((c.tc : Thread Cert.WinMlpIdeal.nD Cert.WinMlpIdeal.τ).loc Cert.WinMlpIdeal.main_arg4)
  ∧ m' ((c.tc : Thread Cert.WinMlpRefIdeal.nD Cert.WinMlpRefIdeal.τ).loc Cert.WinMlpRefIdeal.main_arg5) = m ((c.tc : Thread Cert.WinMlpIdeal.nD Cert.WinMlpIdeal.τ).loc Cert.WinMlpIdeal.main_arg5)
  ∧ m' ((c.tc : Thread Cert.WinMlpRefIdeal.nD Cert.WinMlpRefIdeal.τ).loc Cert.WinMlpRefIdeal.main_arg6) = m ((c.tc : Thread Cert.WinMlpIdeal.nD Cert.WinMlpIdeal.τ).loc Cert.WinMlpIdeal.main_arg6)
  ∧ m' ((c.tc : Thread Cert.WinMlpRefIdeal.nD Cert.WinMlpRefIdeal.τ).loc Cert.WinMlpRefIdeal.main_arg7) = m ((c.tc : Thread Cert.WinMlpIdeal.nD Cert.WinMlpIdeal.τ).loc Cert.WinMlpIdeal.main_arg7)
  ∧ m' ((c.tc : Thread Cert.WinMlpRefIdeal.nD Cert.WinMlpRefIdeal.τ).loc Cert.WinMlpRefIdeal.main_arg8) = m ((c.tc : Thread Cert.WinMlpIdeal.nD Cert.WinMlpIdeal.τ).loc Cert.WinMlpIdeal.main_arg8)
  ∧ m' ((c.tc : Thread Cert.WinMlpRefIdeal.nD Cert.WinMlpRefIdeal.τ).loc Cert.WinMlpRefIdeal.main_arg9) = m ((c.tc : Thread Cert.WinMlpIdeal.nD Cert.WinMlpIdeal.τ).loc Cert.WinMlpIdeal.main_arg9)
  ∧ m' ((c.tc : Thread Cert.WinMlpRefIdeal.nD Cert.WinMlpRefIdeal.τ).loc Cert.WinMlpRefIdeal.main_arg10) = m ((c.tc : Thread Cert.WinMlpIdeal.nD Cert.WinMlpIdeal.τ).loc Cert.WinMlpIdeal.main_arg10)
  ∧ m' ((c.tc : Thread Cert.WinMlpRefIdeal.nD Cert.WinMlpRefIdeal.τ).loc Cert.WinMlpRefIdeal.main_arg11) = m ((c.tc : Thread Cert.WinMlpIdeal.nD Cert.WinMlpIdeal.τ).loc Cert.WinMlpIdeal.main_arg11)
  ∧ m' ((c.tc : Thread Cert.WinMlpRefIdeal.nD Cert.WinMlpRefIdeal.τ).loc Cert.WinMlpRefIdeal.main_arg12) = m ((c.tc : Thread Cert.WinMlpIdeal.nD Cert.WinMlpIdeal.τ).loc Cert.WinMlpIdeal.main_arg12)

variable (c : Dev Cert.WinMlpIdeal.nD) (h : Agree m m' c)

include h in
/-- Both programs compute with the same weights. -/
theorem wts_eq : Cert.WinMlpRefIdeal.Hand.wts m' c = Cert.WinMlpIdeal.Hand.wts m c := by
  obtain ⟨h0, h1, h2, h3, h4, h5, h6, h7, h8, h9, h10, h11, h12⟩ := h
  unfold Cert.WinMlpRefIdeal.Hand.wts Cert.WinMlpIdeal.Hand.wts
  entry_read
  refine Wt.ext' ?_ ?_ ?_ ?_ ?_ ?_ ?_ ?_ ?_ ?_ ?_
  · exact h2
  · exact congrArg (shapeCast _) h3
  · exact congrArg (shapeCast _) h4
  · exact congrArg (shapeCast _) h5
  · exact congrArg (shapeCast _) h6
  · exact h7
  · exact congrArg (shapeCast _) h8
  · exact congrArg (shapeCast _) h9
  · exact h10
  · exact congrArg (shapeCast _) h11
  · exact congrArg (shapeCast _) h12

include h in
theorem arrO_eq : Cert.WinMlpRefIdeal.Hand.arrO m' c = Cert.WinMlpIdeal.Hand.arrO m c := h.1

include h in
theorem arrX_eq : Cert.WinMlpRefIdeal.Hand.arrX m' c = Cert.WinMlpIdeal.Hand.arrX m c := h.2.1

end Cert.WinMlpAlg

namespace Cert.WinMlpAlg

open Cert.Rows
open Idealize.ShloMosaic Idealize.ShloMosaic.TcCoe Idealize.ShloMosaic.Tactic
open Idealize.SL Idealize.SL.Sem

/-- From memories with the same arguments the kernel and the reference end with the same results, and with their arguments as
    they were. -/
theorem algebraic : @Cert.algebraic_WinMlpIdeal_WinMlpRefIdeal Cert.WinMlpIdeal.Gen.facts Cert.WinMlpRefIdeal.Gen.facts := by
  intro m g m' g' _ hag
  refine ⟨fun c => ofRows ((Cert.WinMlpIdeal.Hand.wts m c).fY (Cert.WinMlpIdeal.Hand.arrO m c) (Cert.WinMlpIdeal.Hand.arrX m c)), fun c => ofRows (Wt.fA (Cert.WinMlpIdeal.Hand.arrO m c)), fun c => fun y => Wt.fAS (Cert.WinMlpIdeal.Hand.arrO m c) (flat y), fun c => ofRows ((Cert.WinMlpIdeal.Hand.wts m c).fL (Cert.WinMlpIdeal.Hand.arrO m c) (Cert.WinMlpIdeal.Hand.arrX m c)), fun c => fun y => (Cert.WinMlpIdeal.Hand.wts m c).fLS (Cert.WinMlpIdeal.Hand.arrO m c) (Cert.WinMlpIdeal.Hand.arrX m c) (flat y), fun c => ofRows ((Cert.WinMlpIdeal.Hand.wts m c).fH (Cert.WinMlpIdeal.Hand.arrO m c) (Cert.WinMlpIdeal.Hand.arrX m c)), fun c => fun y => (Cert.WinMlpIdeal.Hand.wts m c).fHS (Cert.WinMlpIdeal.Hand.arrO m c) (Cert.WinMlpIdeal.Hand.arrX m c) (flat y), ?_, ?_⟩
  · refine (θ_run _ _ _).mono (fun r h c => ?_) (θ_run_and (Cert.WinMlpIdeal.Hand.run_vals m g)
      (Cert.WinMlpIdeal.Hand.frame_ofR m g (Cert.WinMlpIdeal.Hand.rdat m) (Cert.WinMlpIdeal.Hand.A_eq m) (Cert.WinMlpIdeal.Hand.run_vals m g)))
    exact ⟨(Cert.WinMlpIdeal.Hand.arr_13 m c r h.1),
      (Cert.WinMlpIdeal.Hand.arr_14 m c r h.1),
      (Cert.WinMlpIdeal.Hand.arr_15 m c r h.1),
      (Cert.WinMlpIdeal.Hand.arr_16 m c r h.1),
      (Cert.WinMlpIdeal.Hand.arr_17 m c r h.1),
      (Cert.WinMlpIdeal.Hand.arr_18 m c r h.1),
      (Cert.WinMlpIdeal.Hand.arr_19 m c r h.1), h.2 c⟩
  · refine (θ_run _ _ _).mono (fun r h c => ?_) (θ_run_and (Cert.WinMlpRefIdeal.Gen.run_main m' g') (Cert.WinMlpRefIdeal.Gen.unchanged m' g'))
    exact ⟨(Cert.WinMlpRefIdeal.Hand.arr_13 m' c r h.1).trans (by rw [wts_eq m m' c (hag c), arrO_eq m m' c (hag c), arrX_eq m m' c (hag c)] <;> rfl),
      (Cert.WinMlpRefIdeal.Hand.arr_14 m' c r h.1).trans (by rw [arrO_eq m m' c (hag c)] <;> rfl),
      (Cert.WinMlpRefIdeal.Hand.arr_15 m' c r h.1).trans (by rw [arrO_eq m m' c (hag c)] <;> rfl),
      (Cert.WinMlpRefIdeal.Hand.arr_16 m' c r h.1).trans (by rw [wts_eq m m' c (hag c), arrO_eq m m' c (hag c), arrX_eq m m' c (hag c)] <;> rfl),
      (Cert.WinMlpRefIdeal.Hand.arr_17 m' c r h.1).trans (by rw [wts_eq m m' c (hag c), arrO_eq m m' c (hag c), arrX_eq m m' c (hag c)] <;> rfl),
      (Cert.WinMlpRefIdeal.Hand.arr_18 m' c r h.1).trans (by rw [wts_eq m m' c (hag c), arrO_eq m m' c (hag c), arrX_eq m m' c (hag c)] <;> rfl),
      (Cert.WinMlpRefIdeal.Hand.arr_19 m' c r h.1).trans (by rw [wts_eq m m' c (hag c), arrO_eq m m' c (hag c), arrX_eq m m' c (hag c)] <;> rfl), h.2 c⟩

end Cert.WinMlpAlg

end
-- ==== Proof.GlbMlpIdealRun.lean ====
/- The kernel of `Cert.GlbMlpIdeal` run once on buffers it owns: what it leaves in its outputs, as the run finds it. -/
module

public import proofs.«01_k».proof.Proof.Gen.GlbMlpIdeal.Frame
public import proofs.«01_k».proof.Proof.Gen.GlbMlpIdeal.Skeleton
public import proofs.«01_k».proof.Proof.MlpBlock
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

set_option maxHeartbeats 4000000 in
/-- The body's run: the inputs stay, the outputs hold what the run finds (a scale buffer at this block's place only, the
    rest as found), the scratch something. -/
def found (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F)) :
    Σ' (o13 : List (View.Piece (Elt F) S256x1280 .bf16)) (o14 : List (View.Piece (Elt F) S256x1280 .i8)) (o15 : Vec F S1x256 .f32) (o16 : List (View.Piece (Elt F) S256x1280 .i8)) (o17 : Vec F S1x256 .f32) (o18 : List (View.Piece (Elt F) S256x5120 .i8)), { o19 : Vec F S1x256 .f32 // ∀ (x15 : Vec F S4x4096 .f32) (x17 : Vec F S4x4096 .f32) (x19 : Vec F S4x4096 .f32) (E : Set ℕ) (K : PUnit → sProp 𝕄),
        iprop(owns (c : Thread nD τ) arg1 fullShare (View.read (Elt F) arg1.view g0) ∗ owns (c : Thread nD τ) arg2 fullShare (View.read (Elt F) arg2.view g1) ∗ owns (c : Thread nD τ) arg3 fullShare (View.read (Elt F) arg3.view g2) ∗ owns (c : Thread nD τ) arg4 fullShare (View.read (Elt F) arg4.view g3) ∗ owns (c : Thread nD τ) arg5 fullShare (View.read (Elt F) arg5.view g4) ∗ owns (c : Thread nD τ) arg6 fullShare (View.read (Elt F) arg6.view g5) ∗ owns (c : Thread nD τ) arg7 fullShare (View.read (Elt F) arg7.view g6) ∗ owns (c : Thread nD τ) arg8 fullShare (View.read (Elt F) arg8.view g7) ∗ owns (c : Thread nD τ) arg9 fullShare (View.read (Elt F) arg9.view g8) ∗ owns (c : Thread nD τ) arg10 fullShare (View.read (Elt F) arg10.view g9) ∗ owns (c : Thread nD τ) arg11 fullShare (View.read (Elt F) arg11.view g10) ∗ owns (c : Thread nD τ) arg12 fullShare (View.read (Elt F) arg12.view g11) ∗ owns (c : Thread nD τ) arg13 fullShare (View.read (Elt F) arg13.view g12) ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ owns (c : Thread nD τ) arg20 fullShare x19 ∗ (∃ d, owns (c : Thread nD τ) arg21 fullShare d) ∗ (∃ d, owns (c : Thread nD τ) arg22 fullShare d) ∗ (iprop(owns (c : Thread nD τ) arg1 fullShare (View.read (Elt F) arg1.view g0) ∗ owns (c : Thread nD τ) arg2 fullShare (View.read (Elt F) arg2.view g1) ∗ owns (c : Thread nD τ) arg3 fullShare (View.read (Elt F) arg3.view g2) ∗ owns (c : Thread nD τ) arg4 fullShare (View.read (Elt F) arg4.view g3) ∗ owns (c : Thread nD τ) arg5 fullShare (View.read (Elt F) arg5.view g4) ∗ owns (c : Thread nD τ) arg6 fullShare (View.read (Elt F) arg6.view g5) ∗ owns (c : Thread nD τ) arg7 fullShare (View.read (Elt F) arg7.view g6) ∗ owns (c : Thread nD τ) arg8 fullShare (View.read (Elt F) arg8.view g7) ∗ owns (c : Thread nD τ) arg9 fullShare (View.read (Elt F) arg9.view g8) ∗ owns (c : Thread nD τ) arg10 fullShare (View.read (Elt F) arg10.view g9) ∗ owns (c : Thread nD τ) arg11 fullShare (View.read (Elt F) arg11.view g10) ∗ owns (c : Thread nD τ) arg12 fullShare (View.read (Elt F) arg12.view g11) ∗ owns (c : Thread nD τ) arg13 fullShare (View.read (Elt F) arg13.view g12) ∗ (∃ f, arg14.view.loc (c : Thread nD τ) ↦[arg14.view.set]{fullShare} arg14.view.writes (Elt F) f o13) ∗ (∃ f, arg15.view.loc (c : Thread nD τ) ↦[arg15.view.set]{fullShare} arg15.view.writes (Elt F) f o14) ∗ (∃ f, ⌜View.read (Elt F) arg16.view f = x15⌝ ∗ arg16.view.loc (c : Thread nD τ) ↦[arg16.view.set]{fullShare} arg16.view.writes (Elt F) f [⟨(Rect.unit (s := S4x4096) (k0_off1 i) S1x256.size (k0_off1_inb i)), o15⟩]) ∗ (∃ f, arg17.view.loc (c : Thread nD τ) ↦[arg17.view.set]{fullShare} arg17.view.writes (Elt F) f o16) ∗ (∃ f, ⌜View.read (Elt F) arg18.view f = x17⌝ ∗ arg18.view.loc (c : Thread nD τ) ↦[arg18.view.set]{fullShare} arg18.view.writes (Elt F) f [⟨(Rect.unit (s := S4x4096) (k0_off1 i) S1x256.size (k0_off1_inb i)), o17⟩]) ∗ (∃ f, arg19.view.loc (c : Thread nD τ) ↦[arg19.view.set]{fullShare} arg19.view.writes (Elt F) f o18) ∗ (∃ f, ⌜View.read (Elt F) arg20.view f = x19⌝ ∗ arg20.view.loc (c : Thread nD τ) ↦[arg20.view.set]{fullShare} arg20.view.writes (Elt F) f [⟨(Rect.unit (s := S4x4096) (k0_off1 i) S1x256.size (k0_off1_inb i)), o19⟩]) ∗ (∃ d, owns (c : Thread nD τ) arg21 fullShare d) ∗ (∃ d, owns (c : Thread nD τ) arg22 fullShare d)) -∗ K ⟨⟩))
          ⊢ wp frame (wpE (defs₀ (F := F)) Variants.none c none) E (cc0_glb_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
    refine ⟨?_, ?_, ?_, ?_, ?_, ?_, ?_, fun x15 x17 x19 E K => ?run⟩
    case run =>
      simp only [cc0_glb_mlp_eq_skeleton]; unfold cc0_glb_mlp_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%d21, %f21, -, H21⟩, Hk⟩
      obtain rfl : g0 = f0 := (harg1.eq_unread rfl).trans (harg1.eq_unread hf0).symm
      obtain rfl : g1 = f1 := (harg2.eq_unread rfl).trans (harg2.eq_unread hf1).symm
      obtain rfl : g2 = f2 := (harg3.eq_unread rfl).trans (harg3.eq_unread hf2).symm
      obtain rfl : g3 = f3 := (harg4.eq_unread rfl).trans (harg4.eq_unread hf3).symm
      obtain rfl : g4 = f4 := (harg5.eq_unread rfl).trans (harg5.eq_unread hf4).symm
      obtain rfl : g5 = f5 := (harg6.eq_unread rfl).trans (harg6.eq_unread hf5).symm
      obtain rfl : g6 = f6 := (harg7.eq_unread rfl).trans (harg7.eq_unread hf6).symm
      obtain rfl : g7 = f7 := (harg8.eq_unread rfl).trans (harg8.eq_unread hf7).symm
      obtain rfl : g8 = f8 := (harg9.eq_unread rfl).trans (harg9.eq_unread hf8).symm
      obtain rfl : g9 = f9 := (harg10.eq_unread rfl).trans (harg10.eq_unread hf9).symm
      obtain rfl : g10 = f10 := (harg11.eq_unread rfl).trans (harg11.eq_unread hf10).symm
      obtain rfl : g11 = f11 := (harg12.eq_unread rfl).trans (harg12.eq_unread hf11).symm
      obtain rfl : g12 = f12 := (harg13.eq_unread rfl).trans (harg13.eq_unread hf12).symm
      subst hf15
      subst hf17
      subst hf19
      sl_exec
      sl_step
      iapply Hk
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H13]
      · iexists _; iexact H13
      isplitl [H14]
      · iexists _; iexact H14
      isplitl [H15]
      · iexists _; isplitr; swap; · iexact H15
        ipureintro; rfl
      isplitl [H16]
      · iexists _; iexact H16
      isplitl [H17]
      · iexists _; isplitr; swap; · iexact H17
        ipureintro; rfl
      isplitl [H18]
      · iexists _; iexact H18
      isplitl [H19]
      · iexists _; isplitr; swap; · iexact H19
        ipureintro; rfl
      isplitl [H20]
      · iexists _, _; isplitr; swap; · iexact H20
        ipureintro; rfl
      iexists _, _; isplitr; swap; · iexact H21
      ipureintro; rfl

end Cert.GlbMlpIdeal.Hand

end
-- ==== Proof.GlbMlpIdealStages.lean ====
/- What the run of `Cert.GlbMlpIdeal` finds, in the words of MlpBlock.lean: stage by stage, each stage's value named once and
   the next one read over it. -/
module

public import proofs.«01_k».proof.Proof.Gen.GlbMlpIdeal.Frame
public import proofs.«01_k».proof.Proof.Gen.GlbMlpIdeal.Skeleton
public import proofs.«01_k».proof.Proof.GlbMlpIdealRun
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

/-- The data of one block, from what the kernel's buffers hold. -/
def blk (x0 : Vec F S1x1280x256 .f32) (x1 : Vec F S256x1280 .f32) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32) : Blk F where
  o := k0_pay2 (View.ld (Val := Elt F) (e' := .f32) x0 (Rect.unit (s := S1x1280x256) ![0, 0, 0] S1x1280x256.size inb_S1x1280x256_S1x1280x256_0_0_0))
  xa := cut x1 0 512 (by norm_num)
  xb := cut x1 512 512 (by norm_num)
  xc := cut x1 1024 256 (by norm_num)
  wp := x2
  wps := x3
  bp := x4
  g := cut x5 0 1280 (by norm_num)
  beta := cut x6 0 1280 (by norm_num)
  w1 := x7
  w1s := x8
  b1 := x9
  w2 := x10
  w2s := x11
  b2 := x12
  k := Named.named κ "inv_sqrt_2" 0x3F3504F3#32

variable (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

/-- The same from the buffers' own contents. -/
abbrev blkOf (arg1 : Memref sig .tc .vmem S1x1280x256 .f32) (arg2 : Memref sig .tc .vmem S256x1280 .f32) (arg3 : Memref sig .tc .vmem S1280x1280 .i8) (arg4 : Memref sig .tc .vmem S1x1280 .f32) (arg5 : Memref sig .tc .vmem S1x1280 .f32) (arg6 : Memref sig .tc .vmem S1x1280 .f32) (arg7 : Memref sig .tc .vmem S1x1280 .f32) (arg8 : Memref sig .tc .vmem S1280x5120 .i8) (arg9 : Memref sig .tc .vmem S1x5120 .f32) (arg10 : Memref sig .tc .vmem S1x5120 .f32) (arg11 : Memref sig .tc .vmem S5120x1280 .i8) (arg12 : Memref sig .tc .vmem S1x1280 .f32) (arg13 : Memref sig .tc .vmem S1x1280 .f32) (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F)) : Blk F :=
  blk (View.read (Elt F) arg1.view g0) (View.read (Elt F) arg2.view g1) (View.read (Elt F) arg3.view g2) (View.read (Elt F) arg4.view g3) (View.read (Elt F) arg5.view g4) (View.read (Elt F) arg6.view g5) (View.read (Elt F) arg7.view g6) (View.read (Elt F) arg8.view g7) (View.read (Elt F) arg9.view g8) (View.read (Elt F) arg10.view g9) (View.read (Elt F) arg11.view g10) (View.read (Elt F) arg12.view g11) (View.read (Elt F) arg13.view g12)

theorem st_s1 : (found.sl.v11 c arg1 g0) = (blkOf arg1 arg2 arg3 arg4 arg5 arg6 arg7 arg8 arg9 arg10 arg11 arg12 arg13 g0 g1 g2 g3 g4 g5 g6 g7 g8 g9 g10 g11 g12).s1 := rfl

theorem st_lhs1 : (found.sl.v73 c arg1 g0) = (blkOf arg1 arg2 arg3 arg4 arg5 arg6 arg7 arg8 arg9 arg10 arg11 arg12 arg13 g0 g1 g2 g3 g4 g5 g6 g7 g8 g9 g10 g11 g12).lhs1 := rfl

theorem st_h1 : (found.sl.H20_3 c arg1 arg2 arg3 arg4 arg5 g0 g1 g2 g3 g4) = (blkOf arg1 arg2 arg3 arg4 arg5 arg6 arg7 arg8 arg9 arg10 arg11 arg12 arg13 g0 g1 g2 g3 g4 g5 g6 g7 g8 g9 g10 g11 g12).H1L := rfl

theorem st_ln : (found.sl.v152 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).ln (Blk.rdV arg21.view) := rfl

theorem st_s2 : (found.sl.v161 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).s2 (Blk.rdV arg21.view) := rfl

theorem st_codes2 : (found.sl.v171 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).codes2 (Blk.rdV arg21.view) := rfl

theorem st_q2 : (found.sl.v170 c arg1 arg2 arg3 arg4 arg5 arg6 arg7 arg21 g0 g1 g2 g3 g4 g5 g6) = qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) := rfl

theorem st_lhs2 : (found.sl.r_4 c arg1 arg2 arg3 arg4 arg5 arg6 arg7 arg21 g0 g1 g2 g3 g4 g5 g6) = (blkOf arg1 arg2 arg3 arg4 arg5 arg6 arg7 arg8 arg9 arg10 arg11 arg12 arg13 g0 g1 g2 g3 g4 g5 g6 g7 g8 g9 g10 g11 g12).lhs2 (Blk.rdV arg21.view) := rfl

end Cert.GlbMlpIdeal.Hand

end
-- ==== Proof.GlbMlpIdealHidden.lean ====
/- What the run of `Cert.GlbMlpIdeal` finds, in the words of MlpBlock.lean: stage by stage, each stage's value named once and
   the next one read over it. -/
module

public import proofs.«01_k».proof.Proof.Gen.GlbMlpIdeal.Frame
public import proofs.«01_k».proof.Proof.Gen.GlbMlpIdeal.Skeleton
public import proofs.«01_k».proof.Proof.GlbMlpIdealStages
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

theorem st_s3 : (found.sl.r_23 c arg1 arg2 arg3 arg4 arg5 arg6 arg7 arg8 arg9 arg10 arg21 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).s3 (Blk.rdV arg21.view) := by
  simp only [found.sl.r_5, found.sl.r_6, found.sl.r_7, found.sl.r_8, found.sl.r_9, found.sl.r_10, found.sl.r_11, found.sl.r_12, found.sl.r_13, found.sl.r_14, found.sl.r_15, found.sl.r_16, found.sl.r_17, found.sl.r_18, found.sl.r_19, found.sl.r_20, found.sl.r_21, found.sl.r_22, found.sl.r_23]
  rw [st_s2 c arg1 arg2 arg3 arg4 arg5 arg6 arg7 arg8 arg9 arg10 arg11 arg12 arg13 arg21 g0 g1 g2 g3 g4 g5 g6 g7 g8 g9 g10 g11 g12, st_lhs2 c arg1 arg2 arg3 arg4 arg5 arg6 arg7 arg8 arg9 arg10 arg11 arg12 arg13 arg21 g0 g1 g2 g3 g4 g5 g6 g7 g8 g9 g10 g11 g12, st_q2 c arg1 arg2 arg3 arg4 arg5 arg6 arg7 arg8 arg9 arg10 arg11 arg12 arg13 arg21 g0 g1 g2 g3 g4 g5 g6 g7 g8 g9 g10 g11 g12]
  unfold Blk.s3 Blk.amax Blk.act Blk.lhs2
  generalize qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) = l
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem st_hid : (found.sl.H21_10 c arg1 arg2 arg3 arg4 arg5 arg6 arg7 arg8 arg9 arg10 arg21 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).HIDL (Blk.rdV arg21.view) := by
  simp only [found.sl.H21_10, found.sl.r_5, found.sl.r_6, found.sl.r_7, found.sl.r_8, found.sl.r_9, found.sl.r_10, found.sl.r_11, found.sl.r_12, found.sl.r_13, found.sl.r_14, found.sl.r_15, found.sl.r_16, found.sl.r_17, found.sl.r_18, found.sl.r_19, found.sl.r_20, found.sl.r_21, found.sl.r_22, found.sl.r_23]
  rw [st_s2 c arg1 arg2 arg3 arg4 arg5 arg6 arg7 arg8 arg9 arg10 arg11 arg12 arg13 arg21 g0 g1 g2 g3 g4 g5 g6 g7 g8 g9 g10 g11 g12, st_lhs2 c arg1 arg2 arg3 arg4 arg5 arg6 arg7 arg8 arg9 arg10 arg11 arg12 arg13 arg21 g0 g1 g2 g3 g4 g5 g6 g7 g8 g9 g10 g11 g12, st_q2 c arg1 arg2 arg3 arg4 arg5 arg6 arg7 arg8 arg9 arg10 arg11 arg12 arg13 arg21 g0 g1 g2 g3 g4 g5 g6 g7 g8 g9 g10 g11 g12]
  unfold Blk.HIDL Blk.actPiece Blk.act Blk.lhs2
  generalize qreal ((blkOf arg1 arg2 arg3 arg4 arg5 arg6 arg7 arg8 arg9 arg10 arg11 arg12 arg13 g0 g1 g2 g3 g4 g5 g6 g7 g8 g9 g10 g11 g12).ln (Blk.rdV arg21.view)) ((blkOf arg1 arg2 arg3 arg4 arg5 arg6 arg7 arg8 arg9 arg10 arg11 arg12 arg13 g0 g1 g2 g3 g4 g5 g6 g7 g8 g9 g10 g11 g12).s2 (Blk.rdV arg21.view)) = l
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem st_codes3 : (found.sl.H18_10 c arg1 arg2 arg3 arg4 arg5 arg6 arg7 arg8 arg9 arg10 arg21 arg22 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).HCL (Blk.rdV arg21.view) (Blk.rdV arg22.view) := by
  simp only [found.sl.H18_10, found.sl.v643, found.sl.v644, found.sl.v645, found.sl.v646, found.sl.v648, found.sl.v649, found.sl.v651, found.sl.v652, found.sl.v653, found.sl.v655, found.sl.v657, found.sl.v658, found.sl.v661, found.sl.v664, found.sl.v665, found.sl.v667, found.sl.v669, found.sl.v670, found.sl.v673, found.sl.v676, found.sl.v677, found.sl.v679, found.sl.v681, found.sl.v682, found.sl.v685, found.sl.v688, found.sl.v689, found.sl.v691, found.sl.v693, found.sl.v694, found.sl.v697, found.sl.v700, found.sl.v701, found.sl.v703, found.sl.v705, found.sl.v706, found.sl.v709, found.sl.v712, found.sl.v713, found.sl.v715, found.sl.v717, found.sl.v718, found.sl.v721, found.sl.v724, found.sl.v725, found.sl.v727, found.sl.v729, found.sl.v730, found.sl.v733, found.sl.v736, found.sl.v737, found.sl.v739, found.sl.v741, found.sl.v742, found.sl.v745, found.sl.v748, found.sl.v749, found.sl.v751, found.sl.v753, found.sl.v754, found.sl.v757, found.sl.v760, found.sl.v761]
  rw [st_s3 c arg1 arg2 arg3 arg4 arg5 arg6 arg7 arg8 arg9 arg10 arg11 arg12 arg13 arg21 g0 g1 g2 g3 g4 g5 g6 g7 g8 g9 g10 g11 g12, st_hid c arg1 arg2 arg3 arg4 arg5 arg6 arg7 arg8 arg9 arg10 arg11 arg12 arg13 arg21 g0 g1 g2 g3 g4 g5 g6 g7 g8 g9 g10 g11 g12]
  unfold Blk.HCL Blk.codePiece
  generalize (blkOf arg1 arg2 arg3 arg4 arg5 arg6 arg7 arg8 arg9 arg10 arg11 arg12 arg13 g0 g1 g2 g3 g4 g5 g6 g7 g8 g9 g10 g11 g12).s3 (Blk.rdV arg21.view) = s
  generalize (blkOf arg1 arg2 arg3 arg4 arg5 arg6 arg7 arg8 arg9 arg10 arg11 arg12 arg13 g0 g1 g2 g3 g4 g5 g6 g7 g8 g9 g10 g11 g12).HIDL (Blk.rdV arg21.view) = l
  rfl

theorem st_lhs3 : (found.sl.v765 c arg1 arg2 arg3 arg4 arg5 arg6 arg7 arg8 arg9 arg10 arg19 arg21 arg22 g0 g1 g2 g3 g4 g5 g6 g7 g8 g9) = (blkOf arg1 arg2 arg3 arg4 arg5 arg6 arg7 arg8 arg9 arg10 arg11 arg12 arg13 g0 g1 g2 g3 g4 g5 g6 g7 g8 g9 g10 g11 g12).lhs3 (Blk.rdV arg21.view) (Blk.rdV arg22.view) (Blk.rdV arg19.view) := by
  simp only [found.sl.v765, found.sl.v764, found.sl.v763]
  rw [st_codes3 c arg1 arg2 arg3 arg4 arg5 arg6 arg7 arg8 arg9 arg10 arg11 arg12 arg13 arg21 arg22 g0 g1 g2 g3 g4 g5 g6 g7 g8 g9 g10 g11 g12]
  rfl
end Cert.GlbMlpIdeal.Hand

end
-- ==== Proof.GlbMlpIdealFinal.lean ====
/- What the run of `Cert.GlbMlpIdeal` finds, in the words of MlpBlock.lean: stage by stage, each stage's value named once and
   the next one read over it. -/
module

public import proofs.«01_k».proof.Proof.Gen.GlbMlpIdeal.Frame
public import proofs.«01_k».proof.Proof.Gen.GlbMlpIdeal.Skeleton
public import proofs.«01_k».proof.Proof.GlbMlpIdealHidden
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole)
  (g0 : arg1.view.ty.Contents (Elt F)) (g1 : arg2.view.ty.Contents (Elt F)) (g2 : arg3.view.ty.Contents (Elt F)) (g3 : arg4.view.ty.Contents (Elt F)) (g4 : arg5.view.ty.Contents (Elt F)) (g5 : arg6.view.ty.Contents (Elt F)) (g6 : arg7.view.ty.Contents (Elt F)) (g7 : arg8.view.ty.Contents (Elt F)) (g8 : arg9.view.ty.Contents (Elt F)) (g9 : arg10.view.ty.Contents (Elt F)) (g10 : arg11.view.ty.Contents (Elt F)) (g11 : arg12.view.ty.Contents (Elt F)) (g12 : arg13.view.ty.Contents (Elt F))

theorem o13_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).1 = (blkOf arg1 arg2 arg3 arg4 arg5 arg6 arg7 arg8 arg9 arg10 arg11 arg12 arg13 g0 g1 g2 g3 g4 g5 g6 g7 g8 g9 g10 g11 g12).YLb (Blk.rdV arg21.view) (Blk.rdV arg22.view) (Blk.rdV arg19.view) := by
  unfold found
  dsimp only
  simp only [found.sl.r_24, found.sl.v643, found.sl.v644, found.sl.v767, found.sl.v768, found.sl.v769, found.sl.v771, found.sl.v773, found.sl.v774, found.sl.v775, found.sl.v777, found.sl.v778, found.sl.v779, found.sl.v780, found.sl.v781, found.sl.v784, found.sl.v785, found.sl.v786, found.sl.v788, found.sl.v803]
  rw [st_s3 c arg1 arg2 arg3 arg4 arg5 arg6 arg7 arg8 arg9 arg10 arg11 arg12 arg13 arg21 g0 g1 g2 g3 g4 g5 g6 g7 g8 g9 g10 g11 g12, st_h1 c arg1 arg2 arg3 arg4 arg5 arg6 arg7 arg8 arg9 arg10 arg11 arg12 arg13 g0 g1 g2 g3 g4 g5 g6 g7 g8 g9 g10 g11 g12, st_lhs3 c arg1 arg2 arg3 arg4 arg5 arg6 arg7 arg8 arg9 arg10 arg11 arg12 arg13 arg19 arg21 arg22 g0 g1 g2 g3 g4 g5 g6 g7 g8 g9 g10 g11 g12]
  unfold Blk.YLb Blk.yc
  generalize (blkOf arg1 arg2 arg3 arg4 arg5 arg6 arg7 arg8 arg9 arg10 arg11 arg12 arg13 g0 g1 g2 g3 g4 g5 g6 g7 g8 g9 g10 g11 g12).s3 (Blk.rdV arg21.view) = s
  generalize (blkOf arg1 arg2 arg3 arg4 arg5 arg6 arg7 arg8 arg9 arg10 arg11 arg12 arg13 g0 g1 g2 g3 g4 g5 g6 g7 g8 g9 g10 g11 g12).H1L = l
  generalize (blkOf arg1 arg2 arg3 arg4 arg5 arg6 arg7 arg8 arg9 arg10 arg11 arg12 arg13 g0 g1 g2 g3 g4 g5 g6 g7 g8 g9 g10 g11 g12).lhs3 (Blk.rdV arg21.view) (Blk.rdV arg22.view) (Blk.rdV arg19.view) = q
  rfl

theorem o14_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.1 = (blkOf arg1 arg2 arg3 arg4 arg5 arg6 arg7 arg8 arg9 arg10 arg11 arg12 arg13 g0 g1 g2 g3 g4 g5 g6 g7 g8 g9 g10 g11 g12).ACL := by
  rfl

theorem o15_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.1 = rowOf256 (blkOf arg1 arg2 arg3 arg4 arg5 arg6 arg7 arg8 arg9 arg10 arg11 arg12 arg13 g0 g1 g2 g3 g4 g5 g6 g7 g8 g9 g10 g11 g12).s1 := by
  rfl

theorem o16_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.1 = (blkOf arg1 arg2 arg3 arg4 arg5 arg6 arg7 arg8 arg9 arg10 arg11 arg12 arg13 g0 g1 g2 g3 g4 g5 g6 g7 g8 g9 g10 g11 g12).LCL (Blk.rdV arg21.view) := by
  rfl

theorem o17_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.1 = rowOf256 ((blkOf arg1 arg2 arg3 arg4 arg5 arg6 arg7 arg8 arg9 arg10 arg11 arg12 arg13 g0 g1 g2 g3 g4 g5 g6 g7 g8 g9 g10 g11 g12).s2 (Blk.rdV arg21.view)) := by
  unfold found
  dsimp only
  rw [st_s2 c arg1 arg2 arg3 arg4 arg5 arg6 arg7 arg8 arg9 arg10 arg11 arg12 arg13 arg21 g0 g1 g2 g3 g4 g5 g6 g7 g8 g9 g10 g11 g12]
  generalize (blkOf arg1 arg2 arg3 arg4 arg5 arg6 arg7 arg8 arg9 arg10 arg11 arg12 arg13 g0 g1 g2 g3 g4 g5 g6 g7 g8 g9 g10 g11 g12).s2 (Blk.rdV arg21.view) = s
  rfl

theorem o19_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.2.1 = rowOf256 ((blkOf arg1 arg2 arg3 arg4 arg5 arg6 arg7 arg8 arg9 arg10 arg11 arg12 arg13 g0 g1 g2 g3 g4 g5 g6 g7 g8 g9 g10 g11 g12).s3 (Blk.rdV arg21.view)) := by
  unfold found
  dsimp only
  simp only [found.sl.v639, found.sl.v625, found.sl.v626, found.sl.v627, found.sl.v629, found.sl.v630, found.sl.v631, found.sl.v632, found.sl.v633, found.sl.v634, found.sl.v636, found.sl.v637, found.sl.v638]
  rw [st_s3 c arg1 arg2 arg3 arg4 arg5 arg6 arg7 arg8 arg9 arg10 arg11 arg12 arg13 arg21 g0 g1 g2 g3 g4 g5 g6 g7 g8 g9 g10 g11 g12]
  generalize (blkOf arg1 arg2 arg3 arg4 arg5 arg6 arg7 arg8 arg9 arg10 arg11 arg12 arg13 g0 g1 g2 g3 g4 g5 g6 g7 g8 g9 g10 g11 g12).s3 (Blk.rdV arg21.view) = s
  rfl

theorem o18_eq : (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.1 = (blkOf arg1 arg2 arg3 arg4 arg5 arg6 arg7 arg8 arg9 arg10 arg11 arg12 arg13 g0 g1 g2 g3 g4 g5 g6 g7 g8 g9 g10 g11 g12).HCL (Blk.rdV arg21.view) (Blk.rdV arg22.view) := by
  unfold found
  dsimp only
  exact st_codes3 c arg1 arg2 arg3 arg4 arg5 arg6 arg7 arg8 arg9 arg10 arg11 arg12 arg13 arg21 arg22 g0 g1 g2 g3 g4 g5 g6 g7 g8 g9 g10 g11 g12

end Cert.GlbMlpIdeal.Hand

end
-- ==== Proof.GlbMlpIdealVRun.lean ====
/- What the run of `Cert.GlbMlpIdeal` finds, in the words of MlpBlock.lean: stage by stage, each stage's value named once and
   the next one read over it. -/
module

public import proofs.«01_k».proof.Proof.Gen.GlbMlpIdeal.Frame
public import proofs.«01_k».proof.Proof.Gen.GlbMlpIdeal.Skeleton
public import proofs.«01_k».proof.Proof.GlbMlpIdealFinal
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.GlbMlpIdeal.Hand

open Cert.GlbMlpIdeal Cert.GlbMlpIdeal.Gen
open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

theorem fin_ov {κ' : Kind} {sp : Space} {s : Shape} {e : EltTy} {v : View sig κ' sp s e} {f : v.ty.Contents (Elt F)}
    {x : s.Idx → Elt F e} {r : Rect s} {w w' : r.shape.Idx → Elt F e} (h : v.read (Elt F) f = x) (hw : w = w') :
    v.read (Elt F) (v.writes (Elt F) f [⟨r, w⟩]) = r.overlay x w' := by
  subst h hw
  exact read_writes_overlay _ _ _ _

theorem fin_rd {κ' : Kind} {sp : Space} {s : Shape} {e : EltTy} {v : View sig κ' sp s e} {f : v.ty.Contents (Elt F)}
    {L L' : List (View.Piece (Elt F) s e)} {z : s.Idx → Elt F e} (h : L = L') (h' : v.read (Elt F) (v.writes (Elt F) f L') = z) :
    v.read (Elt F) (v.writes (Elt F) f L) = z := h ▸ h'

attribute [local irreducible] found

set_option maxHeartbeats 4000000 in
/-- The body's run, each output's contents in the words of MlpBlock.lean. -/
theorem vruns (c : Dev nD) (i : grid0.Coords) (arg1 : Memref sig .tc .vmem S1x1280x256 .f32) (harg1 : arg1.IsWhole) (arg2 : Memref sig .tc .vmem S256x1280 .f32) (harg2 : arg2.IsWhole) (arg3 : Memref sig .tc .vmem S1280x1280 .i8) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x5120 .i8) (harg8 : arg8.IsWhole) (arg9 : Memref sig .tc .vmem S1x5120 .f32) (harg9 : arg9.IsWhole) (arg10 : Memref sig .tc .vmem S1x5120 .f32) (harg10 : arg10.IsWhole) (arg11 : Memref sig .tc .vmem S5120x1280 .i8) (harg11 : arg11.IsWhole) (arg12 : Memref sig .tc .vmem S1x1280 .f32) (harg12 : arg12.IsWhole) (arg13 : Memref sig .tc .vmem S1x1280 .f32) (harg13 : arg13.IsWhole) (arg14 : Memref sig .tc .vmem S256x1280 .bf16) (harg14 : arg14.IsWhole) (arg15 : Memref sig .tc .vmem S256x1280 .i8) (harg15 : arg15.IsWhole) (arg16 : Memref sig .tc .vmem S4x4096 .f32) (harg16 : arg16.IsWhole) (arg17 : Memref sig .tc .vmem S256x1280 .i8) (harg17 : arg17.IsWhole) (arg18 : Memref sig .tc .vmem S4x4096 .f32) (harg18 : arg18.IsWhole) (arg19 : Memref sig .tc .vmem S256x5120 .i8) (harg19 : arg19.IsWhole) (arg20 : Memref sig .tc .vmem S4x4096 .f32) (harg20 : arg20.IsWhole) (arg21 : Memref sig .tc .vmem S256x1280 .f32) (harg21 : arg21.IsWhole) (arg22 : Memref sig .tc .vmem S256x5120 .f32) (harg22 : arg22.IsWhole) (x0 : Vec F S1x1280x256 .f32) (x1 : Vec F S256x1280 .f32) (x2 : Vec F S1280x1280 .i8) (x3 : Vec F S1x1280 .f32) (x4 : Vec F S1x1280 .f32) (x5 : Vec F S1x1280 .f32) (x6 : Vec F S1x1280 .f32) (x7 : Vec F S1280x5120 .i8) (x8 : Vec F S1x5120 .f32) (x9 : Vec F S1x5120 .f32) (x10 : Vec F S5120x1280 .i8) (x11 : Vec F S1x1280 .f32) (x12 : Vec F S1x1280 .f32) (x15 : Vec F S4x4096 .f32) (x17 : Vec F S4x4096 .f32) (x19 : Vec F S4x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ owns (c : Thread nD τ) arg20 fullShare x19 ∗ (∃ d, owns (c : Thread nD τ) arg21 fullShare d) ∗ (∃ d, owns (c : Thread nD τ) arg22 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (View.canon ((blk x0 x1 x2 x3 x4 x5 x6 x7 x8 x9 x10 x11 x12).YLb rdC rdC rdC)) ∗ owns (c : Thread nD τ) arg15 fullShare (View.canon (blk x0 x1 x2 x3 x4 x5 x6 x7 x8 x9 x10 x11 x12).ACL) ∗ owns (c : Thread nD τ) arg16 fullShare ((Rect.unit (s := S4x4096) (k0_off1 i) S1x256.size (k0_off1_inb i)).overlay x15 (rowOf256 (blk x0 x1 x2 x3 x4 x5 x6 x7 x8 x9 x10 x11 x12).s1)) ∗ owns (c : Thread nD τ) arg17 fullShare (View.canon ((blk x0 x1 x2 x3 x4 x5 x6 x7 x8 x9 x10 x11 x12).LCL rdC)) ∗ owns (c : Thread nD τ) arg18 fullShare ((Rect.unit (s := S4x4096) (k0_off1 i) S1x256.size (k0_off1_inb i)).overlay x17 (rowOf256 ((blk x0 x1 x2 x3 x4 x5 x6 x7 x8 x9 x10 x11 x12).s2 rdC))) ∗ owns (c : Thread nD τ) arg19 fullShare (View.canon ((blk x0 x1 x2 x3 x4 x5 x6 x7 x8 x9 x10 x11 x12).HCL rdC rdC)) ∗ owns (c : Thread nD τ) arg20 fullShare ((Rect.unit (s := S4x4096) (k0_off1 i) S1x256.size (k0_off1_inb i)).overlay x19 (rowOf256 ((blk x0 x1 x2 x3 x4 x5 x6 x7 x8 x9 x10 x11 x12).s3 rdC))) ∗ (∃ d, owns (c : Thread nD τ) arg21 fullShare d) ∗ (∃ d, owns (c : Thread nD τ) arg22 fullShare d)) -∗ K ⟨⟩))
          ⊢ wp frame (wpE (defs₀ (F := F)) Variants.none c none) E (cc0_glb_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  obtain ⟨g0, rfl⟩ : ∃ g, View.read (Elt F) arg1.view g = x0 := ⟨_, harg1.read_unread x0⟩
  obtain ⟨g1, rfl⟩ : ∃ g, View.read (Elt F) arg2.view g = x1 := ⟨_, harg2.read_unread x1⟩
  obtain ⟨g2, rfl⟩ : ∃ g, View.read (Elt F) arg3.view g = x2 := ⟨_, harg3.read_unread x2⟩
  obtain ⟨g3, rfl⟩ : ∃ g, View.read (Elt F) arg4.view g = x3 := ⟨_, harg4.read_unread x3⟩
  obtain ⟨g4, rfl⟩ : ∃ g, View.read (Elt F) arg5.view g = x4 := ⟨_, harg5.read_unread x4⟩
  obtain ⟨g5, rfl⟩ : ∃ g, View.read (Elt F) arg6.view g = x5 := ⟨_, harg6.read_unread x5⟩
  obtain ⟨g6, rfl⟩ : ∃ g, View.read (Elt F) arg7.view g = x6 := ⟨_, harg7.read_unread x6⟩
  obtain ⟨g7, rfl⟩ : ∃ g, View.read (Elt F) arg8.view g = x7 := ⟨_, harg8.read_unread x7⟩
  obtain ⟨g8, rfl⟩ : ∃ g, View.read (Elt F) arg9.view g = x8 := ⟨_, harg9.read_unread x8⟩
  obtain ⟨g9, rfl⟩ : ∃ g, View.read (Elt F) arg10.view g = x9 := ⟨_, harg10.read_unread x9⟩
  obtain ⟨g10, rfl⟩ : ∃ g, View.read (Elt F) arg11.view g = x10 := ⟨_, harg11.read_unread x10⟩
  obtain ⟨g11, rfl⟩ : ∃ g, View.read (Elt F) arg12.view g = x11 := ⟨_, harg12.read_unread x11⟩
  obtain ⟨g12, rfl⟩ : ∃ g, View.read (Elt F) arg13.view g = x12 := ⟨_, harg13.read_unread x12⟩
  have hr := (found c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).2.2.2.2.2.2.2 x15 x17 x19 E K
  refine BIBase.Entails.trans ?_ hr
  iintro ⟨H0, H1, H2, H3, H4, H5, H6, H7, H8, H9, H10, H11, H12, H13, H14, H15, H16, H17, H18, H19, H20, H21, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, ⟨%f13, H13⟩, ⟨%f14, H14⟩, ⟨%f15, %h15, H15⟩, ⟨%f16, H16⟩, ⟨%f17, %h17, H17⟩, ⟨%f18, H18⟩, ⟨%f19, %h19, H19⟩, H20, H21⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact fin_rd (o13_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.Yb_read _ _ _ _ _ f13)
  isplitl [H14]
  · unfold owns; iexists _; isplitr; swap; · iexact H14
    ipureintro; exact fin_rd (o14_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.AC_read _ _ f14)
  isplitl [H15]
  · unfold owns; iexists _; isplitr; swap; · iexact H15
    ipureintro; exact fin_ov h15 ((o15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12))
  isplitl [H16]
  · unfold owns; iexists _; isplitr; swap; · iexact H16
    ipureintro; exact fin_rd (o16_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.LC_read _ _ _ f16)
  isplitl [H17]
  · unfold owns; iexists _; isplitr; swap; · iexact H17
    ipureintro; exact fin_ov h17 ((o17_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).trans (congrArg rowOf256 (Blk.s2_read _ _)))
  isplitl [H18]
  · unfold owns; iexists _; isplitr; swap; · iexact H18
    ipureintro; exact fin_rd (o18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12) (Blk.HC_read _ _ _ _ f18)
  isplitl [H19]
  · unfold owns; iexists _; isplitr; swap; · iexact H19
    ipureintro; exact fin_ov h19 ((o19_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 g0 g1 g2 g3 g4 g5 g6 g7 g8 g9 g10 g11 g12).trans (congrArg rowOf256 (Blk.s3_read _ _)))
  isplitl [H20]; · iexact H20
  iexact H21

end Cert.GlbMlpIdeal.Hand

end
-- ==== Proof.GlbMlpIdealBlk.lean ====
/- What the windows of the feed-forward kernel hold at a point: rows of the two row arrays, and the weights whole. -/
module

public import proofs.«01_k».proof.Proof.GlbMlpIdealVRun
public import proofs.«01_k».proof.Proof.GlbMlpIdealForget
public import proofs.«01_k».proof.Proof.MlpRow
public import Idealize.ShloMosaic.Lib.Pipeline.DatRel
public import Idealize.ShloMosaic.Lib.Pipeline.ArrRel

@[expose] public section

set_option maxRecDepth 16384

noncomputable section

namespace Cert.GlbMlpIdeal.Hand

open Cert.GlbMlpIdeal Cert.GlbMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The weights as the launch finds them, and the two row arrays; the first lies in memory as four transposed
    matrices. -/
def wts (c : Dev nD) : Wt :=
  ⟨V m c main_arg2, V m c main_v0, V m c main_v1, V m c main_v2, V m c main_v3, V m c main_arg7, V m c main_v4, V m c main_v5, V m c main_arg10, V m c main_v6, V m c main_v7⟩
def arrO (c : Dev nD) : FVec Ideal (M2 16384 1280) .f32 := fun i =>
  (m ((c : Thread nD τ).loc main_arg0) : Vec Ideal S4x1280x4096 .f32)
    (ix3 ⟨(i 0).val / 4096, by have : (i 0).val < 16384 := (i 0).isLt; omega⟩ (i 1) ⟨(i 0).val % 4096, by omega⟩)
def arrX (c : Dev nD) : FVec Ideal (M2 16384 1280) .f32 := m ((c : Thread nD τ).loc main_arg1)

theorem pt_lt (t : Fin cfg0.N) : t.val < 64 := t.isLt

theorem iblk_2 (c : Dev nD) (t : Fin cfg0.N) : (iblk m c 2 t : Vec Ideal S1280x1280 .i8) = V m c main_arg2 := by
  funext j
  unfold iblk
  rw [View.read_apply]
  show V m c main_arg2 _ = V m c main_arg2 j
  congr 1
  funext a
  apply Fin.ext
  match a with
  | ⟨0, _⟩ => show 0 * 1280 + 1 * (j 0).val = (j 0).val; omega
  | ⟨1, _⟩ => show 0 * 1280 + 1 * (j 1).val = (j 1).val; omega

theorem iblk_3 (c : Dev nD) (t : Fin cfg0.N) : (iblk m c 3 t : Vec Ideal S1x1280 .f32) = V m c main_v0 := by
  funext j
  unfold iblk
  rw [View.read_apply]
  show V m c main_v0 _ = V m c main_v0 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_4 (c : Dev nD) (t : Fin cfg0.N) : (iblk m c 4 t : Vec Ideal S1x1280 .f32) = V m c main_v1 := by
  funext j
  unfold iblk
  rw [View.read_apply]
  show V m c main_v1 _ = V m c main_v1 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_5 (c : Dev nD) (t : Fin cfg0.N) : (iblk m c 5 t : Vec Ideal S1x1280 .f32) = V m c main_v2 := by
  funext j
  unfold iblk
  rw [View.read_apply]
  show V m c main_v2 _ = V m c main_v2 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_6 (c : Dev nD) (t : Fin cfg0.N) : (iblk m c 6 t : Vec Ideal S1x1280 .f32) = V m c main_v3 := by
  funext j
  unfold iblk
  rw [View.read_apply]
  show V m c main_v3 _ = V m c main_v3 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_7 (c : Dev nD) (t : Fin cfg0.N) : (iblk m c 7 t : Vec Ideal S1280x5120 .i8) = V m c main_arg7 := by
  funext j
  unfold iblk
  rw [View.read_apply]
  show V m c main_arg7 _ = V m c main_arg7 j
  congr 1
  funext a
  apply Fin.ext
  match a with
  | ⟨0, _⟩ => show 0 * 1280 + 1 * (j 0).val = (j 0).val; omega
  | ⟨1, _⟩ => show 0 * 5120 + 1 * (j 1).val = (j 1).val; omega

theorem iblk_8 (c : Dev nD) (t : Fin cfg0.N) : (iblk m c 8 t : Vec Ideal S1x5120 .f32) = V m c main_v4 := by
  funext j
  unfold iblk
  rw [View.read_apply]
  show V m c main_v4 _ = V m c main_v4 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_9 (c : Dev nD) (t : Fin cfg0.N) : (iblk m c 9 t : Vec Ideal S1x5120 .f32) = V m c main_v5 := by
  funext j
  unfold iblk
  rw [View.read_apply]
  show V m c main_v5 _ = V m c main_v5 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_10 (c : Dev nD) (t : Fin cfg0.N) : (iblk m c 10 t : Vec Ideal S5120x1280 .i8) = V m c main_arg10 := by
  funext j
  unfold iblk
  rw [View.read_apply]
  show V m c main_arg10 _ = V m c main_arg10 j
  congr 1
  funext a
  apply Fin.ext
  match a with
  | ⟨0, _⟩ => show 0 * 5120 + 1 * (j 0).val = (j 0).val; omega
  | ⟨1, _⟩ => show 0 * 1280 + 1 * (j 1).val = (j 1).val; omega

theorem iblk_11 (c : Dev nD) (t : Fin cfg0.N) : (iblk m c 11 t : Vec Ideal S1x1280 .f32) = V m c main_v6 := by
  funext j
  unfold iblk
  rw [View.read_apply]
  show V m c main_v6 _ = V m c main_v6 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_12 (c : Dev nD) (t : Fin cfg0.N) : (iblk m c 12 t : Vec Ideal S1x1280 .f32) = V m c main_v7 := by
  funext j
  unfold iblk
  rw [View.read_apply]
  show V m c main_v7 _ = V m c main_v7 j
  congr 1
  funext a
  apply Fin.ext
  match a with
  | ⟨0, _⟩ => show 0 * 1 + 1 * (j 0).val = (j 0).val; omega
  | ⟨1, _⟩ => show 0 * 1280 + 1 * (j 1).val = (j 1).val; omega

theorem idx_0 (t : Fin cfg0.N) : win0_0.index t 0 = t.val / 16 ∧ win0_0.index t 1 = 0 ∧ win0_0.index t 2 = t.val % 16 := by
  revert t
  decide +kernel

theorem iblk_0 (c : Dev nD) (t : Fin cfg0.N) (r : Fin 256) (j : Fin 1280) :
    (iblk m c 0 t : Vec Ideal S1x1280x256 .f32) (ix3 0 j r) =
      arrO m c (ix2 ⟨t.val * 256 + r.val, by have := pt_lt t; have := r.isLt; omega⟩ j) := by
  unfold iblk
  rw [View.read_apply]
  show V m c main_arg0 _ = (m ((c : Thread nD τ).loc main_arg0) : Vec Ideal S4x1280x4096 .f32) _
  rw [V_main_arg0]
  congr 1
  have hr := r.isLt
  funext a
  apply Fin.ext
  match a with
  | ⟨0, _⟩ => show win0_0.index t 0 * 1 + 1 * 0 = (t.val * 256 + r.val) / 4096; rw [(idx_0 t).1]; omega
  | ⟨1, _⟩ => show win0_0.index t 1 * 1280 + 1 * j.val = j.val; rw [(idx_0 t).2.1]; omega
  | ⟨2, _⟩ => show win0_0.index t 2 * 256 + 1 * r.val = (t.val * 256 + r.val) % 4096; rw [(idx_0 t).2.2]; omega

theorem idx_1 (t : Fin cfg0.N) : win0_1.index t 0 = t.val ∧ win0_1.index t 1 = 0 := by
  revert t
  decide +kernel

theorem iblk_1 (c : Dev nD) (t : Fin cfg0.N) (r : Fin 256) (j : Fin 1280) :
    (iblk m c 1 t : Vec Ideal S256x1280 .f32) (ix2 r j) =
      arrX m c (ix2 ⟨t.val * 256 + r.val, by have := pt_lt t; have := r.isLt; omega⟩ j) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 256 + 1 * r.val = t.val * 256 + r.val; rw [(idx_1 t).1]; omega
  | ⟨1, _⟩ => show win0_1.index t 1 * 1280 + 1 * j.val = j.val; rw [(idx_1 t).2]; omega

end Cert.GlbMlpIdeal.Hand

end
-- ==== Proof.MlpRowB.lean ====
/- The block's first result when it is stored rounded: at the ideal values rounding changes nothing, so it is the row
   function as before. -/
module

public import proofs.«01_k».proof.Proof.MlpRow

@[expose] public section

set_option maxRecDepth 16384

noncomputable section

namespace Cert.Rows

open Idealize.ShloMosaic Idealize.ShloMosaic.ValueIdx

namespace Blk

variable (B : Blk Ideal) (X : FVec Ideal (M2 256 1280) .f32)
  (ha : B.xa = cut (F := Ideal) (b := 1280) (e := .f32) X 0 512 (by norm_num))
  (hb : B.xb = cut (F := Ideal) (b := 1280) (e := .f32) X 512 512 (by norm_num))
  (hx : B.xc = cut (F := Ideal) (b := 1280) (e := .f32) X 1024 256 (by norm_num))
  (hk : B.k = (((Real.sqrt 2)⁻¹ : ℝ) : EReal))

include ha hb hx hk in
theorem Yb_eq : View.canon (B.YLb rdC rdC rdC) = ofRows fun r => B.W.y (row B.o r) (row X r) := by
  refine canon_of _ _ ?_ (cover3 _ _ _)
  have key := fun (c n : ℕ) (h : c + n ≤ 1280) => piece_at (e := .bf16) h (truncf .bf16 (B.yc rdC rdC rdC c n h) bf16_lt)
    (ofRows fun r => B.W.y (row B.o r) (row X r)) (B.yc_apply X ha hb hx hk c n h)
  intro p hp
  unfold YLb at hp
  rcases List.mem_cons.1 hp with rfl | hp
  · exact key _ _ _
  rcases List.mem_cons.1 hp with rfl | hp
  · exact key _ _ _
  · obtain rfl := List.mem_singleton.1 hp
    exact key _ _ _

end Blk

end Cert.Rows

end
-- ==== Proof.GlbMlpIdealVal.lean ====
/- The feed-forward kernel's blocks at the ideal values, its body held to the row functions, and its run. -/
module

public import proofs.«01_k».proof.Proof.GlbMlpIdealBlk
public import proofs.«01_k».proof.Proof.MlpGoal
public import proofs.«01_k».proof.Proof.MlpRowB
public import Idealize.ShloMosaic.Lib.ValueLayout

@[expose] public section

set_option maxRecDepth 16384

noncomputable section

namespace Cert.GlbMlpIdeal.Hand

open Cert.GlbMlpIdeal Cert.GlbMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The block of point `t`. -/
def bk (c : Dev nD) (t : Fin cfg0.N) : Blk Ideal := blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
/-- The block's residual rows. -/
def bx (c : Dev nD) (t : Fin cfg0.N) : FVec Ideal (M2 256 1280) .f32 := iblk m c 1 t

variable (c : Dev nD) (t : Fin cfg0.N)

theorem bk_W : (bk m c t).W = wts m c :=
  Wt.ext' (iblk_2 m c t) (iblk_3 m c t) (iblk_4 m c t) ((cut_all _ _).trans (iblk_5 m c t)) ((cut_all _ _).trans (iblk_6 m c t))
    (iblk_7 m c t) (iblk_8 m c t) (iblk_9 m c t) (iblk_10 m c t) (iblk_11 m c t) (iblk_12 m c t)

theorem ld3 (X : Vec Ideal S1x1280x256 .f32) :
    View.ld (Val := Elt Ideal) (e' := .f32) X (Rect.unit (s := S1x1280x256) ![0, 0, 0] S1x1280x256.size inb_S1x1280x256_S1x1280x256_0_0_0) = X :=
  funext fun x => congrArg X (funext fun a => Fin.ext (by
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega))

/-- The kernel's transposed load, read at a row and a column. -/
theorem pay2_apply (X : Vec Ideal S1x1280x256 .f32) (r : Fin 256) (k : Fin 1280) : k0_pay2 X (ix2 r k) = X (ix3 0 k r) := by
  unfold k0_pay2
  exact (transpose_ix2_apply _ _ r k).trans (shapeCast_1ab_ab_apply _ _ k r)

theorem bk_o (r : Fin 256) : row (bk m c t).o r = row (arrO m c) (pt t.val (pt_lt t) r) :=
  funext fun k => (congrFun (congrArg k0_pay2 (ld3 (iblk m c 0 t))) (ix2 r k)).trans
    ((pay2_apply (iblk m c 0 t) r k).trans (iblk_0 m c t r k))

theorem bx_row (r : Fin 256) : row (bx m c t) r = row (arrX m c) (pt t.val (pt_lt t) r) :=
  funext fun k => iblk_1 m c t r k

theorem ha : (bk m c t).xa = cut (F := Ideal) (b := 1280) (e := .f32) (bx m c t) 0 512 (by norm_num) := rfl
theorem hb : (bk m c t).xb = cut (F := Ideal) (b := 1280) (e := .f32) (bx m c t) 512 512 (by norm_num) := rfl
theorem hx : (bk m c t).xc = cut (F := Ideal) (b := 1280) (e := .f32) (bx m c t) 1024 256 (by norm_num) := rfl
theorem hk : (bk m c t).k = (((Real.sqrt 2)⁻¹ : ℝ) : EReal) := IdealRules.named_const.ideal_named_scalar _ _ _ _ rfl

theorem off_eq : k0_off1 (grid0.coords t) 0 = t.val / 16 ∧ k0_off1 (grid0.coords t) 1 = t.val % 16 * 256 := by
  revert t
  decide +kernel

theorem val_13 : BlockOf t.val ((wts m c).fY (arrO m c) (arrX m c)) (View.canon ((bk m c t).YLb rdC rdC rdC)) := fun _ r j => by
  refine (congrFun ((bk m c t).Yb_eq (bx m c t) (ha m c t) (hb m c t) (hx m c t) (hk m c t)) _).trans ?_
  show _ = Wt.fY (wts m c) (arrO m c) (arrX m c) _ j
  unfold Wt.fY
  rw [← bk_o, ← bx_row, ← bk_W m c t]

theorem val_14 : BlockOf t.val (Wt.fA (arrO m c)) (View.canon ((bk m c t).ACL)) := fun _ r j => by
  refine (congrFun ((bk m c t).AC_eq) _).trans ?_
  show _ = Wt.fA (arrO m c) _ j
  unfold Wt.fA
  rw [← bk_o]

theorem val_15 (r : Fin 256) : ((bk m c t).s1) (ix2 r 0) = (Wt.fAS (arrO m c)) (pt t.val (pt_lt t) r) := by
  refine ((bk m c t).s1_apply r 0).trans ?_
  unfold Wt.fAS
  rw [← bk_o]

theorem val_16 : BlockOf t.val ((wts m c).fL (arrO m c) (arrX m c)) (View.canon ((bk m c t).LCL rdC)) := fun _ r j => by
  refine (congrFun ((bk m c t).LC_eq (bx m c t) (ha m c t) (hb m c t) (hx m c t)) _).trans ?_
  show _ = Wt.fL (wts m c) (arrO m c) (arrX m c) _ j
  unfold Wt.fL
  rw [← bk_o, ← bx_row, ← bk_W m c t]

theorem val_17 (r : Fin 256) : ((bk m c t).s2 rdC) (ix2 r 0) = ((wts m c).fLS (arrO m c) (arrX m c)) (pt t.val (pt_lt t) r) := by
  refine ((bk m c t).s2_apply (bx m c t) (ha m c t) (hb m c t) (hx m c t) r 0).trans ?_
  unfold Wt.fLS
  rw [← bk_o, ← bx_row, ← bk_W m c t]

theorem val_18 : BlockOf t.val ((wts m c).fH (arrO m c) (arrX m c)) (View.canon ((bk m c t).HCL rdC rdC)) := fun _ r j => by
  refine (congrFun ((bk m c t).HC_eq (bx m c t) (ha m c t) (hb m c t) (hx m c t) (hk m c t)) _).trans ?_
  show _ = Wt.fH (wts m c) (arrO m c) (arrX m c) _ j
  unfold Wt.fH
  rw [← bk_o, ← bx_row, ← bk_W m c t]

theorem val_19 (r : Fin 256) : ((bk m c t).s3 rdC) (ix2 r 0) = ((wts m c).fHS (arrO m c) (arrX m c)) (pt t.val (pt_lt t) r) := by
  refine ((bk m c t).s3_apply (bx m c t) (ha m c t) (hb m c t) (hx m c t) (hk m c t) r 0).trans ?_
  unfold Wt.fHS
  rw [← bk_o, ← bx_row, ← bk_W m c t]

/-- What the body leaves in each output. -/
def rel (c : Dev nD) (w : Fin cfg0.W) (t : Fin cfg0.N) (X : (cfg0.win w).block.Idx → Elt Ideal (cfg0.win w).elt) : Prop :=
  match w, X with
  | ⟨13, _⟩, X => BlockOf t.val ((wts m c).fY (arrO m c) (arrX m c)) X
  | ⟨14, _⟩, X => BlockOf t.val (Wt.fA (arrO m c)) X
  | ⟨15, _⟩, X => PackedTo t.val (Wt.fAS (arrO m c)) X
  | ⟨16, _⟩, X => BlockOf t.val ((wts m c).fL (arrO m c) (arrX m c)) X
  | ⟨17, _⟩, X => PackedTo t.val ((wts m c).fLS (arrO m c) (arrX m c)) X
  | ⟨18, _⟩, X => BlockOf t.val ((wts m c).fH (arrO m c) (arrX m c)) X
  | ⟨19, _⟩, X => PackedTo t.val ((wts m c).fHS (arrO m c) (arrX m c)) X
  | _, _ => True

/-- The exact data of the inputs with the outputs held to `rel`. -/
def rdat (c : Dev nD) := (dats (F := Ideal) m 0 c).toRRel forgets0 (rel m c)

theorem found_15 (Y : S4x4096.Idx → EReal) (hY : (rdat m c).Finds 15 t Y) (y : (M2 4 4096).Idx) (hy : (flat y).val < t.val * 256) :
    Y y = (Wt.fAS (arrO m c)) (flat y) := by
  have ht0 : t.val ≠ 0 := fun h => by rw [h] at hy; omega
  rcases ((rdat m c).finds_of_pos (w := 15) ((cfg0.win 15).fetch_out rfl t) ht0 Y).1 hY with h | h
  · have := (flush0_15 _).1 h
    have hlt := pt_lt t
    dsimp only at this
    omega
  · have h' := (dats (F := Ideal) m 0 c).toRRel_leaves (fgt := forgets0) (Rl := rel m c) (w := 15) rfl h
    exact h' y (by show (flat y).val < (t.val - 1 + 1) * 256; omega)

theorem found_17 (Y : S4x4096.Idx → EReal) (hY : (rdat m c).Finds 17 t Y) (y : (M2 4 4096).Idx) (hy : (flat y).val < t.val * 256) :
    Y y = ((wts m c).fLS (arrO m c) (arrX m c)) (flat y) := by
  have ht0 : t.val ≠ 0 := fun h => by rw [h] at hy; omega
  rcases ((rdat m c).finds_of_pos (w := 17) ((cfg0.win 17).fetch_out rfl t) ht0 Y).1 hY with h | h
  · have := (flush0_17 _).1 h
    have hlt := pt_lt t
    dsimp only at this
    omega
  · have h' := (dats (F := Ideal) m 0 c).toRRel_leaves (fgt := forgets0) (Rl := rel m c) (w := 17) rfl h
    exact h' y (by show (flat y).val < (t.val - 1 + 1) * 256; omega)

theorem found_19 (Y : S4x4096.Idx → EReal) (hY : (rdat m c).Finds 19 t Y) (y : (M2 4 4096).Idx) (hy : (flat y).val < t.val * 256) :
    Y y = ((wts m c).fHS (arrO m c) (arrX m c)) (flat y) := by
  have ht0 : t.val ≠ 0 := fun h => by rw [h] at hy; omega
  rcases ((rdat m c).finds_of_pos (w := 19) ((cfg0.win 19).fetch_out rfl t) ht0 Y).1 hY with h | h
  · have := (flush0_19 _).1 h
    have hlt := pt_lt t
    dsimp only at this
    omega
  · have h' := (dats (F := Ideal) m 0 c).toRRel_leaves (fgt := forgets0) (Rl := rel m c) (w := 19) rfl h
    exact h' y (by show (flat y).val < (t.val - 1 + 1) * 256; omega)

/-- What the body is called with at point `t`, -/
def vbodyPre (c : Dev nD) (t : Fin cfg0.N) : sProp 𝕄 :=
  iprop((dats (F := Ideal) m 0 c).Φ t.castSucc ∗ (dats (F := Ideal) m 0 c).owesAt () t.castSucc
    ∗ (∃ d, owns (c : Thread nD τ) (ms0_0 t) fullShare ((dats (F := Ideal) m 0 c).before 0 t d))
    ∗ (∃ d, owns (c : Thread nD τ) (ms0_1 t) fullShare ((dats (F := Ideal) m 0 c).before 1 t d))
    ∗ (∃ d, owns (c : Thread nD τ) (ms0_2 t) fullShare ((dats (F := Ideal) m 0 c).before 2 t d))
    ∗ (∃ d, owns (c : Thread nD τ) (ms0_3 t) fullShare ((dats (F := Ideal) m 0 c).before 3 t d))
    ∗ (∃ d, owns (c : Thread nD τ) (ms0_4 t) fullShare ((dats (F := Ideal) m 0 c).before 4 t d))
    ∗ (∃ d, owns (c : Thread nD τ) (ms0_5 t) fullShare ((dats (F := Ideal) m 0 c).before 5 t d))
    ∗ (∃ d, owns (c : Thread nD τ) (ms0_6 t) fullShare ((dats (F := Ideal) m 0 c).before 6 t d))
    ∗ (∃ d, owns (c : Thread nD τ) (ms0_7 t) fullShare ((dats (F := Ideal) m 0 c).before 7 t d))
    ∗ (∃ d, owns (c : Thread nD τ) (ms0_8 t) fullShare ((dats (F := Ideal) m 0 c).before 8 t d))
    ∗ (∃ d, owns (c : Thread nD τ) (ms0_9 t) fullShare ((dats (F := Ideal) m 0 c).before 9 t d))
    ∗ (∃ d, owns (c : Thread nD τ) (ms0_10 t) fullShare ((dats (F := Ideal) m 0 c).before 10 t d))
    ∗ (∃ d, owns (c : Thread nD τ) (ms0_11 t) fullShare ((dats (F := Ideal) m 0 c).before 11 t d))
    ∗ (∃ d, owns (c : Thread nD τ) (ms0_12 t) fullShare ((dats (F := Ideal) m 0 c).before 12 t d))
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y))

/-- and what it returns. -/
def vbodyPost (c : Dev nD) (t : Fin cfg0.N) : sProp 𝕄 :=
  iprop((dats (F := Ideal) m 0 c).Φ t.succ ∗ (dats (F := Ideal) m 0 c).owesAt () t.succ
    ∗ owns (c : Thread nD τ) (ms0_0 t) fullShare ((dats (F := Ideal) m 0 c).after 0 t)
    ∗ owns (c : Thread nD τ) (ms0_1 t) fullShare ((dats (F := Ideal) m 0 c).after 1 t)
    ∗ owns (c : Thread nD τ) (ms0_2 t) fullShare ((dats (F := Ideal) m 0 c).after 2 t)
    ∗ owns (c : Thread nD τ) (ms0_3 t) fullShare ((dats (F := Ideal) m 0 c).after 3 t)
    ∗ owns (c : Thread nD τ) (ms0_4 t) fullShare ((dats (F := Ideal) m 0 c).after 4 t)
    ∗ owns (c : Thread nD τ) (ms0_5 t) fullShare ((dats (F := Ideal) m 0 c).after 5 t)
    ∗ owns (c : Thread nD τ) (ms0_6 t) fullShare ((dats (F := Ideal) m 0 c).after 6 t)
    ∗ owns (c : Thread nD τ) (ms0_7 t) fullShare ((dats (F := Ideal) m 0 c).after 7 t)
    ∗ owns (c : Thread nD τ) (ms0_8 t) fullShare ((dats (F := Ideal) m 0 c).after 8 t)
    ∗ owns (c : Thread nD τ) (ms0_9 t) fullShare ((dats (F := Ideal) m 0 c).after 9 t)
    ∗ owns (c : Thread nD τ) (ms0_10 t) fullShare ((dats (F := Ideal) m 0 c).after 10 t)
    ∗ owns (c : Thread nD τ) (ms0_11 t) fullShare ((dats (F := Ideal) m 0 c).after 11 t)
    ∗ owns (c : Thread nD τ) (ms0_12 t) fullShare ((dats (F := Ideal) m 0 c).after 12 t)
    ∗ (∃ X, ⌜rel m c 13 t X⌝ ∗ owns (c : Thread nD τ) (ms0_13 t) fullShare X)
    ∗ (∃ X, ⌜rel m c 14 t X⌝ ∗ owns (c : Thread nD τ) (ms0_14 t) fullShare X)
    ∗ (∃ X, ⌜rel m c 15 t X⌝ ∗ owns (c : Thread nD τ) (ms0_15 t) fullShare X)
    ∗ (∃ X, ⌜rel m c 16 t X⌝ ∗ owns (c : Thread nD τ) (ms0_16 t) fullShare X)
    ∗ (∃ X, ⌜rel m c 17 t X⌝ ∗ owns (c : Thread nD τ) (ms0_17 t) fullShare X)
    ∗ (∃ X, ⌜rel m c 18 t X⌝ ∗ owns (c : Thread nD τ) (ms0_18 t) fullShare X)
    ∗ (∃ X, ⌜rel m c 19 t X⌝ ∗ owns (c : Thread nD τ) (ms0_19 t) fullShare X))

set_option maxHeartbeats 4000000 in
theorem vsound_body :
    vbodyPre m c t ⊢ wp Idealize.ShloMosaic.frame (wpE (defs₀ (F := Ideal)) Variants.none c none) Set.univ (bodyAt0 t) (fun _ => vbodyPost m c t) := by
  unfold vbodyPre vbodyPost bodyAt0
  simp only [before0_0, before0_1, before0_2, before0_3, before0_4, before0_5, before0_6, before0_7, before0_8, before0_9, before0_10, before0_11, before0_12]
  rw [show (dats (F := Ideal) m 0 c).Φ t.succ = (dats (F := Ideal) m 0 c).Φ t.castSucc from rfl,
    show (dats (F := Ideal) m 0 c).owesAt () t.succ = (dats (F := Ideal) m 0 c).owesAt () t.castSucc from rfl,
    after0_0, after0_1, after0_2, after0_3, after0_4, after0_5, after0_6, after0_7, after0_8, after0_9, after0_10, after0_11, after0_12]
  rw [show (dats (F := Ideal) m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y13, %h13, H13⟩, ⟨%y14, %h14, H14⟩, ⟨%y15, %h15, H15⟩, ⟨%y16, %h16, H16⟩, ⟨%y17, %h17, H17⟩, ⟨%y18, %h18, H18⟩, ⟨%y19, %h19, H19⟩⟩
  iapply (vruns c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y17 y19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [H17]; · iexact H17
  isplitl [H18]; · iexists _; iexact H18
  isplitl [H19]; · iexact H19
  isplitl [HS0]; · iexact HS0
  isplitl [HS1]; · iexact HS1
  iintro ⟨H0, H1, H2, H3, H4, H5, H6, H7, H8, H9, H10, H11, H12, H13, H14, H15, H16, H17, H18, H19, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; exact val_13 m c t
  isplitl [H14]
  · iexists _; isplitr; swap; · iexact H14
    ipureintro; exact val_14 m c t
  isplitl [H15]
  · iexists _; isplitr; swap; · iexact H15
    ipureintro; exact fun y hy => pack_step t.val (pt_lt t) _ (k0_off1_inb _) (off_eq t).1 (off_eq t).2 (Wt.fAS (arrO m c)) y15 (found_15 m c t y15 h15) ((bk m c t).s1) (val_15 m c t) y hy
  isplitl [H16]
  · iexists _; isplitr; swap; · iexact H16
    ipureintro; exact val_16 m c t
  isplitl [H17]
  · iexists _; isplitr; swap; · iexact H17
    ipureintro; exact fun y hy => pack_step t.val (pt_lt t) _ (k0_off1_inb _) (off_eq t).1 (off_eq t).2 ((wts m c).fLS (arrO m c) (arrX m c)) y17 (found_17 m c t y17 h17) ((bk m c t).s2 rdC) (val_17 m c t) y hy
  isplitl [H18]
  · iexists _; isplitr; swap; · iexact H18
    ipureintro; exact val_18 m c t
  iexists _; isplitr; swap; · iexact H19
  ipureintro; exact fun y hy => pack_step t.val (pt_lt t) _ (k0_off1_inb _) (off_eq t).1 (off_eq t).2 ((wts m c).fHS (arrO m c) (arrX m c)) y19 (found_19 m c t y19 h19) ((bk m c t).s3 rdC) (val_19 m c t) y hy

theorem vbody_obligation (c : Dev nD) : Pipeline.BodyObligationRel (dats (F := Ideal) m 0 c) (defs₀ (F := Ideal)) Variants.none () Set.univ forgets0 (rel m c) := fun t => by
  rw [bigSep_W0, bigSep_W0, defs₀_row]
  exact triple_restated (vsound_body m c t) rfl .rfl fun _ => .rfl

set_option backward.isDefEq.respectTransparency.types false in
/-- The launch, each output held to its row function. -/
theorem run_vals : θ_run defs (onTc (τ := τ) (main (F := Ideal))) (s₀ m ρ) (fun r => RDat.FramePost (cfgs 0) (rdat m) (V m) r) :=
  RDat.θ_run_frame cfgs (0 : Fin 1) launch0 defs₀ Variants.none (rdat m) m ρ main
    (hbody := fun c => (vbody_obligation m c).toRRel) (hshare := fun c => (dats m 0 c).share_full fun _ => rfl)
    (howed := fun _ _ => rfl) (V := V m) (hmain := hmain m Variants.none) (hA := A_eq m) (hΦ := fun _ _ => rfl)

end Cert.GlbMlpIdeal.Hand

end
-- ==== Proof.GlbMlpIdealArr.lean ====
/- What the feed-forward kernel's result arrays hold when it ends. -/
module

public import proofs.«01_k».proof.Proof.GlbMlpIdealVal
public import Idealize.ShloMosaic.Lib.Pipeline.ArrRel

@[expose] public section

set_option maxRecDepth 16384

noncomputable section

namespace Cert.GlbMlpIdeal.Hand

open Cert.GlbMlpIdeal Cert.GlbMlpIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

variable (c : Dev nD) (r : PUnit × MemSt nD τ sig (Elt Ideal)) (h : RDat.FramePost (cfgs 0) (rdat m) (V m) r)

theorem idx_13 (t : Fin cfg0.N) : win0_13.index t 0 = t.val ∧ win0_13.index t 1 = 0 := by
  revert t
  decide +kernel

include h in
theorem arr_13 : (r.2.mem ((c : Thread nD τ).loc main_v8_0) : Vec Ideal (M2 16384 1280) .bf16) = ofRows ((wts m c).fY (arrO m c) (arrX m c)) := by
  obtain ⟨after, hL, hA⟩ := h.exists_exact c
  refine (hA 13).trans (Dat.arrAt_eq_of_covers ((rdat m c).withAfter after) 13 _ (by decide +kernel) fun t hf y => ?_)
  have hl : BlockOf t.val ((wts m c).fY (arrO m c) (arrX m c)) (after 13 t) :=
    (dats (F := Ideal) m 0 c).toRRel_leaves (fgt := forgets0) (Rl := rel m c) (w := 13) rfl (hL 13 t hf)
  have hy0 : (y 0).val < 256 := (y 0).isLt
  have hy1 : (y 1).val < 1280 := (y 1).isLt
  refine (congrArg (after 13 t) (eq_ix2 (n0 := 256) (n1 := 1280) _)).trans ((hl (pt_lt t) _ _).trans ?_)
  refine congrArg₂ ((wts m c).fY (arrO m c) (arrX m c)) (Fin.ext ?_) (Fin.ext ?_)
  · show t.val * 256 + (y 0).val = win0_13.index t 0 * 256 + 1 * (y 0).val
    rw [(idx_13 t).1]; omega
  · show (y 1).val = win0_13.index t 1 * 1280 + 1 * (y 1).val
    rw [(idx_13 t).2]; omega

theorem idx_14 (t : Fin cfg0.N) : win0_14.index t 0 = t.val ∧ win0_14.index t 1 = 0 := by
  revert t
  decide +kernel

include h in
theorem arr_14 : (r.2.mem ((c : Thread nD τ).loc main_v8_1) : Vec Ideal (M2 16384 1280) .i8) = ofRows (Wt.fA (arrO m c)) := by
  obtain ⟨after, hL, hA⟩ := h.exists_exact c
  refine (hA 14).trans (Dat.arrAt_eq_of_covers ((rdat m c).withAfter after) 14 _ (by decide +kernel) fun t hf y => ?_)
  have hl : BlockOf t.val (Wt.fA (arrO m c)) (after 14 t) :=
    (dats (F := Ideal) m 0 c).toRRel_leaves (fgt := forgets0) (Rl := rel m c) (w := 14) rfl (hL 14 t hf)
  have hy0 : (y 0).val < 256 := (y 0).isLt
  have hy1 : (y 1).val < 1280 := (y 1).isLt
  refine (congrArg (after 14 t) (eq_ix2 (n0 := 256) (n1 := 1280) _)).trans ((hl (pt_lt t) _ _).trans ?_)
  refine congrArg₂ (Wt.fA (arrO m c)) (Fin.ext ?_) (Fin.ext ?_)
  · show t.val * 256 + (y 0).val = win0_14.index t 0 * 256 + 1 * (y 0).val
    rw [(idx_14 t).1]; omega
  · show (y 1).val = win0_14.index t 1 * 1280 + 1 * (y 1).val
    rw [(idx_14 t).2]; omega

include h in
theorem arr_15 : (r.2.mem ((c : Thread nD τ).loc main_v8_2) : Vec Ideal (M2 4 4096) .f32) = fun y => (Wt.fAS (arrO m c)) (flat y) := by
  obtain ⟨after, hL, hA⟩ := h.exists_exact c
  refine (hA 15).trans (Dat.arrAt_eq_of_covers ((rdat m c).withAfter after) 15 _ (by decide +kernel) fun t hf y => ?_)
  have hl : PackedTo t.val (Wt.fAS (arrO m c)) (after 15 t) :=
    (dats (F := Ideal) m 0 c).toRRel_leaves (fgt := forgets0) (Rl := rel m c) (w := 15) rfl (hL 15 t hf)
  have ht := (flush0_15 t).1 hf
  have ht' := pt_lt t
  have hy0 : (y 0).val < 4 := (y 0).isLt
  have hy1 : (y 1).val < 4096 := (y 1).isLt
  refine (congrArg (after 15 t) (eq_ix2 (n0 := 4) (n1 := 4096) _)).trans ((hl _ ?_).trans (congrArg (Wt.fAS (arrO m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

theorem idx_16 (t : Fin cfg0.N) : win0_16.index t 0 = t.val ∧ win0_16.index t 1 = 0 := by
  revert t
  decide +kernel

include h in
theorem arr_16 : (r.2.mem ((c : Thread nD τ).loc main_v8_3) : Vec Ideal (M2 16384 1280) .i8) = ofRows ((wts m c).fL (arrO m c) (arrX m c)) := by
  obtain ⟨after, hL, hA⟩ := h.exists_exact c
  refine (hA 16).trans (Dat.arrAt_eq_of_covers ((rdat m c).withAfter after) 16 _ (by decide +kernel) fun t hf y => ?_)
  have hl : BlockOf t.val ((wts m c).fL (arrO m c) (arrX m c)) (after 16 t) :=
    (dats (F := Ideal) m 0 c).toRRel_leaves (fgt := forgets0) (Rl := rel m c) (w := 16) rfl (hL 16 t hf)
  have hy0 : (y 0).val < 256 := (y 0).isLt
  have hy1 : (y 1).val < 1280 := (y 1).isLt
  refine (congrArg (after 16 t) (eq_ix2 (n0 := 256) (n1 := 1280) _)).trans ((hl (pt_lt t) _ _).trans ?_)
  refine congrArg₂ ((wts m c).fL (arrO m c) (arrX m c)) (Fin.ext ?_) (Fin.ext ?_)
  · show t.val * 256 + (y 0).val = win0_16.index t 0 * 256 + 1 * (y 0).val
    rw [(idx_16 t).1]; omega
  · show (y 1).val = win0_16.index t 1 * 1280 + 1 * (y 1).val
    rw [(idx_16 t).2]; omega

include h in
theorem arr_17 : (r.2.mem ((c : Thread nD τ).loc main_v8_4) : Vec Ideal (M2 4 4096) .f32) = fun y => ((wts m c).fLS (arrO m c) (arrX m c)) (flat y) := by
  obtain ⟨after, hL, hA⟩ := h.exists_exact c
  refine (hA 17).trans (Dat.arrAt_eq_of_covers ((rdat m c).withAfter after) 17 _ (by decide +kernel) fun t hf y => ?_)
  have hl : PackedTo t.val ((wts m c).fLS (arrO m c) (arrX m c)) (after 17 t) :=
    (dats (F := Ideal) m 0 c).toRRel_leaves (fgt := forgets0) (Rl := rel m c) (w := 17) rfl (hL 17 t hf)
  have ht := (flush0_17 t).1 hf
  have ht' := pt_lt t
  have hy0 : (y 0).val < 4 := (y 0).isLt
  have hy1 : (y 1).val < 4096 := (y 1).isLt
  refine (congrArg (after 17 t) (eq_ix2 (n0 := 4) (n1 := 4096) _)).trans ((hl _ ?_).trans (congrArg ((wts m c).fLS (arrO m c) (arrX m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

theorem idx_18 (t : Fin cfg0.N) : win0_18.index t 0 = t.val ∧ win0_18.index t 1 = 0 := by
  revert t
  decide +kernel

include h in
theorem arr_18 : (r.2.mem ((c : Thread nD τ).loc main_v8_5) : Vec Ideal (M2 16384 5120) .i8) = ofRows ((wts m c).fH (arrO m c) (arrX m c)) := by
  obtain ⟨after, hL, hA⟩ := h.exists_exact c
  refine (hA 18).trans (Dat.arrAt_eq_of_covers ((rdat m c).withAfter after) 18 _ (by decide +kernel) fun t hf y => ?_)
  have hl : BlockOf t.val ((wts m c).fH (arrO m c) (arrX m c)) (after 18 t) :=
    (dats (F := Ideal) m 0 c).toRRel_leaves (fgt := forgets0) (Rl := rel m c) (w := 18) rfl (hL 18 t hf)
  have hy0 : (y 0).val < 256 := (y 0).isLt
  have hy1 : (y 1).val < 5120 := (y 1).isLt
  refine (congrArg (after 18 t) (eq_ix2 (n0 := 256) (n1 := 5120) _)).trans ((hl (pt_lt t) _ _).trans ?_)
  refine congrArg₂ ((wts m c).fH (arrO m c) (arrX m c)) (Fin.ext ?_) (Fin.ext ?_)
  · show t.val * 256 + (y 0).val = win0_18.index t 0 * 256 + 1 * (y 0).val
    rw [(idx_18 t).1]; omega
  · show (y 1).val = win0_18.index t 1 * 5120 + 1 * (y 1).val
    rw [(idx_18 t).2]; omega

include h in
theorem arr_19 : (r.2.mem ((c : Thread nD τ).loc main_v8_6) : Vec Ideal (M2 4 4096) .f32) = fun y => ((wts m c).fHS (arrO m c) (arrX m c)) (flat y) := by
  obtain ⟨after, hL, hA⟩ := h.exists_exact c
  refine (hA 19).trans (Dat.arrAt_eq_of_covers ((rdat m c).withAfter after) 19 _ (by decide +kernel) fun t hf y => ?_)
  have hl : PackedTo t.val ((wts m c).fHS (arrO m c) (arrX m c)) (after 19 t) :=
    (dats (F := Ideal) m 0 c).toRRel_leaves (fgt := forgets0) (Rl := rel m c) (w := 19) rfl (hL 19 t hf)
  have ht := (flush0_19 t).1 hf
  have ht' := pt_lt t
  have hy0 : (y 0).val < 4 := (y 0).isLt
  have hy1 : (y 1).val < 4096 := (y 1).isLt
  refine (congrArg (after 19 t) (eq_ix2 (n0 := 4) (n1 := 4096) _)).trans ((hl _ ?_).trans (congrArg ((wts m c).fHS (arrO m c) (arrX m c)) (Fin.ext ?_)))
  · show (y 0).val * 4096 + (y 1).val < (t.val + 1) * 256
    omega
  · show (y 0).val * 4096 + (y 1).val = (0 * 4 + 1 * (y 0).val) * 4096 + (0 * 4096 + 1 * (y 1).val)
    omega

end Cert.GlbMlpIdeal.Hand

end
-- ==== Proof.GlbMlpRefVal.lean ====
/- What the feed-forward reference's result arrays hold when it ends: the row functions at every row. -/
module

public import proofs.«01_k».proof.Proof.Gen.GlbMlpRefIdeal.Frame
public import proofs.«01_k».proof.Proof.MlpRefRow
public import Idealize.ShloMosaic.Lib.Pipeline.ArrRel

@[expose] public section

set_option maxRecDepth 16384

noncomputable section

namespace Cert.GlbMlpRefIdeal.Hand

open Cert.GlbMlpRefIdeal Cert.GlbMlpRefIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

section Payloads

variable {F : FTy → Type} [FloatOps F] [Named F]

theorem self_eq (x : Vec F S16384x1280 .f32) : k0_pay5 x = x := funext fun j => shapeCast_apply x _ j j rfl
theorem pay5_eq (x : Vec F S16384x1280 .f32) : k0_pay6 x = scale x :=
  (show k0_pay6 x = scale (k0_pay5 x) from rfl).trans (by rw [self_eq])
theorem pay6_eq (x : Vec F S16384x1280 .f32) : k0_pay7 x = codes x (scale x) :=
  (show k0_pay7 x = codes (k0_pay5 x) (scale (k0_pay5 x)) from rfl).trans (by rw [self_eq])
theorem pay7_eq (x1 : Vec F S16384x1280 .f32) (x0 : Vec F S16384x1280 .f32) (w : Vec F S1280x1280 .i8) (s b : Vec F S1x1280 .f32) :
    k0_pay8 x1 x0 w s b = addf x1 (lin (sitofp .bf16 (codes x0 (scale x0))) (scale x0) w s b) :=
  (show k0_pay8 x1 x0 w s b = addf x1 (lin (sitofp .bf16 (codes (k0_pay5 x0) (scale (k0_pay5 x0)))) (scale (k0_pay5 x0)) w s b) from rfl).trans
    (by rw [self_eq])
theorem pay10_eq (h : FVec F S16384x1280 .f32) (g b : Vec F S1x1280 .f32) : k0_pay11 h (k0_pay9 g) b = scale (lnorm h g b) := rfl
theorem pay11_eq (h : FVec F S16384x1280 .f32) (g b : Vec F S1x1280 .f32) :
    k0_pay12 h (k0_pay9 g) b = codes (lnorm h g b) (scale (lnorm h g b)) := rfl
theorem pay14_eq (s : FVec F S16384x1 .f32) (q : IVec S16384x1280 8) (w : Vec F S1280x5120 .i8) (ws b : Vec F S1x5120 .f32) :
    k0_pay15 s q w (k0_pay13 ws) b = scale (geluDiv (Named.named κ "sqrt_2" 0x3FB504F3#32) (lin (sitofp .bf16 q) s w ws b)) := rfl
theorem pay15_eq (s : FVec F S16384x1 .f32) (q : IVec S16384x1280 8) (w : Vec F S1280x5120 .i8) (ws b : Vec F S1x5120 .f32) :
    k0_pay16 s q w (k0_pay13 ws) b = codes (geluDiv (Named.named κ "sqrt_2" 0x3FB504F3#32) (lin (sitofp .bf16 q) s w ws b))
      (scale (geluDiv (Named.named κ "sqrt_2" 0x3FB504F3#32) (lin (sitofp .bf16 q) s w ws b))) := rfl
theorem pay1_eq (h : FVec F S16384x1280 .f32) (s : FVec F S16384x1 .f32) (q : IVec S16384x5120 8) (w : Vec F S5120x1280 .i8)
    (ws b : Vec F S1x1280 .f32) : k0_pay1 h s q w (k0_pay17 ws) (k0_pay18 b) = truncf .bf16 (addf h (lin (sitofp .bf16 q) s w ws b)) bitsLt_bf16_f32 := rfl

end Payloads

theorem root : (Named.named κ "sqrt_2" 0x3FB504F3#32 : Ideal .f32) = ((Real.sqrt 2 : ℝ) : EReal) :=
  IdealRules.named_const.ideal_named_scalar _ _ _ _ rfl

section Outs

variable (x0 : Vec Ideal S16384x1280 .f32) (x1 : Vec Ideal S16384x1280 .f32) (x2 : Vec Ideal S1280x1280 .i8) (x3 : Vec Ideal S1x1280 .f32) (x4 : Vec Ideal S1x1280 .f32) (x5 : Vec Ideal S1x1280 .f32) (x6 : Vec Ideal S1x1280 .f32) (x7 : Vec Ideal S1280x5120 .i8) (x8 : Vec Ideal S1x5120 .f32) (x9 : Vec Ideal S1x5120 .f32) (x10 : Vec Ideal S5120x1280 .i8) (x11 : Vec Ideal S1x1280 .f32) (x12 : Vec Ideal S1x1280 .f32)

theorem out18 : k0_pay19 x0 x1 x2 x3 x4 x5 x6 x7 x8 x9 x10 x11 x12 = allH1 ⟨x2, x3, x4, x5, x6, x7, x8, x9, x10, x11, x12⟩ x0 x1 := by
  unfold k0_pay19
  rw [ld_whole, ld_whole, ld_whole, ld_whole, ld_whole, pay7_eq]
  rfl
theorem out20 : k0_pay21 x0 x1 x2 x3 x4 x5 x6 x7 x8 x9 x10 x11 x12 = scale (allLn ⟨x2, x3, x4, x5, x6, x7, x8, x9, x10, x11, x12⟩ x0 x1) := by
  unfold k0_pay21 k0_pay20
  rw [ld_whole, ld_whole, pay10_eq, out18]
  rfl
theorem out21 : k0_pay22 x0 x1 x2 x3 x4 x5 x6 x7 x8 x9 x10 x11 x12 = codes (allLn ⟨x2, x3, x4, x5, x6, x7, x8, x9, x10, x11, x12⟩ x0 x1) (scale (allLn ⟨x2, x3, x4, x5, x6, x7, x8, x9, x10, x11, x12⟩ x0 x1)) := by
  unfold k0_pay22 k0_pay20
  rw [ld_whole, ld_whole, pay11_eq, out18]
  rfl
theorem out23 : k0_pay24 x0 x1 x2 x3 x4 x5 x6 x7 x8 x9 x10 x11 x12 = scale (allHid ⟨x2, x3, x4, x5, x6, x7, x8, x9, x10, x11, x12⟩ x0 x1) := by
  unfold k0_pay24 k0_pay23
  rw [ld_whole, ld_whole, ld_whole, pay14_eq, out20, out21, root]
  rfl
theorem out24 : k0_pay25 x0 x1 x2 x3 x4 x5 x6 x7 x8 x9 x10 x11 x12 = codes (allHid ⟨x2, x3, x4, x5, x6, x7, x8, x9, x10, x11, x12⟩ x0 x1) (scale (allHid ⟨x2, x3, x4, x5, x6, x7, x8, x9, x10, x11, x12⟩ x0 x1)) := by
  unfold k0_pay25 k0_pay23
  rw [ld_whole, ld_whole, ld_whole, pay15_eq, out20, out21, root]
  rfl

theorem fin_13 : out0_13 x0 x1 x2 x3 x4 x5 x6 x7 x8 x9 x10 x11 x12 = ofRows (Wt.fY ⟨x2, x3, x4, x5, x6, x7, x8, x9, x10, x11, x12⟩ x0 x1) := by
  unfold out0_13
  rw [canon_whole, out18, out23, out24, ld_whole, ld_whole, ld_whole, pay1_eq]
  exact allY_eq _ _ _

theorem fin_14 : out0_14 x0 x1 x2 x3 x4 x5 x6 x7 x8 x9 x10 x11 x12 = ofRows (Wt.fA x0) := by
  unfold out0_14
  rw [canon_whole, ld_whole, pay6_eq]
  exact allA_eq _

theorem fin_15 : out0_15 x0 x1 x2 x3 x4 x5 x6 x7 x8 x9 x10 x11 x12 = fun y => Wt.fAS x0 (flat y) := by
  unfold out0_15
  rw [canon_whole, ld_whole, pay5_eq]
  exact allAS_eq _ _

theorem fin_16 : out0_16 x0 x1 x2 x3 x4 x5 x6 x7 x8 x9 x10 x11 x12 = ofRows (Wt.fL ⟨x2, x3, x4, x5, x6, x7, x8, x9, x10, x11, x12⟩ x0 x1) := by
  unfold out0_16
  rw [canon_whole, out21]
  exact allL_eq _ _ _

theorem fin_17 : out0_17 x0 x1 x2 x3 x4 x5 x6 x7 x8 x9 x10 x11 x12 = fun y => Wt.fLS ⟨x2, x3, x4, x5, x6, x7, x8, x9, x10, x11, x12⟩ x0 x1 (flat y) := by
  unfold out0_17
  rw [canon_whole, out20]
  exact allLS_eq _ _ _ _

theorem fin_18 : out0_18 x0 x1 x2 x3 x4 x5 x6 x7 x8 x9 x10 x11 x12 = ofRows (Wt.fH ⟨x2, x3, x4, x5, x6, x7, x8, x9, x10, x11, x12⟩ x0 x1) := by
  unfold out0_18
  rw [canon_whole, out24]
  exact allH_eq _ _ _

theorem fin_19 : out0_19 x0 x1 x2 x3 x4 x5 x6 x7 x8 x9 x10 x11 x12 = fun y => Wt.fHS ⟨x2, x3, x4, x5, x6, x7, x8, x9, x10, x11, x12⟩ x0 x1 (flat y) := by
  unfold out0_19
  rw [canon_whole, out23]
  exact allHS_eq _ _ _ _

end Outs

/-- The weights as the launch finds them, and the two row arrays. -/
def wts (c : Dev nD) : Wt :=
  ⟨V m c main_arg2, V m c main_v2, V m c main_v3, V m c main_v4, V m c main_v5, V m c main_arg7, V m c main_v6, V m c main_v7, V m c main_arg10, V m c main_v8, V m c main_v9⟩
def arrO (c : Dev nD) : FVec Ideal (M2 16384 1280) .f32 := V m c main_v1
def arrX (c : Dev nD) : FVec Ideal (M2 16384 1280) .f32 := m ((c : Thread nD τ).loc main_arg1)

theorem iblk_0 (c : Dev nD) (t : Fin cfg0.N) : (iblk m c 0 t : Vec Ideal S16384x1280 .f32) = V m c main_v1 := by
  funext j
  unfold iblk
  rw [View.read_apply]
  show V m c main_v1 _ = V m c main_v1 j
  congr 1
  funext a
  apply Fin.ext
  match a with
  | ⟨0, _⟩ => show 0 * 16384 + 1 * (j 0).val = (j 0).val; omega
  | ⟨1, _⟩ => show 0 * 1280 + 1 * (j 1).val = (j 1).val; omega

theorem iblk_1 (c : Dev nD) (t : Fin cfg0.N) : (iblk m c 1 t : Vec Ideal S16384x1280 .f32) = V m c main_arg1 := by
  funext j
  unfold iblk
  rw [View.read_apply]
  show V m c main_arg1 _ = V m c main_arg1 j
  congr 1
  funext a
  apply Fin.ext
  match a with
  | ⟨0, _⟩ => show 0 * 16384 + 1 * (j 0).val = (j 0).val; omega
  | ⟨1, _⟩ => show 0 * 1280 + 1 * (j 1).val = (j 1).val; omega

theorem iblk_2 (c : Dev nD) (t : Fin cfg0.N) : (iblk m c 2 t : Vec Ideal S1280x1280 .i8) = V m c main_arg2 := by
  funext j
  unfold iblk
  rw [View.read_apply]
  show V m c main_arg2 _ = V m c main_arg2 j
  congr 1
  funext a
  apply Fin.ext
  match a with
  | ⟨0, _⟩ => show 0 * 1280 + 1 * (j 0).val = (j 0).val; omega
  | ⟨1, _⟩ => show 0 * 1280 + 1 * (j 1).val = (j 1).val; omega

theorem iblk_3 (c : Dev nD) (t : Fin cfg0.N) : (iblk m c 3 t : Vec Ideal S1x1280 .f32) = V m c main_v2 := by
  funext j
  unfold iblk
  rw [View.read_apply]
  show V m c main_v2 _ = V m c main_v2 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_4 (c : Dev nD) (t : Fin cfg0.N) : (iblk m c 4 t : Vec Ideal S1x1280 .f32) = V m c main_v3 := by
  funext j
  unfold iblk
  rw [View.read_apply]
  show V m c main_v3 _ = V m c main_v3 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_5 (c : Dev nD) (t : Fin cfg0.N) : (iblk m c 5 t : Vec Ideal S1x1280 .f32) = V m c main_v4 := by
  funext j
  unfold iblk
  rw [View.read_apply]
  show V m c main_v4 _ = V m c main_v4 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_6 (c : Dev nD) (t : Fin cfg0.N) : (iblk m c 6 t : Vec Ideal S1x1280 .f32) = V m c main_v5 := by
  funext j
  unfold iblk
  rw [View.read_apply]
  show V m c main_v5 _ = V m c main_v5 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_7 (c : Dev nD) (t : Fin cfg0.N) : (iblk m c 7 t : Vec Ideal S1280x5120 .i8) = V m c main_arg7 := by
  funext j
  unfold iblk
  rw [View.read_apply]
  show V m c main_arg7 _ = V m c main_arg7 j
  congr 1
  funext a
  apply Fin.ext
  match a with
  | ⟨0, _⟩ => show 0 * 1280 + 1 * (j 0).val = (j 0).val; omega
  | ⟨1, _⟩ => show 0 * 5120 + 1 * (j 1).val = (j 1).val; omega

theorem iblk_8 (c : Dev nD) (t : Fin cfg0.N) : (iblk m c 8 t : Vec Ideal S1x5120 .f32) = V m c main_v6 := by
  funext j
  unfold iblk
  rw [View.read_apply]
  show V m c main_v6 _ = V m c main_v6 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_9 (c : Dev nD) (t : Fin cfg0.N) : (iblk m c 9 t : Vec Ideal S1x5120 .f32) = V m c main_v7 := by
  funext j
  unfold iblk
  rw [View.read_apply]
  show V m c main_v7 _ = V m c main_v7 j
  congr 1
  funext a
  apply Fin.ext
  match a with
  | ⟨0, _⟩ => show 0 * 1 + 1 * (j 0).val = (j 0).val; omega
  | ⟨1, _⟩ => show 0 * 5120 + 1 * (j 1).val = (j 1).val; omega

theorem iblk_10 (c : Dev nD) (t : Fin cfg0.N) : (iblk m c 10 t : Vec Ideal S5120x1280 .i8) = V m c main_arg10 := by
  funext j
  unfold iblk
  rw [View.read_apply]
  show V m c main_arg10 _ = V m c main_arg10 j
  congr 1
  funext a
  apply Fin.ext
  match a with
  | ⟨0, _⟩ => show 0 * 5120 + 1 * (j 0).val = (j 0).val; omega
  | ⟨1, _⟩ => show 0 * 1280 + 1 * (j 1).val = (j 1).val; omega

theorem iblk_11 (c : Dev nD) (t : Fin cfg0.N) : (iblk m c 11 t : Vec Ideal S1x1280 .f32) = V m c main_v8 := by
  funext j
  unfold iblk
  rw [View.read_apply]
  show V m c main_v8 _ = V m c main_v8 j
  congr 1
  funext a
  apply Fin.ext
  match a with
  | ⟨0, _⟩ => show 0 * 1 + 1 * (j 0).val = (j 0).val; omega
  | ⟨1, _⟩ => show 0 * 1280 + 1 * (j 1).val = (j 1).val; omega

theorem iblk_12 (c : Dev nD) (t : Fin cfg0.N) : (iblk m c 12 t : Vec Ideal S1x1280 .f32) = V m c main_v9 := by
  funext j
  unfold iblk
  rw [View.read_apply]
  show V m c main_v9 _ = V m c main_v9 j
  congr 1
  funext a
  apply Fin.ext
  match a with
  | ⟨0, _⟩ => show 0 * 1 + 1 * (j 0).val = (j 0).val; omega
  | ⟨1, _⟩ => show 0 * 1280 + 1 * (j 1).val = (j 1).val; omega

variable (c : Dev nD) (r : PUnit × MemSt nD τ sig (Elt Ideal)) (h : Pipeline.FramePost cfgs (dats m) 0 (V m) r)

theorem after_13 (t : Fin cfg0.N) : ((dats m 0 c).after 13 t : Vec Ideal (M2 16384 1280) .bf16) = ofRows ((wts m c).fY (arrO m c) (arrX m c)) := by
  rw [after0_13]
  refine (fin_13 _ _ _ _ _ _ _ _ _ _ _ _ _).trans ?_
  rw [iblk_0, iblk_1, iblk_2, iblk_3, iblk_4, iblk_5, iblk_6, iblk_7, iblk_8, iblk_9, iblk_10, iblk_11, iblk_12, V_main_arg1]
  rfl

include h in
theorem arr_13 : (r.2.mem ((c : Thread nD τ).loc main_v10_0) : Vec Ideal (M2 16384 1280) .bf16) = ofRows ((wts m c).fY (arrO m c) (arrX m c)) := by
  refine ((h c).1 13).trans (Dat.arrAt_eq_of_covers (dats m 0 c) 13 _ (by decide +kernel) fun t hf y => ?_)
  refine (congrFun (after_13 m c t) _).trans (congrArg (ofRows ((wts m c).fY (arrO m c) (arrX m c))) ?_)
  funext a
  apply Fin.ext
  match a with
  | ⟨0, _⟩ => show (y 0).val = 0 * 16384 + 1 * (y 0).val; omega
  | ⟨1, _⟩ => show (y 1).val = 0 * 1280 + 1 * (y 1).val; omega

theorem after_14 (t : Fin cfg0.N) : ((dats m 0 c).after 14 t : Vec Ideal (M2 16384 1280) .i8) = ofRows (Wt.fA (arrO m c)) := by
  rw [after0_14]
  refine (fin_14 _ _ _ _ _ _ _ _ _ _ _ _ _).trans ?_
  rw [iblk_0]
  rfl

include h in
theorem arr_14 : (r.2.mem ((c : Thread nD τ).loc main_v10_1) : Vec Ideal (M2 16384 1280) .i8) = ofRows (Wt.fA (arrO m c)) := by
  refine ((h c).1 14).trans (Dat.arrAt_eq_of_covers (dats m 0 c) 14 _ (by decide +kernel) fun t hf y => ?_)
  refine (congrFun (after_14 m c t) _).trans (congrArg (ofRows (Wt.fA (arrO m c))) ?_)
  funext a
  apply Fin.ext
  match a with
  | ⟨0, _⟩ => show (y 0).val = 0 * 16384 + 1 * (y 0).val; omega
  | ⟨1, _⟩ => show (y 1).val = 0 * 1280 + 1 * (y 1).val; omega

theorem after_15 (t : Fin cfg0.N) : ((dats m 0 c).after 15 t : Vec Ideal (M2 4 4096) .f32) = fun y => Wt.fAS (arrO m c) (flat y) := by
  rw [after0_15]
  refine (fin_15 _ _ _ _ _ _ _ _ _ _ _ _ _).trans ?_
  rw [iblk_0]
  rfl

include h in
theorem arr_15 : (r.2.mem ((c : Thread nD τ).loc main_v10_2) : Vec Ideal (M2 4 4096) .f32) = fun y => Wt.fAS (arrO m c) (flat y) := by
  refine ((h c).1 15).trans (Dat.arrAt_eq_of_covers (dats m 0 c) 15 _ (by decide +kernel) fun t hf y => ?_)
  refine (congrFun (after_15 m c t) _).trans (congrArg (fun y => Wt.fAS (arrO m c) (flat y)) ?_)
  funext a
  apply Fin.ext
  match a with
  | ⟨0, _⟩ => show (y 0).val = 0 * 4 + 1 * (y 0).val; omega
  | ⟨1, _⟩ => show (y 1).val = 0 * 4096 + 1 * (y 1).val; omega

theorem after_16 (t : Fin cfg0.N) : ((dats m 0 c).after 16 t : Vec Ideal (M2 16384 1280) .i8) = ofRows ((wts m c).fL (arrO m c) (arrX m c)) := by
  rw [after0_16]
  refine (fin_16 _ _ _ _ _ _ _ _ _ _ _ _ _).trans ?_
  rw [iblk_0, iblk_1, iblk_2, iblk_3, iblk_4, iblk_5, iblk_6, iblk_7, iblk_8, iblk_9, iblk_10, iblk_11, iblk_12, V_main_arg1]
  rfl

include h in
theorem arr_16 : (r.2.mem ((c : Thread nD τ).loc main_v10_3) : Vec Ideal (M2 16384 1280) .i8) = ofRows ((wts m c).fL (arrO m c) (arrX m c)) := by
  refine ((h c).1 16).trans (Dat.arrAt_eq_of_covers (dats m 0 c) 16 _ (by decide +kernel) fun t hf y => ?_)
  refine (congrFun (after_16 m c t) _).trans (congrArg (ofRows ((wts m c).fL (arrO m c) (arrX m c))) ?_)
  funext a
  apply Fin.ext
  match a with
  | ⟨0, _⟩ => show (y 0).val = 0 * 16384 + 1 * (y 0).val; omega
  | ⟨1, _⟩ => show (y 1).val = 0 * 1280 + 1 * (y 1).val; omega

theorem after_17 (t : Fin cfg0.N) : ((dats m 0 c).after 17 t : Vec Ideal (M2 4 4096) .f32) = fun y => (wts m c).fLS (arrO m c) (arrX m c) (flat y) := by
  rw [after0_17]
  refine (fin_17 _ _ _ _ _ _ _ _ _ _ _ _ _).trans ?_
  rw [iblk_0, iblk_1, iblk_2, iblk_3, iblk_4, iblk_5, iblk_6, iblk_7, iblk_8, iblk_9, iblk_10, iblk_11, iblk_12, V_main_arg1]
  rfl

include h in
theorem arr_17 : (r.2.mem ((c : Thread nD τ).loc main_v10_4) : Vec Ideal (M2 4 4096) .f32) = fun y => (wts m c).fLS (arrO m c) (arrX m c) (flat y) := by
  refine ((h c).1 17).trans (Dat.arrAt_eq_of_covers (dats m 0 c) 17 _ (by decide +kernel) fun t hf y => ?_)
  refine (congrFun (after_17 m c t) _).trans (congrArg (fun y => (wts m c).fLS (arrO m c) (arrX m c) (flat y)) ?_)
  funext a
  apply Fin.ext
  match a with
  | ⟨0, _⟩ => show (y 0).val = 0 * 4 + 1 * (y 0).val; omega
  | ⟨1, _⟩ => show (y 1).val = 0 * 4096 + 1 * (y 1).val; omega

theorem after_18 (t : Fin cfg0.N) : ((dats m 0 c).after 18 t : Vec Ideal (M2 16384 5120) .i8) = ofRows ((wts m c).fH (arrO m c) (arrX m c)) := by
  rw [after0_18]
  refine (fin_18 _ _ _ _ _ _ _ _ _ _ _ _ _).trans ?_
  rw [iblk_0, iblk_1, iblk_2, iblk_3, iblk_4, iblk_5, iblk_6, iblk_7, iblk_8, iblk_9, iblk_10, iblk_11, iblk_12, V_main_arg1]
  rfl

include h in
theorem arr_18 : (r.2.mem ((c : Thread nD τ).loc main_v10_5) : Vec Ideal (M2 16384 5120) .i8) = ofRows ((wts m c).fH (arrO m c) (arrX m c)) := by
  refine ((h c).1 18).trans (Dat.arrAt_eq_of_covers (dats m 0 c) 18 _ (by decide +kernel) fun t hf y => ?_)
  refine (congrFun (after_18 m c t) _).trans (congrArg (ofRows ((wts m c).fH (arrO m c) (arrX m c))) ?_)
  funext a
  apply Fin.ext
  match a with
  | ⟨0, _⟩ => show (y 0).val = 0 * 16384 + 1 * (y 0).val; omega
  | ⟨1, _⟩ => show (y 1).val = 0 * 5120 + 1 * (y 1).val; omega

theorem after_19 (t : Fin cfg0.N) : ((dats m 0 c).after 19 t : Vec Ideal (M2 4 4096) .f32) = fun y => (wts m c).fHS (arrO m c) (arrX m c) (flat y) := by
  rw [after0_19]
  refine (fin_19 _ _ _ _ _ _ _ _ _ _ _ _ _).trans ?_
  rw [iblk_0, iblk_1, iblk_2, iblk_3, iblk_4, iblk_5, iblk_6, iblk_7, iblk_8, iblk_9, iblk_10, iblk_11, iblk_12, V_main_arg1]
  rfl

include h in
theorem arr_19 : (r.2.mem ((c : Thread nD τ).loc main_v10_6) : Vec Ideal (M2 4 4096) .f32) = fun y => (wts m c).fHS (arrO m c) (arrX m c) (flat y) := by
  refine ((h c).1 19).trans (Dat.arrAt_eq_of_covers (dats m 0 c) 19 _ (by decide +kernel) fun t hf y => ?_)
  refine (congrFun (after_19 m c t) _).trans (congrArg (fun y => (wts m c).fHS (arrO m c) (arrX m c) (flat y)) ?_)
  funext a
  apply Fin.ext
  match a with
  | ⟨0, _⟩ => show (y 0).val = 0 * 4 + 1 * (y 0).val; omega
  | ⟨1, _⟩ => show (y 1).val = 0 * 4096 + 1 * (y 1).val; omega

end Cert.GlbMlpRefIdeal.Hand

end
-- ==== Proof.GlbMlpAlg.lean ====
/- The feed-forward kernel of the global layer and its reference end with equal results. -/
module

public import proofs.«01_k».proof.Defs
public import Idealize.ShloMosaic.Lib.ValueLayout
public import proofs.«01_k».proof.Proof.GlbMlpIdealArr
public import proofs.«01_k».proof.Proof.GlbMlpRefVal

@[expose] public section

set_option maxRecDepth 16384

noncomputable section

namespace Cert.GlbMlpAlg

open Cert.Rows
open Idealize.ShloMosaic Idealize.ShloMosaic.TcCoe Idealize.ShloMosaic.Tactic Idealize.ShloMosaic.ValueIdx
open Idealize.SL Idealize.SL.Sem
open Idealize.ShloMosaic.Pipeline (Dat RDat Cfg Window cellOf)

variable (m : (ℓ : Loc Cert.GlbMlpIdeal.nD Cert.GlbMlpIdeal.τ Cert.GlbMlpIdeal.sig) → Buf (Elt Ideal) ℓ)
  (m' : (ℓ : Loc Cert.GlbMlpRefIdeal.nD Cert.GlbMlpRefIdeal.τ Cert.GlbMlpRefIdeal.sig) → Buf (Elt Ideal) ℓ)

/-- The two memories hold the same arguments. -/
abbrev Agree (c : Dev Cert.GlbMlpIdeal.nD) : Prop :=
  m' ((c.tc : Thread Cert.GlbMlpRefIdeal.nD Cert.GlbMlpRefIdeal.τ).loc Cert.GlbMlpRefIdeal.main_arg0) = m ((c.tc : Thread Cert.GlbMlpIdeal.nD Cert.GlbMlpIdeal.τ).loc Cert.GlbMlpIdeal.main_arg0)
  ∧ m' ((c.tc : Thread Cert.GlbMlpRefIdeal.nD Cert.GlbMlpRefIdeal.τ).loc Cert.GlbMlpRefIdeal.main_arg1) = m ((c.tc : Thread Cert.GlbMlpIdeal.nD Cert.GlbMlpIdeal.τ).loc Cert.GlbMlpIdeal.main_arg1)
  ∧ m' ((c.tc : Thread Cert.GlbMlpRefIdeal.nD Cert.GlbMlpRefIdeal.τ).loc Cert.GlbMlpRefIdeal.main_arg2) = m ((c.tc : Thread Cert.GlbMlpIdeal.nD Cert.GlbMlpIdeal.τ).loc Cert.GlbMlpIdeal.main_arg2)
  ∧ m' ((c.tc : Thread Cert.GlbMlpRefIdeal.nD Cert.GlbMlpRefIdeal.τ).loc Cert.GlbMlpRefIdeal.main_arg3) = m ((c.tc : Thread Cert.GlbMlpIdeal.nD Cert.GlbMlpIdeal.τ).loc Cert.GlbMlpIdeal.main_arg3)
  ∧ m' ((c.tc : Thread Cert.GlbMlpRefIdeal.nD Cert.GlbMlpRefIdeal.τ).loc Cert.GlbMlpRefIdeal.main_arg4) = m ((c.tc : Thread Cert.GlbMlpIdeal.nD Cert.GlbMlpIdeal.τ).loc Cert.GlbMlpIdeal.main_arg4)
  ∧ m' ((c.tc : Thread Cert.GlbMlpRefIdeal.nD Cert.GlbMlpRefIdeal.τ).loc Cert.GlbMlpRefIdeal.main_arg5) = m ((c.tc : Thread Cert.GlbMlpIdeal.nD Cert.GlbMlpIdeal.τ).loc Cert.GlbMlpIdeal.main_arg5)
  ∧ m' ((c.tc : Thread Cert.GlbMlpRefIdeal.nD Cert.GlbMlpRefIdeal.τ).loc Cert.GlbMlpRefIdeal.main_arg6) = m ((c.tc : Thread Cert.GlbMlpIdeal.nD Cert.GlbMlpIdeal.τ).loc Cert.GlbMlpIdeal.main_arg6)
  ∧ m' ((c.tc : Thread Cert.GlbMlpRefIdeal.nD Cert.GlbMlpRefIdeal.τ).loc Cert.GlbMlpRefIdeal.main_arg7) = m ((c.tc : Thread Cert.GlbMlpIdeal.nD Cert.GlbMlpIdeal.τ).loc Cert.GlbMlpIdeal.main_arg7)
  ∧ m' ((c.tc : Thread Cert.GlbMlpRefIdeal.nD Cert.GlbMlpRefIdeal.τ).loc Cert.GlbMlpRefIdeal.main_arg8) = m ((c.tc : Thread Cert.GlbMlpIdeal.nD Cert.GlbMlpIdeal.τ).loc Cert.GlbMlpIdeal.main_arg8)
  ∧ m' ((c.tc : Thread Cert.GlbMlpRefIdeal.nD Cert.GlbMlpRefIdeal.τ).loc Cert.GlbMlpRefIdeal.main_arg9) = m ((c.tc : Thread Cert.GlbMlpIdeal.nD Cert.GlbMlpIdeal.τ).loc Cert.GlbMlpIdeal.main_arg9)
  ∧ m' ((c.tc : Thread Cert.GlbMlpRefIdeal.nD Cert.GlbMlpRefIdeal.τ).loc Cert.GlbMlpRefIdeal.main_arg10) = m ((c.tc : Thread Cert.GlbMlpIdeal.nD Cert.GlbMlpIdeal.τ).loc Cert.GlbMlpIdeal.main_arg10)
  ∧ m' ((c.tc : Thread Cert.GlbMlpRefIdeal.nD Cert.GlbMlpRefIdeal.τ).loc Cert.GlbMlpRefIdeal.main_arg11) = m ((c.tc : Thread Cert.GlbMlpIdeal.nD Cert.GlbMlpIdeal.τ).loc Cert.GlbMlpIdeal.main_arg11)
  ∧ m' ((c.tc : Thread Cert.GlbMlpRefIdeal.nD Cert.GlbMlpRefIdeal.τ).loc Cert.GlbMlpRefIdeal.main_arg12) = m ((c.tc : Thread Cert.GlbMlpIdeal.nD Cert.GlbMlpIdeal.τ).loc Cert.GlbMlpIdeal.main_arg12)

variable (c : Dev Cert.GlbMlpIdeal.nD) (h : Agree m m' c)

include h in
/-- Both programs compute with the same weights. -/
theorem wts_eq : Cert.GlbMlpRefIdeal.Hand.wts m' c = Cert.GlbMlpIdeal.Hand.wts m c := by
  obtain ⟨h0, h1, h2, h3, h4, h5, h6, h7, h8, h9, h10, h11, h12⟩ := h
  unfold Cert.GlbMlpRefIdeal.Hand.wts Cert.GlbMlpIdeal.Hand.wts
  entry_read
  refine Wt.ext' ?_ ?_ ?_ ?_ ?_ ?_ ?_ ?_ ?_ ?_ ?_
  · exact h2
  · exact congrArg (shapeCast _) h3
  · exact congrArg (shapeCast _) h4
  · exact congrArg (shapeCast _) h5
  · exact congrArg (shapeCast _) h6
  · exact h7
  · exact congrArg (shapeCast _) h8
  · exact congrArg (shapeCast _) h9
  · exact h10
  · exact congrArg (shapeCast _) h11
  · exact congrArg (shapeCast _) h12

include h in
theorem arrO_eq : Cert.GlbMlpRefIdeal.Hand.arrO m' c = Cert.GlbMlpIdeal.Hand.arrO m c := by
  have h0 := h.1
  funext i
  obtain ⟨p, k, rfl⟩ : ∃ (p : Fin 16384) (k : Fin 1280), i = ix2 p k := ⟨_, _, eq_ix2 i⟩
  unfold Cert.GlbMlpRefIdeal.Hand.arrO
  entry_read
  have hp := p.isLt
  refine (shapeCast_apply _ _ _ (ix3 (⟨p.val / 4096, by omega⟩ : Fin 4) (⟨p.val % 4096, by omega⟩ : Fin 4096) k) ?_).trans ?_
  · refine (Shape.rowMajor_val_three _).trans (Eq.trans ?_ (Shape.rowMajor_val_two (d := ![16384, 1280]) (ix2 p k)).symm)
    show (p.val / 4096 * 4096 + p.val % 4096) * 1280 + k.val = p.val * 1280 + k.val
    omega
  · refine (transpose_ix3_021_apply _ _ _ _ _).trans ?_
    exact congrFun h0 _

include h in
theorem arrX_eq : Cert.GlbMlpRefIdeal.Hand.arrX m' c = Cert.GlbMlpIdeal.Hand.arrX m c := h.2.1

end Cert.GlbMlpAlg

namespace Cert.GlbMlpAlg

open Cert.Rows
open Idealize.ShloMosaic Idealize.ShloMosaic.TcCoe Idealize.ShloMosaic.Tactic Idealize.ShloMosaic.ValueIdx
open Idealize.SL Idealize.SL.Sem

/-- From memories with the same arguments the kernel and the reference end with the same results, and with their arguments as
    they were. -/
theorem algebraic : @Cert.algebraic_GlbMlpIdeal_GlbMlpRefIdeal Cert.GlbMlpIdeal.Gen.facts Cert.GlbMlpRefIdeal.Gen.facts := by
  intro m g m' g' _ hag
  refine ⟨fun c => ofRows ((Cert.GlbMlpIdeal.Hand.wts m c).fY (Cert.GlbMlpIdeal.Hand.arrO m c) (Cert.GlbMlpIdeal.Hand.arrX m c)), fun c => ofRows (Wt.fA (Cert.GlbMlpIdeal.Hand.arrO m c)), fun c => fun y => Wt.fAS (Cert.GlbMlpIdeal.Hand.arrO m c) (flat y), fun c => ofRows ((Cert.GlbMlpIdeal.Hand.wts m c).fL (Cert.GlbMlpIdeal.Hand.arrO m c) (Cert.GlbMlpIdeal.Hand.arrX m c)), fun c => fun y => (Cert.GlbMlpIdeal.Hand.wts m c).fLS (Cert.GlbMlpIdeal.Hand.arrO m c) (Cert.GlbMlpIdeal.Hand.arrX m c) (flat y), fun c => ofRows ((Cert.GlbMlpIdeal.Hand.wts m c).fH (Cert.GlbMlpIdeal.Hand.arrO m c) (Cert.GlbMlpIdeal.Hand.arrX m c)), fun c => fun y => (Cert.GlbMlpIdeal.Hand.wts m c).fHS (Cert.GlbMlpIdeal.Hand.arrO m c) (Cert.GlbMlpIdeal.Hand.arrX m c) (flat y), ?_, ?_⟩
  · refine (θ_run _ _ _).mono (fun r h c => ?_) (θ_run_and (Cert.GlbMlpIdeal.Hand.run_vals m g)
      (Cert.GlbMlpIdeal.Hand.frame_ofR m g (Cert.GlbMlpIdeal.Hand.rdat m) (Cert.GlbMlpIdeal.Hand.A_eq m) (Cert.GlbMlpIdeal.Hand.run_vals m g)))
    exact ⟨(Cert.GlbMlpIdeal.Hand.arr_13 m c r h.1),
      (Cert.GlbMlpIdeal.Hand.arr_14 m c r h.1),
      (Cert.GlbMlpIdeal.Hand.arr_15 m c r h.1),
      (Cert.GlbMlpIdeal.Hand.arr_16 m c r h.1),
      (Cert.GlbMlpIdeal.Hand.arr_17 m c r h.1),
      (Cert.GlbMlpIdeal.Hand.arr_18 m c r h.1),
      (Cert.GlbMlpIdeal.Hand.arr_19 m c r h.1), h.2 c⟩
  · refine (θ_run _ _ _).mono (fun r h c => ?_) (θ_run_and (Cert.GlbMlpRefIdeal.Gen.run_main m' g') (Cert.GlbMlpRefIdeal.Gen.unchanged m' g'))
    exact ⟨(Cert.GlbMlpRefIdeal.Hand.arr_13 m' c r h.1).trans (by rw [wts_eq m m' c (hag c), arrO_eq m m' c (hag c), arrX_eq m m' c (hag c)] <;> rfl),
      (Cert.GlbMlpRefIdeal.Hand.arr_14 m' c r h.1).trans (by rw [arrO_eq m m' c (hag c)] <;> rfl),
      (Cert.GlbMlpRefIdeal.Hand.arr_15 m' c r h.1).trans (by rw [arrO_eq m m' c (hag c)] <;> rfl),
      (Cert.GlbMlpRefIdeal.Hand.arr_16 m' c r h.1).trans (by rw [wts_eq m m' c (hag c), arrO_eq m m' c (hag c), arrX_eq m m' c (hag c)] <;> rfl),
      (Cert.GlbMlpRefIdeal.Hand.arr_17 m' c r h.1).trans (by rw [wts_eq m m' c (hag c), arrO_eq m m' c (hag c), arrX_eq m m' c (hag c)] <;> rfl),
      (Cert.GlbMlpRefIdeal.Hand.arr_18 m' c r h.1).trans (by rw [wts_eq m m' c (hag c), arrO_eq m m' c (hag c), arrX_eq m m' c (hag c)] <;> rfl),
      (Cert.GlbMlpRefIdeal.Hand.arr_19 m' c r h.1).trans (by rw [wts_eq m m' c (hag c), arrO_eq m m' c (hag c), arrX_eq m m' c (hag c)] <;> rfl), h.2 c⟩

end Cert.GlbMlpAlg

end
-- ==== Proof.lean ====
module

public import proofs.«01_k».proof.Defs
public import proofs.«01_k».proof.Proof.WinMlpForget
public import proofs.«01_k».proof.Proof.WinMlpIdealForget
public import proofs.«01_k».proof.Proof.Gen.WinMlp
public import proofs.«01_k».proof.Proof.Gen.WinMlpIdeal
public import proofs.«01_k».proof.Proof.Gen.WinMlpRefIdeal
public import proofs.«01_k».proof.Proof.Gen.WinMlpRefIdeal.Frame
public import proofs.«01_k».proof.Proof.GlbMlpForget
public import proofs.«01_k».proof.Proof.GlbMlpIdealForget
public import proofs.«01_k».proof.Proof.Gen.GlbMlp
public import proofs.«01_k».proof.Proof.Gen.GlbMlpIdeal
public import proofs.«01_k».proof.Proof.Gen.GlbMlpRefIdeal
public import proofs.«01_k».proof.Proof.Gen.GlbMlpRefIdeal.Frame
public import proofs.«01_k».proof.Proof.WinQkvForget
public import proofs.«01_k».proof.Proof.WinQkvIdealForget
public import proofs.«01_k».proof.Proof.Gen.WinQkv
public import proofs.«01_k».proof.Proof.Gen.WinQkvIdeal
public import proofs.«01_k».proof.Proof.Gen.WinQkvRefIdeal
public import proofs.«01_k».proof.Proof.Gen.WinQkvRefIdeal.Frame
public import proofs.«01_k».proof.Proof.GlbQkvForget
public import proofs.«01_k».proof.Proof.GlbQkvIdealForget
public import proofs.«01_k».proof.Proof.Gen.GlbQkv
public import proofs.«01_k».proof.Proof.Gen.GlbQkvIdeal
public import proofs.«01_k».proof.Proof.Gen.GlbQkvRefIdeal
public import proofs.«01_k».proof.Proof.Gen.GlbQkvRefIdeal.Frame
public import proofs.«01_k».proof.Proof.WinMlpAlg
public import proofs.«01_k».proof.Proof.GlbMlpAlg
public import Idealize.ShloMosaic.Adequacy
public import Idealize.ShloMosaic.Init

@[expose] public section

noncomputable section

namespace Cert.Proof

open Idealize.ShloMosaic Idealize.SL.Sem Cert.WinMlp

theorem claim : Cert.Claim := ⟨Cert.WinMlp.Gen.facts, Cert.WinMlpIdeal.Gen.facts, Cert.WinMlpRefIdeal.Gen.facts, Cert.GlbMlp.Gen.facts, Cert.GlbMlpIdeal.Gen.facts, Cert.GlbMlpRefIdeal.Gen.facts, Cert.WinQkv.Gen.facts, Cert.WinQkvIdeal.Gen.facts, Cert.WinQkvRefIdeal.Gen.facts, Cert.GlbQkv.Gen.facts, Cert.GlbQkvIdeal.Gen.facts, Cert.GlbQkvRefIdeal.Gen.facts,
  fun m ρ _ => Cert.WinMlp.Hand.frame m ρ,
  fun m ρ _ => Cert.WinMlpIdeal.Hand.frame m ρ,
  fun m ρ _ => Cert.WinMlpRefIdeal.Gen.frame m ρ,
  fun m ρ _ => Cert.GlbMlp.Hand.frame m ρ,
  fun m ρ _ => Cert.GlbMlpIdeal.Hand.frame m ρ,
  fun m ρ _ => Cert.GlbMlpRefIdeal.Gen.frame m ρ,
  fun m ρ _ => Cert.WinQkv.Hand.frame m ρ,
  fun m ρ _ => Cert.WinQkvIdeal.Hand.frame m ρ,
  fun m ρ _ => Cert.WinQkvRefIdeal.Gen.frame m ρ,
  fun m ρ _ => Cert.GlbQkv.Hand.frame m ρ,
  fun m ρ _ => Cert.GlbQkvIdeal.Hand.frame m ρ,
  fun m ρ _ => Cert.GlbQkvRefIdeal.Gen.frame m ρ,
  IdealRules.named_const.statement Cert.WinMlpIdeal.κ "inv_sqrt_2" .f32 0x3F3504F3#32 (((Real.sqrt 2)⁻¹ : ℝ) : EReal) rfl,
  IdealRules.named_const.statement Cert.GlbMlpIdeal.κ "inv_sqrt_2" .f32 0x3F3504F3#32 (((Real.sqrt 2)⁻¹ : ℝ) : EReal) rfl,
  trivial, trivial, Cert.WinMlpAlg.algebraic, Cert.GlbMlpAlg.algebraic⟩

end Cert.Proof

end
